-- ==== Defs.lean ====
def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_ShiftSample (m : (ℓ : Loc Cert.ShiftSample.nD Cert.ShiftSample.τ Cert.ShiftSample.sig) → Buf (Elt Bits) ℓ) : Prop :=
  True

def Pre_ShiftSampleIdeal (m : (ℓ : Loc Cert.ShiftSampleIdeal.nD Cert.ShiftSampleIdeal.τ Cert.ShiftSampleIdeal.sig) → Buf (Elt Ideal) ℓ) : Prop :=
  True

def Pre_ShiftSampleRefIdeal (m : (ℓ : Loc Cert.ShiftSampleRefIdeal.nD Cert.ShiftSampleRefIdeal.τ Cert.ShiftSampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_OutLnSample (m : (ℓ : Loc Cert.OutLnSample.nD Cert.OutLnSample.τ Cert.OutLnSample.sig) → Buf (Elt Bits) ℓ) : Prop :=
  True

def Pre_OutLnSampleIdeal (m : (ℓ : Loc Cert.OutLnSampleIdeal.nD Cert.OutLnSampleIdeal.τ Cert.OutLnSampleIdeal.sig) → Buf (Elt Ideal) ℓ) : Prop :=
  True

def Pre_OutLnSampleRefIdeal (m : (ℓ : Loc Cert.OutLnSampleRefIdeal.nD Cert.OutLnSampleRefIdeal.τ Cert.OutLnSampleRefIdeal.sig) → Buf (Elt Ideal) ℓ) : Prop :=
  True

def Pre_ScanSample (m : (ℓ : Loc Cert.ScanSample.nD Cert.ScanSample.τ Cert.ScanSample.sig) → Buf (Elt Bits) ℓ) : Prop :=
  True

def Pre_ScanSampleIdeal (m : (ℓ : Loc Cert.ScanSampleIdeal.nD Cert.ScanSampleIdeal.τ Cert.ScanSampleIdeal.sig) → Buf (Elt Ideal) ℓ) : Prop :=
  True

def Pre_ScanSampleRefIdeal (m : (ℓ : Loc Cert.ScanSampleRefIdeal.nD Cert.ScanSampleRefIdeal.τ Cert.ScanSampleRefIdeal.sig) → Buf (Elt Ideal) ℓ) : Prop :=
  True

def Pre_SguSample (m : (ℓ : Loc Cert.SguSample.nD Cert.SguSample.τ Cert.SguSample.sig) → Buf (Elt Bits) ℓ) : Prop :=
  True

def Pre_SguSampleIdeal (m : (ℓ : Loc Cert.SguSampleIdeal.nD Cert.SguSampleIdeal.τ Cert.SguSampleIdeal.sig) → Buf (Elt Ideal) ℓ) : Prop :=
  True

def Pre_SguSampleRefIdeal (m : (ℓ : Loc Cert.SguSampleRefIdeal.nD Cert.SguSampleRefIdeal.τ Cert.SguSampleRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2))
      ∧ r.2.sem = fun _ => 0)

def quiescent_ShiftSample [hShiftSample : Cert.ShiftSample.Facts] : Prop :=
  ∀ (m : (ℓ : Loc Cert.ShiftSample.nD Cert.ShiftSample.τ Cert.ShiftSample.sig) → Buf (Elt Bits) ℓ) (g : Dev Cert.ShiftSample.nD → PrngReg), Pre_ShiftSample m →
    θ_run (Cert.ShiftSample.defs (F := Bits)) (onTc (τ := Cert.ShiftSample.τ) (Cert.ShiftSample.main (F := Bits))) ⟨m, fun _ => 0, g⟩ (fun r => (∀ c : Dev Cert.ShiftSample.nD,
      r.2.mem ((c.tc : Thread Cert.ShiftSample.nD Cert.ShiftSample.τ).loc Cert.ShiftSample.main_arg0) = m ((c.tc : Thread Cert.ShiftSample.nD Cert.ShiftSample.τ).loc Cert.ShiftSample.main_arg0)
      ∧ r.2.mem ((c.tc : Thread Cert.ShiftSample.nD Cert.ShiftSample.τ).loc Cert.ShiftSample.main_arg1) = m ((c.tc : Thread Cert.ShiftSample.nD Cert.ShiftSample.τ).loc Cert.ShiftSample.main_arg1)
      ∧ r.2.mem ((c.tc : Thread Cert.ShiftSample.nD Cert.ShiftSample.τ).loc Cert.ShiftSample.main_arg2) = m ((c.tc : Thread Cert.ShiftSample.nD Cert.ShiftSample.τ).loc Cert.ShiftSample.main_arg2))
      ∧ r.2.sem = fun _ => 0)

def quiescent_ShiftSampleIdeal [hShiftSampleIdeal : Cert.ShiftSampleIdeal.Facts] : Prop :=
  ∀ (m : (ℓ : Loc Cert.ShiftSampleIdeal.nD Cert.ShiftSampleIdeal.τ Cert.ShiftSampleIdeal.sig) → Buf (Elt Ideal) ℓ) (g : Dev Cert.ShiftSampleIdeal.nD → PrngReg), Pre_ShiftSampleIdeal m →
    θ_run (Cert.ShiftSampleIdeal.defs (F := Ideal)) (onTc (τ := Cert.ShiftSampleIdeal.τ) (Cert.ShiftSampleIdeal.main (F := Ideal))) ⟨m, fun _ => 0, g⟩ (fun r => (∀ c : Dev Cert.ShiftSampleIdeal.nD,
      r.2.mem ((c.tc : Thread Cert.ShiftSampleIdeal.nD Cert.ShiftSampleIdeal.τ).loc Cert.ShiftSampleIdeal.main_arg0) = m ((c.tc : Thread Cert.ShiftSampleIdeal.nD Cert.ShiftSampleIdeal.τ).loc Cert.ShiftSampleIdeal.main_arg0)
      ∧ r.2.mem ((c.tc : Thread Cert.ShiftSampleIdeal.nD Cert.ShiftSampleIdeal.τ).loc Cert.ShiftSampleIdeal.main_arg1) = m ((c.tc : Thread Cert.ShiftSampleIdeal.nD Cert.ShiftSampleIdeal.τ).loc Cert.ShiftSampleIdeal.main_arg1)
      ∧ r.2.mem ((c.tc : Thread Cert.ShiftSampleIdeal.nD Cert.ShiftSampleIdeal.τ).loc Cert.ShiftSampleIdeal.main_arg2) = m ((c.tc : Thread Cert.ShiftSampleIdeal.nD Cert.ShiftSampleIdeal.τ).loc Cert.ShiftSampleIdeal.main_arg2))
      ∧ r.2.sem = fun _ => 0)

def quiescent_ShiftSampleRefIdeal [hShiftSampleRefIdeal : Cert.ShiftSampleRefIdeal.Facts] : Prop :=
  ∀ (m : (ℓ : Loc Cert.ShiftSampleRefIdeal.nD Cert.ShiftSampleRefIdeal.τ Cert.ShiftSampleRefIdeal.sig) → Buf (Elt Ideal) ℓ) (g : Dev Cert.ShiftSampleRefIdeal.nD → PrngReg), Pre_ShiftSampleRefIdeal m →
    θ_run (Cert.ShiftSampleRefIdeal.defs (F := Ideal)) (onTc (τ := Cert.ShiftSampleRefIdeal.τ) (Cert.ShiftSampleRefIdeal.main (F := Ideal))) ⟨m, fun _ => 0, g⟩ (fun r => (∀ c : Dev Cert.ShiftSampleRefIdeal.nD,
      r.2.mem ((c.tc : Thread Cert.ShiftSampleRefIdeal.nD Cert.ShiftSampleRefIdeal.τ).loc Cert.ShiftSampleRefIdeal.main_arg0) = m ((c.tc : Thread Cert.ShiftSampleRefIdeal.nD Cert.ShiftSampleRefIdeal.τ).loc Cert.ShiftSampleRefIdeal.main_arg0)
      ∧ r.2.mem ((c.tc : Thread Cert.ShiftSampleRefIdeal.nD Cert.ShiftSampleRefIdeal.τ).loc Cert.ShiftSampleRefIdeal.main_arg1) = m ((c.tc : Thread Cert.ShiftSampleRefIdeal.nD Cert.ShiftSampleRefIdeal.τ).loc Cert.ShiftSampleRefIdeal.main_arg1)
      ∧ r.2.mem ((c.tc : Thread Cert.ShiftSampleRefIdeal.nD Cert.ShiftSampleRefIdeal.τ).loc Cert.ShiftSampleRefIdeal.main_arg2) = m ((c.tc : Thread Cert.ShiftSampleRefIdeal.nD Cert.ShiftSampleRefIdeal.τ).loc Cert.ShiftSampleRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6))
      ∧ r.2.sem = fun _ => 0)

def quiescent_OutLnSample [hOutLnSample : Cert.OutLnSample.Facts] : Prop :=
  ∀ (m : (ℓ : Loc Cert.OutLnSample.nD Cert.OutLnSample.τ Cert.OutLnSample.sig) → Buf (Elt Bits) ℓ) (g : Dev Cert.OutLnSample.nD → PrngReg), Pre_OutLnSample m →
    θ_run (Cert.OutLnSample.defs (F := Bits)) (onTc (τ := Cert.OutLnSample.τ) (Cert.OutLnSample.main (F := Bits))) ⟨m, fun _ => 0, g⟩ (fun r => (∀ c : Dev Cert.OutLnSample.nD,
      r.2.mem ((c.tc : Thread Cert.OutLnSample.nD Cert.OutLnSample.τ).loc Cert.OutLnSample.main_arg0) = m ((c.tc : Thread Cert.OutLnSample.nD Cert.OutLnSample.τ).loc Cert.OutLnSample.main_arg0)
      ∧ r.2.mem ((c.tc : Thread Cert.OutLnSample.nD Cert.OutLnSample.τ).loc Cert.OutLnSample.main_arg1) = m ((c.tc : Thread Cert.OutLnSample.nD Cert.OutLnSample.τ).loc Cert.OutLnSample.main_arg1)
      ∧ r.2.mem ((c.tc : Thread Cert.OutLnSample.nD Cert.OutLnSample.τ).loc Cert.OutLnSample.main_arg2) = m ((c.tc : Thread Cert.OutLnSample.nD Cert.OutLnSample.τ).loc Cert.OutLnSample.main_arg2)
      ∧ r.2.mem ((c.tc : Thread Cert.OutLnSample.nD Cert.OutLnSample.τ).loc Cert.OutLnSample.main_arg3) = m ((c.tc : Thread Cert.OutLnSample.nD Cert.OutLnSample.τ).loc Cert.OutLnSample.main_arg3)
      ∧ r.2.mem ((c.tc : Thread Cert.OutLnSample.nD Cert.OutLnSample.τ).loc Cert.OutLnSample.main_arg4) = m ((c.tc : Thread Cert.OutLnSample.nD Cert.OutLnSample.τ).loc Cert.OutLnSample.main_arg4)
      ∧ r.2.mem ((c.tc : Thread Cert.OutLnSample.nD Cert.OutLnSample.τ).loc Cert.OutLnSample.main_arg5) = m ((c.tc : Thread Cert.OutLnSample.nD Cert.OutLnSample.τ).loc Cert.OutLnSample.main_arg5)
      ∧ r.2.mem ((c.tc : Thread Cert.OutLnSample.nD Cert.OutLnSample.τ).loc Cert.OutLnSample.main_arg6) = m ((c.tc : Thread Cert.OutLnSample.nD Cert.OutLnSample.τ).loc Cert.OutLnSample.main_arg6))
      ∧ r.2.sem = fun _ => 0)

def quiescent_OutLnSampleIdeal [hOutLnSampleIdeal : Cert.OutLnSampleIdeal.Facts] : Prop :=
  ∀ (m : (ℓ : Loc Cert.OutLnSampleIdeal.nD Cert.OutLnSampleIdeal.τ Cert.OutLnSampleIdeal.sig) → Buf (Elt Ideal) ℓ) (g : Dev Cert.OutLnSampleIdeal.nD → PrngReg), Pre_OutLnSampleIdeal m →
    θ_run (Cert.OutLnSampleIdeal.defs (F := Ideal)) (onTc (τ := Cert.OutLnSampleIdeal.τ) (Cert.OutLnSampleIdeal.main (F := Ideal))) ⟨m, fun _ => 0, g⟩ (fun r => (∀ c : Dev Cert.OutLnSampleIdeal.nD,
      r.2.mem ((c.tc : Thread Cert.OutLnSampleIdeal.nD Cert.OutLnSampleIdeal.τ).loc Cert.OutLnSampleIdeal.main_arg0) = m ((c.tc : Thread Cert.OutLnSampleIdeal.nD Cert.OutLnSampleIdeal.τ).loc Cert.OutLnSampleIdeal.main_arg0)
      ∧ r.2.mem ((c.tc : Thread Cert.OutLnSampleIdeal.nD Cert.OutLnSampleIdeal.τ).loc Cert.OutLnSampleIdeal.main_arg1) = m ((c.tc : Thread Cert.OutLnSampleIdeal.nD Cert.OutLnSampleIdeal.τ).loc Cert.OutLnSampleIdeal.main_arg1)
      ∧ r.2.mem ((c.tc : Thread Cert.OutLnSampleIdeal.nD Cert.OutLnSampleIdeal.τ).loc Cert.OutLnSampleIdeal.main_arg2) = m ((c.tc : Thread Cert.OutLnSampleIdeal.nD Cert.OutLnSampleIdeal.τ).loc Cert.OutLnSampleIdeal.main_arg2)
      ∧ r.2.mem ((c.tc : Thread Cert.OutLnSampleIdeal.nD Cert.OutLnSampleIdeal.τ).loc Cert.OutLnSampleIdeal.main_arg3) = m ((c.tc : Thread Cert.OutLnSampleIdeal.nD Cert.OutLnSampleIdeal.τ).loc Cert.OutLnSampleIdeal.main_arg3)
      ∧ r.2.mem ((c.tc : Thread Cert.OutLnSampleIdeal.nD Cert.OutLnSampleIdeal.τ).loc Cert.OutLnSampleIdeal.main_arg4) = m ((c.tc : Thread Cert.OutLnSampleIdeal.nD Cert.OutLnSampleIdeal.τ).loc Cert.OutLnSampleIdeal.main_arg4)
      ∧ r.2.mem ((c.tc : Thread Cert.OutLnSampleIdeal.nD Cert.OutLnSampleIdeal.τ).loc Cert.OutLnSampleIdeal.main_arg5) = m ((c.tc : Thread Cert.OutLnSampleIdeal.nD Cert.OutLnSampleIdeal.τ).loc Cert.OutLnSampleIdeal.main_arg5)
      ∧ r.2.mem ((c.tc : Thread Cert.OutLnSampleIdeal.nD Cert.OutLnSampleIdeal.τ).loc Cert.OutLnSampleIdeal.main_arg6) = m ((c.tc : Thread Cert.OutLnSampleIdeal.nD Cert.OutLnSampleIdeal.τ).loc Cert.OutLnSampleIdeal.main_arg6))
      ∧ r.2.sem = fun _ => 0)

def quiescent_OutLnSampleRefIdeal [hOutLnSampleRefIdeal : Cert.OutLnSampleRefIdeal.Facts] : Prop :=
  ∀ (m : (ℓ : Loc Cert.OutLnSampleRefIdeal.nD Cert.OutLnSampleRefIdeal.τ Cert.OutLnSampleRefIdeal.sig) → Buf (Elt Ideal) ℓ) (g : Dev Cert.OutLnSampleRefIdeal.nD → PrngReg), Pre_OutLnSampleRefIdeal m →
    θ_run (Cert.OutLnSampleRefIdeal.defs (F := Ideal)) (onTc (τ := Cert.OutLnSampleRefIdeal.τ) (Cert.OutLnSampleRefIdeal.main (F := Ideal))) ⟨m, fun _ => 0, g⟩ (fun r => (∀ c : Dev Cert.OutLnSampleRefIdeal.nD,
      r.2.mem ((c.tc : Thread Cert.OutLnSampleRefIdeal.nD Cert.OutLnSampleRefIdeal.τ).loc Cert.OutLnSampleRefIdeal.main_arg0) = m ((c.tc : Thread Cert.OutLnSampleRefIdeal.nD Cert.OutLnSampleRefIdeal.τ).loc Cert.OutLnSampleRefIdeal.main_arg0)
      ∧ r.2.mem ((c.tc : Thread Cert.OutLnSampleRefIdeal.nD Cert.OutLnSampleRefIdeal.τ).loc Cert.OutLnSampleRefIdeal.main_arg1) = m ((c.tc : Thread Cert.OutLnSampleRefIdeal.nD Cert.OutLnSampleRefIdeal.τ).loc Cert.OutLnSampleRefIdeal.main_arg1)
      ∧ r.2.mem ((c.tc : Thread Cert.OutLnSampleRefIdeal.nD Cert.OutLnSampleRefIdeal.τ).loc Cert.OutLnSampleRefIdeal.main_arg2) = m ((c.tc : Thread Cert.OutLnSampleRefIdeal.nD Cert.OutLnSampleRefIdeal.τ).loc Cert.OutLnSampleRefIdeal.main_arg2)
      ∧ r.2.mem ((c.tc : Thread Cert.OutLnSampleRefIdeal.nD Cert.OutLnSampleRefIdeal.τ).loc Cert.OutLnSampleRefIdeal.main_arg3) = m ((c.tc : Thread Cert.OutLnSampleRefIdeal.nD Cert.OutLnSampleRefIdeal.τ).loc Cert.OutLnSampleRefIdeal.main_arg3)
      ∧ r.2.mem ((c.tc : Thread Cert.OutLnSampleRefIdeal.nD Cert.OutLnSampleRefIdeal.τ).loc Cert.OutLnSampleRefIdeal.main_arg4) = m ((c.tc : Thread Cert.OutLnSampleRefIdeal.nD Cert.OutLnSampleRefIdeal.τ).loc Cert.OutLnSampleRefIdeal.main_arg4)
      ∧ r.2.mem ((c.tc : Thread Cert.OutLnSampleRefIdeal.nD Cert.OutLnSampleRefIdeal.τ).loc Cert.OutLnSampleRefIdeal.main_arg5) = m ((c.tc : Thread Cert.OutLnSampleRefIdeal.nD Cert.OutLnSampleRefIdeal.τ).loc Cert.OutLnSampleRefIdeal.main_arg5)
      ∧ r.2.mem ((c.tc : Thread Cert.OutLnSampleRefIdeal.nD Cert.OutLnSampleRefIdeal.τ).loc Cert.OutLnSampleRefIdeal.main_arg6) = m ((c.tc : Thread Cert.OutLnSampleRefIdeal.nD Cert.OutLnSampleRefIdeal.τ).loc Cert.OutLnSampleRefIdeal.main_arg6))
      ∧ r.2.sem = fun _ => 0)

def quiescent_ScanSample [hScanSample : Cert.ScanSample.Facts] : Prop :=
  ∀ (m : (ℓ : Loc Cert.ScanSample.nD Cert.ScanSample.τ Cert.ScanSample.sig) → Buf (Elt Bits) ℓ) (g : Dev Cert.ScanSample.nD → PrngReg), Pre_ScanSample m →
    θ_run (Cert.ScanSample.defs (F := Bits)) (onTc (τ := Cert.ScanSample.τ) (Cert.ScanSample.main (F := Bits))) ⟨m, fun _ => 0, g⟩ (fun r => (∀ c : Dev Cert.ScanSample.nD,
      r.2.mem ((c.tc : Thread Cert.ScanSample.nD Cert.ScanSample.τ).loc Cert.ScanSample.main_arg0) = m ((c.tc : Thread Cert.ScanSample.nD Cert.ScanSample.τ).loc Cert.ScanSample.main_arg0)
      ∧ r.2.mem ((c.tc : Thread Cert.ScanSample.nD Cert.ScanSample.τ).loc Cert.ScanSample.main_arg1) = m ((c.tc : Thread Cert.ScanSample.nD Cert.ScanSample.τ).loc Cert.ScanSample.main_arg1)
      ∧ r.2.mem ((c.tc : Thread Cert.ScanSample.nD Cert.ScanSample.τ).loc Cert.ScanSample.main_arg2) = m ((c.tc : Thread Cert.ScanSample.nD Cert.ScanSample.τ).loc Cert.ScanSample.main_arg2)
      ∧ r.2.mem ((c.tc : Thread Cert.ScanSample.nD Cert.ScanSample.τ).loc Cert.ScanSample.main_arg3) = m ((c.tc : Thread Cert.ScanSample.nD Cert.ScanSample.τ).loc Cert.ScanSample.main_arg3)
      ∧ r.2.mem ((c.tc : Thread Cert.ScanSample.nD Cert.ScanSample.τ).loc Cert.ScanSample.main_arg4) = m ((c.tc : Thread Cert.ScanSample.nD Cert.ScanSample.τ).loc Cert.ScanSample.main_arg4)
      ∧ r.2.mem ((c.tc : Thread Cert.ScanSample.nD Cert.ScanSample.τ).loc Cert.ScanSample.main_arg5) = m ((c.tc : Thread Cert.ScanSample.nD Cert.ScanSample.τ).loc Cert.ScanSample.main_arg5)
      ∧ r.2.mem ((c.tc : Thread Cert.ScanSample.nD Cert.ScanSample.τ).loc Cert.ScanSample.main_arg6) = m ((c.tc : Thread Cert.ScanSample.nD Cert.ScanSample.τ).loc Cert.ScanSample.main_arg6)
      ∧ r.2.mem ((c.tc : Thread Cert.ScanSample.nD Cert.ScanSample.τ).loc Cert.ScanSample.main_arg7) = m ((c.tc : Thread Cert.ScanSample.nD Cert.ScanSample.τ).loc Cert.ScanSample.main_arg7)
      ∧ r.2.mem ((c.tc : Thread Cert.ScanSample.nD Cert.ScanSample.τ).loc Cert.ScanSample.main_arg8) = m ((c.tc : Thread Cert.ScanSample.nD Cert.ScanSample.τ).loc Cert.ScanSample.main_arg8)
      ∧ r.2.mem ((c.tc : Thread Cert.ScanSample.nD Cert.ScanSample.τ).loc Cert.ScanSample.main_arg9) = m ((c.tc : Thread Cert.ScanSample.nD Cert.ScanSample.τ).loc Cert.ScanSample.main_arg9)
      ∧ r.2.mem ((c.tc : Thread Cert.ScanSample.nD Cert.ScanSample.τ).loc Cert.ScanSample.main_arg10) = m ((c.tc : Thread Cert.ScanSample.nD Cert.ScanSample.τ).loc Cert.ScanSample.main_arg10))
      ∧ r.2.sem = fun _ => 0)

def quiescent_ScanSampleIdeal [hScanSampleIdeal : Cert.ScanSampleIdeal.Facts] : Prop :=
  ∀ (m : (ℓ : Loc Cert.ScanSampleIdeal.nD Cert.ScanSampleIdeal.τ Cert.ScanSampleIdeal.sig) → Buf (Elt Ideal) ℓ) (g : Dev Cert.ScanSampleIdeal.nD → PrngReg), Pre_ScanSampleIdeal m →
    θ_run (Cert.ScanSampleIdeal.defs (F := Ideal)) (onTc (τ := Cert.ScanSampleIdeal.τ) (Cert.ScanSampleIdeal.main (F := Ideal))) ⟨m, fun _ => 0, g⟩ (fun r => (∀ c : Dev Cert.ScanSampleIdeal.nD,
      r.2.mem ((c.tc : Thread Cert.ScanSampleIdeal.nD Cert.ScanSampleIdeal.τ).loc Cert.ScanSampleIdeal.main_arg0) = m ((c.tc : Thread Cert.ScanSampleIdeal.nD Cert.ScanSampleIdeal.τ).loc Cert.ScanSampleIdeal.main_arg0)
      ∧ r.2.mem ((c.tc : Thread Cert.ScanSampleIdeal.nD Cert.ScanSampleIdeal.τ).loc Cert.ScanSampleIdeal.main_arg1) = m ((c.tc : Thread Cert.ScanSampleIdeal.nD Cert.ScanSampleIdeal.τ).loc Cert.ScanSampleIdeal.main_arg1)
      ∧ r.2.mem ((c.tc : Thread Cert.ScanSampleIdeal.nD Cert.ScanSampleIdeal.τ).loc Cert.ScanSampleIdeal.main_arg2) = m ((c.tc : Thread Cert.ScanSampleIdeal.nD Cert.ScanSampleIdeal.τ).loc Cert.ScanSampleIdeal.main_arg2)
      ∧ r.2.mem ((c.tc : Thread Cert.ScanSampleIdeal.nD Cert.ScanSampleIdeal.τ).loc Cert.ScanSampleIdeal.main_arg3) = m ((c.tc : Thread Cert.ScanSampleIdeal.nD Cert.ScanSampleIdeal.τ).loc Cert.ScanSampleIdeal.main_arg3)
      ∧ r.2.mem ((c.tc : Thread Cert.ScanSampleIdeal.nD Cert.ScanSampleIdeal.τ).loc Cert.ScanSampleIdeal.main_arg4) = m ((c.tc : Thread Cert.ScanSampleIdeal.nD Cert.ScanSampleIdeal.τ).loc Cert.ScanSampleIdeal.main_arg4)
      ∧ r.2.mem ((c.tc : Thread Cert.ScanSampleIdeal.nD Cert.ScanSampleIdeal.τ).loc Cert.ScanSampleIdeal.main_arg5) = m ((c.tc : Thread Cert.ScanSampleIdeal.nD Cert.ScanSampleIdeal.τ).loc Cert.ScanSampleIdeal.main_arg5)
      ∧ r.2.mem ((c.tc : Thread Cert.ScanSampleIdeal.nD Cert.ScanSampleIdeal.τ).loc Cert.ScanSampleIdeal.main_arg6) = m ((c.tc : Thread Cert.ScanSampleIdeal.nD Cert.ScanSampleIdeal.τ).loc Cert.ScanSampleIdeal.main_arg6)
      ∧ r.2.mem ((c.tc : Thread Cert.ScanSampleIdeal.nD Cert.ScanSampleIdeal.τ).loc Cert.ScanSampleIdeal.main_arg7) = m ((c.tc : Thread Cert.ScanSampleIdeal.nD Cert.ScanSampleIdeal.τ).loc Cert.ScanSampleIdeal.main_arg7)
      ∧ r.2.mem ((c.tc : Thread Cert.ScanSampleIdeal.nD Cert.ScanSampleIdeal.τ).loc Cert.ScanSampleIdeal.main_arg8) = m ((c.tc : Thread Cert.ScanSampleIdeal.nD Cert.ScanSampleIdeal.τ).loc Cert.ScanSampleIdeal.main_arg8)
      ∧ r.2.mem ((c.tc : Thread Cert.ScanSampleIdeal.nD Cert.ScanSampleIdeal.τ).loc Cert.ScanSampleIdeal.main_arg9) = m ((c.tc : Thread Cert.ScanSampleIdeal.nD Cert.ScanSampleIdeal.τ).loc Cert.ScanSampleIdeal.main_arg9)
      ∧ r.2.mem ((c.tc : Thread Cert.ScanSampleIdeal.nD Cert.ScanSampleIdeal.τ).loc Cert.ScanSampleIdeal.main_arg10) = m ((c.tc : Thread Cert.ScanSampleIdeal.nD Cert.ScanSampleIdeal.τ).loc Cert.ScanSampleIdeal.main_arg10))
      ∧ r.2.sem = fun _ => 0)

def quiescent_ScanSampleRefIdeal [hScanSampleRefIdeal : Cert.ScanSampleRefIdeal.Facts] : Prop :=
  ∀ (m : (ℓ : Loc Cert.ScanSampleRefIdeal.nD Cert.ScanSampleRefIdeal.τ Cert.ScanSampleRefIdeal.sig) → Buf (Elt Ideal) ℓ) (g : Dev Cert.ScanSampleRefIdeal.nD → PrngReg), Pre_ScanSampleRefIdeal m →
    θ_run (Cert.ScanSampleRefIdeal.defs (F := Ideal)) (onTc (τ := Cert.ScanSampleRefIdeal.τ) (Cert.ScanSampleRefIdeal.main (F := Ideal))) ⟨m, fun _ => 0, g⟩ (fun r => (∀ c : Dev Cert.ScanSampleRefIdeal.nD,
      r.2.mem ((c.tc : Thread Cert.ScanSampleRefIdeal.nD Cert.ScanSampleRefIdeal.τ).loc Cert.ScanSampleRefIdeal.main_arg0) = m ((c.tc : Thread Cert.ScanSampleRefIdeal.nD Cert.ScanSampleRefIdeal.τ).loc Cert.ScanSampleRefIdeal.main_arg0)
      ∧ r.2.mem ((c.tc : Thread Cert.ScanSampleRefIdeal.nD Cert.ScanSampleRefIdeal.τ).loc Cert.ScanSampleRefIdeal.main_arg1) = m ((c.tc : Thread Cert.ScanSampleRefIdeal.nD Cert.ScanSampleRefIdeal.τ).loc Cert.ScanSampleRefIdeal.main_arg1)
      ∧ r.2.mem ((c.tc : Thread Cert.ScanSampleRefIdeal.nD Cert.ScanSampleRefIdeal.τ).loc Cert.ScanSampleRefIdeal.main_arg2) = m ((c.tc : Thread Cert.ScanSampleRefIdeal.nD Cert.ScanSampleRefIdeal.τ).loc Cert.ScanSampleRefIdeal.main_arg2)
      ∧ r.2.mem ((c.tc : Thread Cert.ScanSampleRefIdeal.nD Cert.ScanSampleRefIdeal.τ).loc Cert.ScanSampleRefIdeal.main_arg3) = m ((c.tc : Thread Cert.ScanSampleRefIdeal.nD Cert.ScanSampleRefIdeal.τ).loc Cert.ScanSampleRefIdeal.main_arg3)
      ∧ r.2.mem ((c.tc : Thread Cert.ScanSampleRefIdeal.nD Cert.ScanSampleRefIdeal.τ).loc Cert.ScanSampleRefIdeal.main_arg4) = m ((c.tc : Thread Cert.ScanSampleRefIdeal.nD Cert.ScanSampleRefIdeal.τ).loc Cert.ScanSampleRefIdeal.main_arg4)
      ∧ r.2.mem ((c.tc : Thread Cert.ScanSampleRefIdeal.nD Cert.ScanSampleRefIdeal.τ).loc Cert.ScanSampleRefIdeal.main_arg5) = m ((c.tc : Thread Cert.ScanSampleRefIdeal.nD Cert.ScanSampleRefIdeal.τ).loc Cert.ScanSampleRefIdeal.main_arg5)
      ∧ r.2.mem ((c.tc : Thread Cert.ScanSampleRefIdeal.nD Cert.ScanSampleRefIdeal.τ).loc Cert.ScanSampleRefIdeal.main_arg6) = m ((c.tc : Thread Cert.ScanSampleRefIdeal.nD Cert.ScanSampleRefIdeal.τ).loc Cert.ScanSampleRefIdeal.main_arg6)
      ∧ r.2.mem ((c.tc : Thread Cert.ScanSampleRefIdeal.nD Cert.ScanSampleRefIdeal.τ).loc Cert.ScanSampleRefIdeal.main_arg7) = m ((c.tc : Thread Cert.ScanSampleRefIdeal.nD Cert.ScanSampleRefIdeal.τ).loc Cert.ScanSampleRefIdeal.main_arg7)
      ∧ r.2.mem ((c.tc : Thread Cert.ScanSampleRefIdeal.nD Cert.ScanSampleRefIdeal.τ).loc Cert.ScanSampleRefIdeal.main_arg8) = m ((c.tc : Thread Cert.ScanSampleRefIdeal.nD Cert.ScanSampleRefIdeal.τ).loc Cert.ScanSampleRefIdeal.main_arg8)
      ∧ r.2.mem ((c.tc : Thread Cert.ScanSampleRefIdeal.nD Cert.ScanSampleRefIdeal.τ).loc Cert.ScanSampleRefIdeal.main_arg9) = m ((c.tc : Thread Cert.ScanSampleRefIdeal.nD Cert.ScanSampleRefIdeal.τ).loc Cert.ScanSampleRefIdeal.main_arg9)
      ∧ r.2.mem ((c.tc : Thread Cert.ScanSampleRefIdeal.nD Cert.ScanSampleRefIdeal.τ).loc Cert.ScanSampleRefIdeal.main_arg10) = m ((c.tc : Thread Cert.ScanSampleRefIdeal.nD Cert.ScanSampleRefIdeal.τ).loc Cert.ScanSampleRefIdeal.main_arg10))
      ∧ r.2.sem = fun _ => 0)

def quiescent_SguSample [hSguSample : Cert.SguSample.Facts] : Prop :=
  ∀ (m : (ℓ : Loc Cert.SguSample.nD Cert.SguSample.τ Cert.SguSample.sig) → Buf (Elt Bits) ℓ) (g : Dev Cert.SguSample.nD → PrngReg), Pre_SguSample m →
    θ_run (Cert.SguSample.defs (F := Bits)) (onTc (τ := Cert.SguSample.τ) (Cert.SguSample.main (F := Bits))) ⟨m, fun _ => 0, g⟩ (fun r => (∀ c : Dev Cert.SguSample.nD,
      r.2.mem ((c.tc : Thread Cert.SguSample.nD Cert.SguSample.τ).loc Cert.SguSample.main_arg0) = m ((c.tc : Thread Cert.SguSample.nD Cert.SguSample.τ).loc Cert.SguSample.main_arg0)
      ∧ r.2.mem ((c.tc : Thread Cert.SguSample.nD Cert.SguSample.τ).loc Cert.SguSample.main_arg1) = m ((c.tc : Thread Cert.SguSample.nD Cert.SguSample.τ).loc Cert.SguSample.main_arg1)
      ∧ r.2.mem ((c.tc : Thread Cert.SguSample.nD Cert.SguSample.τ).loc Cert.SguSample.main_arg2) = m ((c.tc : Thread Cert.SguSample.nD Cert.SguSample.τ).loc Cert.SguSample.main_arg2)
      ∧ r.2.mem ((c.tc : Thread Cert.SguSample.nD Cert.SguSample.τ).loc Cert.SguSample.main_arg3) = m ((c.tc : Thread Cert.SguSample.nD Cert.SguSample.τ).loc Cert.SguSample.main_arg3)
      ∧ r.2.mem ((c.tc : Thread Cert.SguSample.nD Cert.SguSample.τ).loc Cert.SguSample.main_arg4) = m ((c.tc : Thread Cert.SguSample.nD Cert.SguSample.τ).loc Cert.SguSample.main_arg4))
      ∧ r.2.sem = fun _ => 0)

def quiescent_SguSampleIdeal [hSguSampleIdeal : Cert.SguSampleIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg), Pre_SguSampleIdeal m →
    θ_run (Cert.SguSampleIdeal.defs (F := Ideal)) (onTc (τ := Cert.SguSampleIdeal.τ) (Cert.SguSampleIdeal.main (F := Ideal))) ⟨m, fun _ => 0, g⟩ (fun r => (∀ c : Dev Cert.SguSampleIdeal.nD,
      r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
      ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
      ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
      ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
      ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4))
      ∧ r.2.sem = fun _ => 0)

def quiescent_SguSampleRefIdeal [hSguSampleRefIdeal : Cert.SguSampleRefIdeal.Facts] : Prop :=
  ∀ (m : (ℓ : Loc Cert.SguSampleRefIdeal.nD Cert.SguSampleRefIdeal.τ Cert.SguSampleRefIdeal.sig) → Buf (Elt Ideal) ℓ) (g : Dev Cert.SguSampleRefIdeal.nD → PrngReg), Pre_SguSampleRefIdeal m →
    θ_run (Cert.SguSampleRefIdeal.defs (F := Ideal)) (onTc (τ := Cert.SguSampleRefIdeal.τ) (Cert.SguSampleRefIdeal.main (F := Ideal))) ⟨m, fun _ => 0, g⟩ (fun r => (∀ c : Dev Cert.SguSampleRefIdeal.nD,
      r.2.mem ((c.tc : Thread Cert.SguSampleRefIdeal.nD Cert.SguSampleRefIdeal.τ).loc Cert.SguSampleRefIdeal.main_arg0) = m ((c.tc : Thread Cert.SguSampleRefIdeal.nD Cert.SguSampleRefIdeal.τ).loc Cert.SguSampleRefIdeal.main_arg0)
      ∧ r.2.mem ((c.tc : Thread Cert.SguSampleRefIdeal.nD Cert.SguSampleRefIdeal.τ).loc Cert.SguSampleRefIdeal.main_arg1) = m ((c.tc : Thread Cert.SguSampleRefIdeal.nD Cert.SguSampleRefIdeal.τ).loc Cert.SguSampleRefIdeal.main_arg1)
      ∧ r.2.mem ((c.tc : Thread Cert.SguSampleRefIdeal.nD Cert.SguSampleRefIdeal.τ).loc Cert.SguSampleRefIdeal.main_arg2) = m ((c.tc : Thread Cert.SguSampleRefIdeal.nD Cert.SguSampleRefIdeal.τ).loc Cert.SguSampleRefIdeal.main_arg2)
      ∧ r.2.mem ((c.tc : Thread Cert.SguSampleRefIdeal.nD Cert.SguSampleRefIdeal.τ).loc Cert.SguSampleRefIdeal.main_arg3) = m ((c.tc : Thread Cert.SguSampleRefIdeal.nD Cert.SguSampleRefIdeal.τ).loc Cert.SguSampleRefIdeal.main_arg3)
      ∧ r.2.mem ((c.tc : Thread Cert.SguSampleRefIdeal.nD Cert.SguSampleRefIdeal.τ).loc Cert.SguSampleRefIdeal.main_arg4) = m ((c.tc : Thread Cert.SguSampleRefIdeal.nD Cert.SguSampleRefIdeal.τ).loc Cert.SguSampleRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3)
      ∧ r.2.mem ((c.tc : Thread Cert.FinalSample.nD Cert.FinalSample.τ).loc Cert.FinalSample.main_arg4) = m ((c.tc : Thread Cert.FinalSample.nD Cert.FinalSample.τ).loc Cert.FinalSample.main_arg4))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
      ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3)
      ∧ r.2.mem ((c.tc : Thread Cert.FinalSampleRefIdeal.nD Cert.FinalSampleRefIdeal.τ).loc Cert.FinalSampleRefIdeal.main_arg4) = m ((c.tc : Thread Cert.FinalSampleRefIdeal.nD Cert.FinalSampleRefIdeal.τ).loc Cert.FinalSampleRefIdeal.main_arg4))
      ∧ r.2.sem = fun _ => 0)

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)) (v1 : (c : Dev Cert.ModulationIdeal.nD) → Buf (Elt Ideal) ((c.tc : Thread Cert.ModulationIdeal.nD Cert.ModulationIdeal.τ).loc Cert.ModulationIdeal.main_v5)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_v5) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_v9) = v1 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v0)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v0) = v0 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v8) = v0 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v26)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v26) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v12) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2))

def preserves_ShiftSample_ShiftSampleIdeal : Prop :=
  True

def algebraic_ShiftSampleIdeal_ShiftSampleRefIdeal [hShiftSampleIdeal : Cert.ShiftSampleIdeal.Facts] [hShiftSampleRefIdeal : Cert.ShiftSampleRefIdeal.Facts] : Prop :=
  ∀ (m : (ℓ : Loc Cert.ShiftSampleIdeal.nD Cert.ShiftSampleIdeal.τ Cert.ShiftSampleIdeal.sig) → Buf (Elt Ideal) ℓ) (g : Dev Cert.ShiftSampleIdeal.nD → PrngReg)
    (m' : (ℓ : Loc Cert.ShiftSampleRefIdeal.nD Cert.ShiftSampleRefIdeal.τ Cert.ShiftSampleRefIdeal.sig) → Buf (Elt Ideal) ℓ) (g' : Dev Cert.ShiftSampleRefIdeal.nD → PrngReg), Pre_ShiftSampleIdeal m →
    (∀ c : Dev Cert.ShiftSampleIdeal.nD,
      m' ((c.tc : Thread Cert.ShiftSampleRefIdeal.nD Cert.ShiftSampleRefIdeal.τ).loc Cert.ShiftSampleRefIdeal.main_arg0) = m ((c.tc : Thread Cert.ShiftSampleIdeal.nD Cert.ShiftSampleIdeal.τ).loc Cert.ShiftSampleIdeal.main_arg0)
      ∧ m' ((c.tc : Thread Cert.ShiftSampleRefIdeal.nD Cert.ShiftSampleRefIdeal.τ).loc Cert.ShiftSampleRefIdeal.main_arg1) = m ((c.tc : Thread Cert.ShiftSampleIdeal.nD Cert.ShiftSampleIdeal.τ).loc Cert.ShiftSampleIdeal.main_arg1)
      ∧ m' ((c.tc : Thread Cert.ShiftSampleRefIdeal.nD Cert.ShiftSampleRefIdeal.τ).loc Cert.ShiftSampleRefIdeal.main_arg2) = m ((c.tc : Thread Cert.ShiftSampleIdeal.nD Cert.ShiftSampleIdeal.τ).loc Cert.ShiftSampleIdeal.main_arg2)) →
    ∃ (v0 : (c : Dev Cert.ShiftSampleIdeal.nD) → Buf (Elt Ideal) ((c.tc : Thread Cert.ShiftSampleIdeal.nD Cert.ShiftSampleIdeal.τ).loc Cert.ShiftSampleIdeal.main_v23)),
      θ_run (Cert.ShiftSampleIdeal.defs (F := Ideal)) (onTc (τ := Cert.ShiftSampleIdeal.τ) (Cert.ShiftSampleIdeal.main (F := Ideal))) ⟨m, fun _ => 0, g⟩ (fun r => ∀ c : Dev Cert.ShiftSampleIdeal.nD,
          r.2.mem ((c.tc : Thread Cert.ShiftSampleIdeal.nD Cert.ShiftSampleIdeal.τ).loc Cert.ShiftSampleIdeal.main_v23) = v0 c
          ∧ r.2.mem ((c.tc : Thread Cert.ShiftSampleIdeal.nD Cert.ShiftSampleIdeal.τ).loc Cert.ShiftSampleIdeal.main_arg0) = m ((c.tc : Thread Cert.ShiftSampleIdeal.nD Cert.ShiftSampleIdeal.τ).loc Cert.ShiftSampleIdeal.main_arg0)
          ∧ r.2.mem ((c.tc : Thread Cert.ShiftSampleIdeal.nD Cert.ShiftSampleIdeal.τ).loc Cert.ShiftSampleIdeal.main_arg1) = m ((c.tc : Thread Cert.ShiftSampleIdeal.nD Cert.ShiftSampleIdeal.τ).loc Cert.ShiftSampleIdeal.main_arg1)
          ∧ r.2.mem ((c.tc : Thread Cert.ShiftSampleIdeal.nD Cert.ShiftSampleIdeal.τ).loc Cert.ShiftSampleIdeal.main_arg2) = m ((c.tc : Thread Cert.ShiftSampleIdeal.nD Cert.ShiftSampleIdeal.τ).loc Cert.ShiftSampleIdeal.main_arg2))
      ∧ θ_run (Cert.ShiftSampleRefIdeal.defs (F := Ideal)) (onTc (τ := Cert.ShiftSampleRefIdeal.τ) (Cert.ShiftSampleRefIdeal.main (F := Ideal))) ⟨m', fun _ => 0, g'⟩ (fun r => ∀ c : Dev Cert.ShiftSampleRefIdeal.nD,
          r.2.mem ((c.tc : Thread Cert.ShiftSampleRefIdeal.nD Cert.ShiftSampleRefIdeal.τ).loc Cert.ShiftSampleRefIdeal.main_v7) = v0 c
          ∧ r.2.mem ((c.tc : Thread Cert.ShiftSampleRefIdeal.nD Cert.ShiftSampleRefIdeal.τ).loc Cert.ShiftSampleRefIdeal.main_arg0) = m' ((c.tc : Thread Cert.ShiftSampleRefIdeal.nD Cert.ShiftSampleRefIdeal.τ).loc Cert.ShiftSampleRefIdeal.main_arg0)
          ∧ r.2.mem ((c.tc : Thread Cert.ShiftSampleRefIdeal.nD Cert.ShiftSampleRefIdeal.τ).loc Cert.ShiftSampleRefIdeal.main_arg1) = m' ((c.tc : Thread Cert.ShiftSampleRefIdeal.nD Cert.ShiftSampleRefIdeal.τ).loc Cert.ShiftSampleRefIdeal.main_arg1)
          ∧ r.2.mem ((c.tc : Thread Cert.ShiftSampleRefIdeal.nD Cert.ShiftSampleRefIdeal.τ).loc Cert.ShiftSampleRefIdeal.main_arg2) = m' ((c.tc : Thread Cert.ShiftSampleRefIdeal.nD Cert.ShiftSampleRefIdeal.τ).loc Cert.ShiftSampleRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)) →
    ∃ (v0 : (c : Dev Cert.MergeSampleIdeal.nD) → Buf (Elt Ideal) ((c.tc : Thread Cert.MergeSampleIdeal.nD Cert.MergeSampleIdeal.τ).loc Cert.MergeSampleIdeal.main_v0)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v0) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v23) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)
      ∧ m' ((c.tc : Thread Cert.OutLnRefIdeal.nD Cert.OutLnRefIdeal.τ).loc Cert.OutLnRefIdeal.main_arg6) = m ((c.tc : Thread Cert.OutLnIdeal.nD Cert.OutLnIdeal.τ).loc Cert.OutLnIdeal.main_arg6)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)) (v2 : (c : Dev Cert.OutLnIdeal.nD) → Buf (Elt Ideal) ((c.tc : Thread Cert.OutLnIdeal.nD Cert.OutLnIdeal.τ).loc Cert.OutLnIdeal.main_v0_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_v0_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v48) = v0 c
          ∧ r.2.mem ((c.tc : Thread Cert.OutLnRefIdeal.nD Cert.OutLnRefIdeal.τ).loc Cert.OutLnRefIdeal.main_v49) = v1 c
          ∧ r.2.mem ((c.tc : Thread Cert.OutLnRefIdeal.nD Cert.OutLnRefIdeal.τ).loc Cert.OutLnRefIdeal.main_v50) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5)
          ∧ r.2.mem ((c.tc : Thread Cert.OutLnRefIdeal.nD Cert.OutLnRefIdeal.τ).loc Cert.OutLnRefIdeal.main_arg6) = m' ((c.tc : Thread Cert.OutLnRefIdeal.nD Cert.OutLnRefIdeal.τ).loc Cert.OutLnRefIdeal.main_arg6))

def preserves_OutLnSample_OutLnSampleIdeal : Prop :=
  True

def algebraic_OutLnSampleIdeal_OutLnSampleRefIdeal [hOutLnSampleIdeal : Cert.OutLnSampleIdeal.Facts] [hOutLnSampleRefIdeal : Cert.OutLnSampleRefIdeal.Facts] : Prop :=
  ∀ (m : (ℓ : Loc Cert.OutLnSampleIdeal.nD Cert.OutLnSampleIdeal.τ Cert.OutLnSampleIdeal.sig) → Buf (Elt Ideal) ℓ) (g : Dev Cert.OutLnSampleIdeal.nD → PrngReg)
    (m' : (ℓ : Loc Cert.OutLnSampleRefIdeal.nD Cert.OutLnSampleRefIdeal.τ Cert.OutLnSampleRefIdeal.sig) → Buf (Elt Ideal) ℓ) (g' : Dev Cert.OutLnSampleRefIdeal.nD → PrngReg), Pre_OutLnSampleIdeal m →
    (∀ c : Dev Cert.OutLnSampleIdeal.nD,
      m' ((c.tc : Thread Cert.OutLnSampleRefIdeal.nD Cert.OutLnSampleRefIdeal.τ).loc Cert.OutLnSampleRefIdeal.main_arg0) = m ((c.tc : Thread Cert.OutLnSampleIdeal.nD Cert.OutLnSampleIdeal.τ).loc Cert.OutLnSampleIdeal.main_arg0)
      ∧ m' ((c.tc : Thread Cert.OutLnSampleRefIdeal.nD Cert.OutLnSampleRefIdeal.τ).loc Cert.OutLnSampleRefIdeal.main_arg1) = m ((c.tc : Thread Cert.OutLnSampleIdeal.nD Cert.OutLnSampleIdeal.τ).loc Cert.OutLnSampleIdeal.main_arg1)
      ∧ m' ((c.tc : Thread Cert.OutLnSampleRefIdeal.nD Cert.OutLnSampleRefIdeal.τ).loc Cert.OutLnSampleRefIdeal.main_arg2) = m ((c.tc : Thread Cert.OutLnSampleIdeal.nD Cert.OutLnSampleIdeal.τ).loc Cert.OutLnSampleIdeal.main_arg2)
      ∧ m' ((c.tc : Thread Cert.OutLnSampleRefIdeal.nD Cert.OutLnSampleRefIdeal.τ).loc Cert.OutLnSampleRefIdeal.main_arg3) = m ((c.tc : Thread Cert.OutLnSampleIdeal.nD Cert.OutLnSampleIdeal.τ).loc Cert.OutLnSampleIdeal.main_arg3)
      ∧ m' ((c.tc : Thread Cert.OutLnSampleRefIdeal.nD Cert.OutLnSampleRefIdeal.τ).loc Cert.OutLnSampleRefIdeal.main_arg4) = m ((c.tc : Thread Cert.OutLnSampleIdeal.nD Cert.OutLnSampleIdeal.τ).loc Cert.OutLnSampleIdeal.main_arg4)
      ∧ m' ((c.tc : Thread Cert.OutLnSampleRefIdeal.nD Cert.OutLnSampleRefIdeal.τ).loc Cert.OutLnSampleRefIdeal.main_arg5) = m ((c.tc : Thread Cert.OutLnSampleIdeal.nD Cert.OutLnSampleIdeal.τ).loc Cert.OutLnSampleIdeal.main_arg5)
      ∧ m' ((c.tc : Thread Cert.OutLnSampleRefIdeal.nD Cert.OutLnSampleRefIdeal.τ).loc Cert.OutLnSampleRefIdeal.main_arg6) = m ((c.tc : Thread Cert.OutLnSampleIdeal.nD Cert.OutLnSampleIdeal.τ).loc Cert.OutLnSampleIdeal.main_arg6)) →
    ∃ (v0 : (c : Dev Cert.OutLnSampleIdeal.nD) → Buf (Elt Ideal) ((c.tc : Thread Cert.OutLnSampleIdeal.nD Cert.OutLnSampleIdeal.τ).loc Cert.OutLnSampleIdeal.main_v0_0)) (v1 : (c : Dev Cert.OutLnSampleIdeal.nD) → Buf (Elt Ideal) ((c.tc : Thread Cert.OutLnSampleIdeal.nD Cert.OutLnSampleIdeal.τ).loc Cert.OutLnSampleIdeal.main_v0_1)) (v2 : (c : Dev Cert.OutLnSampleIdeal.nD) → Buf (Elt Ideal) ((c.tc : Thread Cert.OutLnSampleIdeal.nD Cert.OutLnSampleIdeal.τ).loc Cert.OutLnSampleIdeal.main_v0_2)),
      θ_run (Cert.OutLnSampleIdeal.defs (F := Ideal)) (onTc (τ := Cert.OutLnSampleIdeal.τ) (Cert.OutLnSampleIdeal.main (F := Ideal))) ⟨m, fun _ => 0, g⟩ (fun r => ∀ c : Dev Cert.OutLnSampleIdeal.nD,
          r.2.mem ((c.tc : Thread Cert.OutLnSampleIdeal.nD Cert.OutLnSampleIdeal.τ).loc Cert.OutLnSampleIdeal.main_v0_0) = v0 c
          ∧ r.2.mem ((c.tc : Thread Cert.OutLnSampleIdeal.nD Cert.OutLnSampleIdeal.τ).loc Cert.OutLnSampleIdeal.main_v0_1) = v1 c
          ∧ r.2.mem ((c.tc : Thread Cert.OutLnSampleIdeal.nD Cert.OutLnSampleIdeal.τ).loc Cert.OutLnSampleIdeal.main_v0_2) = v2 c
          ∧ r.2.mem ((c.tc : Thread Cert.OutLnSampleIdeal.nD Cert.OutLnSampleIdeal.τ).loc Cert.OutLnSampleIdeal.main_arg0) = m ((c.tc : Thread Cert.OutLnSampleIdeal.nD Cert.OutLnSampleIdeal.τ).loc Cert.OutLnSampleIdeal.main_arg0)
          ∧ r.2.mem ((c.tc : Thread Cert.OutLnSampleIdeal.nD Cert.OutLnSampleIdeal.τ).loc Cert.OutLnSampleIdeal.main_arg1) = m ((c.tc : Thread Cert.OutLnSampleIdeal.nD Cert.OutLnSampleIdeal.τ).loc Cert.OutLnSampleIdeal.main_arg1)
          ∧ r.2.mem ((c.tc : Thread Cert.OutLnSampleIdeal.nD Cert.OutLnSampleIdeal.τ).loc Cert.OutLnSampleIdeal.main_arg2) = m ((c.tc : Thread Cert.OutLnSampleIdeal.nD Cert.OutLnSampleIdeal.τ).loc Cert.OutLnSampleIdeal.main_arg2)
          ∧ r.2.mem ((c.tc : Thread Cert.OutLnSampleIdeal.nD Cert.OutLnSampleIdeal.τ).loc Cert.OutLnSampleIdeal.main_arg3) = m ((c.tc : Thread Cert.OutLnSampleIdeal.nD Cert.OutLnSampleIdeal.τ).loc Cert.OutLnSampleIdeal.main_arg3)
          ∧ r.2.mem ((c.tc : Thread Cert.OutLnSampleIdeal.nD Cert.OutLnSampleIdeal.τ).loc Cert.OutLnSampleIdeal.main_arg4) = m ((c.tc : Thread Cert.OutLnSampleIdeal.nD Cert.OutLnSampleIdeal.τ).loc Cert.OutLnSampleIdeal.main_arg4)
          ∧ r.2.mem ((c.tc : Thread Cert.OutLnSampleIdeal.nD Cert.OutLnSampleIdeal.τ).loc Cert.OutLnSampleIdeal.main_arg5) = m ((c.tc : Thread Cert.OutLnSampleIdeal.nD Cert.OutLnSampleIdeal.τ).loc Cert.OutLnSampleIdeal.main_arg5)
          ∧ r.2.mem ((c.tc : Thread Cert.OutLnSampleIdeal.nD Cert.OutLnSampleIdeal.τ).loc Cert.OutLnSampleIdeal.main_arg6) = m ((c.tc : Thread Cert.OutLnSampleIdeal.nD Cert.OutLnSampleIdeal.τ).loc Cert.OutLnSampleIdeal.main_arg6))
      ∧ θ_run (Cert.OutLnSampleRefIdeal.defs (F := Ideal)) (onTc (τ := Cert.OutLnSampleRefIdeal.τ) (Cert.OutLnSampleRefIdeal.main (F := Ideal))) ⟨m', fun _ => 0, g'⟩ (fun r => ∀ c : Dev Cert.OutLnSampleRefIdeal.nD,
          r.2.mem ((c.tc : Thread Cert.OutLnSampleRefIdeal.nD Cert.OutLnSampleRefIdeal.τ).loc Cert.OutLnSampleRefIdeal.main_v35) = v0 c
          ∧ r.2.mem ((c.tc : Thread Cert.OutLnSampleRefIdeal.nD Cert.OutLnSampleRefIdeal.τ).loc Cert.OutLnSampleRefIdeal.main_v42) = v1 c
          ∧ r.2.mem ((c.tc : Thread Cert.OutLnSampleRefIdeal.nD Cert.OutLnSampleRefIdeal.τ).loc Cert.OutLnSampleRefIdeal.main_v43) = v2 c
          ∧ r.2.mem ((c.tc : Thread Cert.OutLnSampleRefIdeal.nD Cert.OutLnSampleRefIdeal.τ).loc Cert.OutLnSampleRefIdeal.main_arg0) = m' ((c.tc : Thread Cert.OutLnSampleRefIdeal.nD Cert.OutLnSampleRefIdeal.τ).loc Cert.OutLnSampleRefIdeal.main_arg0)
          ∧ r.2.mem ((c.tc : Thread Cert.OutLnSampleRefIdeal.nD Cert.OutLnSampleRefIdeal.τ).loc Cert.OutLnSampleRefIdeal.main_arg1) = m' ((c.tc : Thread Cert.OutLnSampleRefIdeal.nD Cert.OutLnSampleRefIdeal.τ).loc Cert.OutLnSampleRefIdeal.main_arg1)
          ∧ r.2.mem ((c.tc : Thread Cert.OutLnSampleRefIdeal.nD Cert.OutLnSampleRefIdeal.τ).loc Cert.OutLnSampleRefIdeal.main_arg2) = m' ((c.tc : Thread Cert.OutLnSampleRefIdeal.nD Cert.OutLnSampleRefIdeal.τ).loc Cert.OutLnSampleRefIdeal.main_arg2)
          ∧ r.2.mem ((c.tc : Thread Cert.OutLnSampleRefIdeal.nD Cert.OutLnSampleRefIdeal.τ).loc Cert.OutLnSampleRefIdeal.main_arg3) = m' ((c.tc : Thread Cert.OutLnSampleRefIdeal.nD Cert.OutLnSampleRefIdeal.τ).loc Cert.OutLnSampleRefIdeal.main_arg3)
          ∧ r.2.mem ((c.tc : Thread Cert.OutLnSampleRefIdeal.nD Cert.OutLnSampleRefIdeal.τ).loc Cert.OutLnSampleRefIdeal.main_arg4) = m' ((c.tc : Thread Cert.OutLnSampleRefIdeal.nD Cert.OutLnSampleRefIdeal.τ).loc Cert.OutLnSampleRefIdeal.main_arg4)
          ∧ r.2.mem ((c.tc : Thread Cert.OutLnSampleRefIdeal.nD Cert.OutLnSampleRefIdeal.τ).loc Cert.OutLnSampleRefIdeal.main_arg5) = m' ((c.tc : Thread Cert.OutLnSampleRefIdeal.nD Cert.OutLnSampleRefIdeal.τ).loc Cert.OutLnSampleRefIdeal.main_arg5)
          ∧ r.2.mem ((c.tc : Thread Cert.OutLnSampleRefIdeal.nD Cert.OutLnSampleRefIdeal.τ).loc Cert.OutLnSampleRefIdeal.main_arg6) = m' ((c.tc : Thread Cert.OutLnSampleRefIdeal.nD Cert.OutLnSampleRefIdeal.τ).loc Cert.OutLnSampleRefIdeal.main_arg6))

def preserves_ScanSample_ScanSampleIdeal : Prop :=
  True

def algebraic_ScanSampleIdeal_ScanSampleRefIdeal [hScanSampleIdeal : Cert.ScanSampleIdeal.Facts] [hScanSampleRefIdeal : Cert.ScanSampleRefIdeal.Facts] : Prop :=
  ∀ (m : (ℓ : Loc Cert.ScanSampleIdeal.nD Cert.ScanSampleIdeal.τ Cert.ScanSampleIdeal.sig) → Buf (Elt Ideal) ℓ) (g : Dev Cert.ScanSampleIdeal.nD → PrngReg)
    (m' : (ℓ : Loc Cert.ScanSampleRefIdeal.nD Cert.ScanSampleRefIdeal.τ Cert.ScanSampleRefIdeal.sig) → Buf (Elt Ideal) ℓ) (g' : Dev Cert.ScanSampleRefIdeal.nD → PrngReg), Pre_ScanSampleIdeal m →
    (∀ c : Dev Cert.ScanSampleIdeal.nD,
      m' ((c.tc : Thread Cert.ScanSampleRefIdeal.nD Cert.ScanSampleRefIdeal.τ).loc Cert.ScanSampleRefIdeal.main_arg0) = m ((c.tc : Thread Cert.ScanSampleIdeal.nD Cert.ScanSampleIdeal.τ).loc Cert.ScanSampleIdeal.main_arg0)
      ∧ m' ((c.tc : Thread Cert.ScanSampleRefIdeal.nD Cert.ScanSampleRefIdeal.τ).loc Cert.ScanSampleRefIdeal.main_arg1) = m ((c.tc : Thread Cert.ScanSampleIdeal.nD Cert.ScanSampleIdeal.τ).loc Cert.ScanSampleIdeal.main_arg1)
      ∧ m' ((c.tc : Thread Cert.ScanSampleRefIdeal.nD Cert.ScanSampleRefIdeal.τ).loc Cert.ScanSampleRefIdeal.main_arg2) = m ((c.tc : Thread Cert.ScanSampleIdeal.nD Cert.ScanSampleIdeal.τ).loc Cert.ScanSampleIdeal.main_arg2)
      ∧ m' ((c.tc : Thread Cert.ScanSampleRefIdeal.nD Cert.ScanSampleRefIdeal.τ).loc Cert.ScanSampleRefIdeal.main_arg3) = m ((c.tc : Thread Cert.ScanSampleIdeal.nD Cert.ScanSampleIdeal.τ).loc Cert.ScanSampleIdeal.main_arg3)
      ∧ m' ((c.tc : Thread Cert.ScanSampleRefIdeal.nD Cert.ScanSampleRefIdeal.τ).loc Cert.ScanSampleRefIdeal.main_arg4) = m ((c.tc : Thread Cert.ScanSampleIdeal.nD Cert.ScanSampleIdeal.τ).loc Cert.ScanSampleIdeal.main_arg4)
      ∧ m' ((c.tc : Thread Cert.ScanSampleRefIdeal.nD Cert.ScanSampleRefIdeal.τ).loc Cert.ScanSampleRefIdeal.main_arg5) = m ((c.tc : Thread Cert.ScanSampleIdeal.nD Cert.ScanSampleIdeal.τ).loc Cert.ScanSampleIdeal.main_arg5)
      ∧ m' ((c.tc : Thread Cert.ScanSampleRefIdeal.nD Cert.ScanSampleRefIdeal.τ).loc Cert.ScanSampleRefIdeal.main_arg6) = m ((c.tc : Thread Cert.ScanSampleIdeal.nD Cert.ScanSampleIdeal.τ).loc Cert.ScanSampleIdeal.main_arg6)
      ∧ m' ((c.tc : Thread Cert.ScanSampleRefIdeal.nD Cert.ScanSampleRefIdeal.τ).loc Cert.ScanSampleRefIdeal.main_arg7) = m ((c.tc : Thread Cert.ScanSampleIdeal.nD Cert.ScanSampleIdeal.τ).loc Cert.ScanSampleIdeal.main_arg7)
      ∧ m' ((c.tc : Thread Cert.ScanSampleRefIdeal.nD Cert.ScanSampleRefIdeal.τ).loc Cert.ScanSampleRefIdeal.main_arg8) = m ((c.tc : Thread Cert.ScanSampleIdeal.nD Cert.ScanSampleIdeal.τ).loc Cert.ScanSampleIdeal.main_arg8)
      ∧ m' ((c.tc : Thread Cert.ScanSampleRefIdeal.nD Cert.ScanSampleRefIdeal.τ).loc Cert.ScanSampleRefIdeal.main_arg9) = m ((c.tc : Thread Cert.ScanSampleIdeal.nD Cert.ScanSampleIdeal.τ).loc Cert.ScanSampleIdeal.main_arg9)
      ∧ m' ((c.tc : Thread Cert.ScanSampleRefIdeal.nD Cert.ScanSampleRefIdeal.τ).loc Cert.ScanSampleRefIdeal.main_arg10) = m ((c.tc : Thread Cert.ScanSampleIdeal.nD Cert.ScanSampleIdeal.τ).loc Cert.ScanSampleIdeal.main_arg10)) →
    ∃ (v0 : (c : Dev Cert.ScanSampleIdeal.nD) → Buf (Elt Ideal) ((c.tc : Thread Cert.ScanSampleIdeal.nD Cert.ScanSampleIdeal.τ).loc Cert.ScanSampleIdeal.main_v43)) (v1 : (c : Dev Cert.ScanSampleIdeal.nD) → Buf (Elt Ideal) ((c.tc : Thread Cert.ScanSampleIdeal.nD Cert.ScanSampleIdeal.τ).loc Cert.ScanSampleIdeal.main_v44)),
      θ_run (Cert.ScanSampleIdeal.defs (F := Ideal)) (onTc (τ := Cert.ScanSampleIdeal.τ) (Cert.ScanSampleIdeal.main (F := Ideal))) ⟨m, fun _ => 0, g⟩ (fun r => ∀ c : Dev Cert.ScanSampleIdeal.nD,
          r.2.mem ((c.tc : Thread Cert.ScanSampleIdeal.nD Cert.ScanSampleIdeal.τ).loc Cert.ScanSampleIdeal.main_v43) = v0 c
          ∧ r.2.mem ((c.tc : Thread Cert.ScanSampleIdeal.nD Cert.ScanSampleIdeal.τ).loc Cert.ScanSampleIdeal.main_v44) = v1 c
          ∧ r.2.mem ((c.tc : Thread Cert.ScanSampleIdeal.nD Cert.ScanSampleIdeal.τ).loc Cert.ScanSampleIdeal.main_arg0) = m ((c.tc : Thread Cert.ScanSampleIdeal.nD Cert.ScanSampleIdeal.τ).loc Cert.ScanSampleIdeal.main_arg0)
          ∧ r.2.mem ((c.tc : Thread Cert.ScanSampleIdeal.nD Cert.ScanSampleIdeal.τ).loc Cert.ScanSampleIdeal.main_arg1) = m ((c.tc : Thread Cert.ScanSampleIdeal.nD Cert.ScanSampleIdeal.τ).loc Cert.ScanSampleIdeal.main_arg1)
          ∧ r.2.mem ((c.tc : Thread Cert.ScanSampleIdeal.nD Cert.ScanSampleIdeal.τ).loc Cert.ScanSampleIdeal.main_arg2) = m ((c.tc : Thread Cert.ScanSampleIdeal.nD Cert.ScanSampleIdeal.τ).loc Cert.ScanSampleIdeal.main_arg2)
          ∧ r.2.mem ((c.tc : Thread Cert.ScanSampleIdeal.nD Cert.ScanSampleIdeal.τ).loc Cert.ScanSampleIdeal.main_arg3) = m ((c.tc : Thread Cert.ScanSampleIdeal.nD Cert.ScanSampleIdeal.τ).loc Cert.ScanSampleIdeal.main_arg3)
          ∧ r.2.mem ((c.tc : Thread Cert.ScanSampleIdeal.nD Cert.ScanSampleIdeal.τ).loc Cert.ScanSampleIdeal.main_arg4) = m ((c.tc : Thread Cert.ScanSampleIdeal.nD Cert.ScanSampleIdeal.τ).loc Cert.ScanSampleIdeal.main_arg4)
          ∧ r.2.mem ((c.tc : Thread Cert.ScanSampleIdeal.nD Cert.ScanSampleIdeal.τ).loc Cert.ScanSampleIdeal.main_arg5) = m ((c.tc : Thread Cert.ScanSampleIdeal.nD Cert.ScanSampleIdeal.τ).loc Cert.ScanSampleIdeal.main_arg5)
          ∧ r.2.mem ((c.tc : Thread Cert.ScanSampleIdeal.nD Cert.ScanSampleIdeal.τ).loc Cert.ScanSampleIdeal.main_arg6) = m ((c.tc : Thread Cert.ScanSampleIdeal.nD Cert.ScanSampleIdeal.τ).loc Cert.ScanSampleIdeal.main_arg6)
          ∧ r.2.mem ((c.tc : Thread Cert.ScanSampleIdeal.nD Cert.ScanSampleIdeal.τ).loc Cert.ScanSampleIdeal.main_arg7) = m ((c.tc : Thread Cert.ScanSampleIdeal.nD Cert.ScanSampleIdeal.τ).loc Cert.ScanSampleIdeal.main_arg7)
          ∧ r.2.mem ((c.tc : Thread Cert.ScanSampleIdeal.nD Cert.ScanSampleIdeal.τ).loc Cert.ScanSampleIdeal.main_arg8) = m ((c.tc : Thread Cert.ScanSampleIdeal.nD Cert.ScanSampleIdeal.τ).loc Cert.ScanSampleIdeal.main_arg8)
          ∧ r.2.mem ((c.tc : Thread Cert.ScanSampleIdeal.nD Cert.ScanSampleIdeal.τ).loc Cert.ScanSampleIdeal.main_arg9) = m ((c.tc : Thread Cert.ScanSampleIdeal.nD Cert.ScanSampleIdeal.τ).loc Cert.ScanSampleIdeal.main_arg9)
          ∧ r.2.mem ((c.tc : Thread Cert.ScanSampleIdeal.nD Cert.ScanSampleIdeal.τ).loc Cert.ScanSampleIdeal.main_arg10) = m ((c.tc : Thread Cert.ScanSampleIdeal.nD Cert.ScanSampleIdeal.τ).loc Cert.ScanSampleIdeal.main_arg10))
      ∧ θ_run (Cert.ScanSampleRefIdeal.defs (F := Ideal)) (onTc (τ := Cert.ScanSampleRefIdeal.τ) (Cert.ScanSampleRefIdeal.main (F := Ideal))) ⟨m', fun _ => 0, g'⟩ (fun r => ∀ c : Dev Cert.ScanSampleRefIdeal.nD,
          r.2.mem ((c.tc : Thread Cert.ScanSampleRefIdeal.nD Cert.ScanSampleRefIdeal.τ).loc Cert.ScanSampleRefIdeal.main_v86) = v0 c
          ∧ r.2.mem ((c.tc : Thread Cert.ScanSampleRefIdeal.nD Cert.ScanSampleRefIdeal.τ).loc Cert.ScanSampleRefIdeal.main_v48) = v1 c
          ∧ r.2.mem ((c.tc : Thread Cert.ScanSampleRefIdeal.nD Cert.ScanSampleRefIdeal.τ).loc Cert.ScanSampleRefIdeal.main_arg0) = m' ((c.tc : Thread Cert.ScanSampleRefIdeal.nD Cert.ScanSampleRefIdeal.τ).loc Cert.ScanSampleRefIdeal.main_arg0)
          ∧ r.2.mem ((c.tc : Thread Cert.ScanSampleRefIdeal.nD Cert.ScanSampleRefIdeal.τ).loc Cert.ScanSampleRefIdeal.main_arg1) = m' ((c.tc : Thread Cert.ScanSampleRefIdeal.nD Cert.ScanSampleRefIdeal.τ).loc Cert.ScanSampleRefIdeal.main_arg1)
          ∧ r.2.mem ((c.tc : Thread Cert.ScanSampleRefIdeal.nD Cert.ScanSampleRefIdeal.τ).loc Cert.ScanSampleRefIdeal.main_arg2) = m' ((c.tc : Thread Cert.ScanSampleRefIdeal.nD Cert.ScanSampleRefIdeal.τ).loc Cert.ScanSampleRefIdeal.main_arg2)
          ∧ r.2.mem ((c.tc : Thread Cert.ScanSampleRefIdeal.nD Cert.ScanSampleRefIdeal.τ).loc Cert.ScanSampleRefIdeal.main_arg3) = m' ((c.tc : Thread Cert.ScanSampleRefIdeal.nD Cert.ScanSampleRefIdeal.τ).loc Cert.ScanSampleRefIdeal.main_arg3)
          ∧ r.2.mem ((c.tc : Thread Cert.ScanSampleRefIdeal.nD Cert.ScanSampleRefIdeal.τ).loc Cert.ScanSampleRefIdeal.main_arg4) = m' ((c.tc : Thread Cert.ScanSampleRefIdeal.nD Cert.ScanSampleRefIdeal.τ).loc Cert.ScanSampleRefIdeal.main_arg4)
          ∧ r.2.mem ((c.tc : Thread Cert.ScanSampleRefIdeal.nD Cert.ScanSampleRefIdeal.τ).loc Cert.ScanSampleRefIdeal.main_arg5) = m' ((c.tc : Thread Cert.ScanSampleRefIdeal.nD Cert.ScanSampleRefIdeal.τ).loc Cert.ScanSampleRefIdeal.main_arg5)
          ∧ r.2.mem ((c.tc : Thread Cert.ScanSampleRefIdeal.nD Cert.ScanSampleRefIdeal.τ).loc Cert.ScanSampleRefIdeal.main_arg6) = m' ((c.tc : Thread Cert.ScanSampleRefIdeal.nD Cert.ScanSampleRefIdeal.τ).loc Cert.ScanSampleRefIdeal.main_arg6)
          ∧ r.2.mem ((c.tc : Thread Cert.ScanSampleRefIdeal.nD Cert.ScanSampleRefIdeal.τ).loc Cert.ScanSampleRefIdeal.main_arg7) = m' ((c.tc : Thread Cert.ScanSampleRefIdeal.nD Cert.ScanSampleRefIdeal.τ).loc Cert.ScanSampleRefIdeal.main_arg7)
          ∧ r.2.mem ((c.tc : Thread Cert.ScanSampleRefIdeal.nD Cert.ScanSampleRefIdeal.τ).loc Cert.ScanSampleRefIdeal.main_arg8) = m' ((c.tc : Thread Cert.ScanSampleRefIdeal.nD Cert.ScanSampleRefIdeal.τ).loc Cert.ScanSampleRefIdeal.main_arg8)
          ∧ r.2.mem ((c.tc : Thread Cert.ScanSampleRefIdeal.nD Cert.ScanSampleRefIdeal.τ).loc Cert.ScanSampleRefIdeal.main_arg9) = m' ((c.tc : Thread Cert.ScanSampleRefIdeal.nD Cert.ScanSampleRefIdeal.τ).loc Cert.ScanSampleRefIdeal.main_arg9)
          ∧ r.2.mem ((c.tc : Thread Cert.ScanSampleRefIdeal.nD Cert.ScanSampleRefIdeal.τ).loc Cert.ScanSampleRefIdeal.main_arg10) = m' ((c.tc : Thread Cert.ScanSampleRefIdeal.nD Cert.ScanSampleRefIdeal.τ).loc Cert.ScanSampleRefIdeal.main_arg10))

def preserves_SguSample_SguSampleIdeal : Prop :=
  True

def algebraic_SguSampleIdeal_SguSampleRefIdeal [hSguSampleIdeal : Cert.SguSampleIdeal.Facts] [hSguSampleRefIdeal : Cert.SguSampleRefIdeal.Facts] : Prop :=
  ∀ (m : (ℓ : Loc Cert.SguSampleIdeal.nD Cert.SguSampleIdeal.τ Cert.SguSampleIdeal.sig) → Buf (Elt Ideal) ℓ) (g : Dev Cert.SguSampleIdeal.nD → PrngReg)
    (m' : (ℓ : Loc Cert.SguSampleRefIdeal.nD Cert.SguSampleRefIdeal.τ Cert.SguSampleRefIdeal.sig) → Buf (Elt Ideal) ℓ) (g' : Dev Cert.SguSampleRefIdeal.nD → PrngReg), Pre_SguSampleIdeal m →
    (∀ c : Dev Cert.SguSampleIdeal.nD,
      m' ((c.tc : Thread Cert.SguSampleRefIdeal.nD Cert.SguSampleRefIdeal.τ).loc Cert.SguSampleRefIdeal.main_arg0) = m ((c.tc : Thread Cert.SguSampleIdeal.nD Cert.SguSampleIdeal.τ).loc Cert.SguSampleIdeal.main_arg0)
      ∧ m' ((c.tc : Thread Cert.SguSampleRefIdeal.nD Cert.SguSampleRefIdeal.τ).loc Cert.SguSampleRefIdeal.main_arg1) = m ((c.tc : Thread Cert.SguSampleIdeal.nD Cert.SguSampleIdeal.τ).loc Cert.SguSampleIdeal.main_arg1)
      ∧ m' ((c.tc : Thread Cert.SguSampleRefIdeal.nD Cert.SguSampleRefIdeal.τ).loc Cert.SguSampleRefIdeal.main_arg2) = m ((c.tc : Thread Cert.SguSampleIdeal.nD Cert.SguSampleIdeal.τ).loc Cert.SguSampleIdeal.main_arg2)
      ∧ m' ((c.tc : Thread Cert.SguSampleRefIdeal.nD Cert.SguSampleRefIdeal.τ).loc Cert.SguSampleRefIdeal.main_arg3) = m ((c.tc : Thread Cert.SguSampleIdeal.nD Cert.SguSampleIdeal.τ).loc Cert.SguSampleIdeal.main_arg3)
      ∧ m' ((c.tc : Thread Cert.SguSampleRefIdeal.nD Cert.SguSampleRefIdeal.τ).loc Cert.SguSampleRefIdeal.main_arg4) = m ((c.tc : Thread Cert.SguSampleIdeal.nD Cert.SguSampleIdeal.τ).loc Cert.SguSampleIdeal.main_arg4)) →
    ∃ (v0 : (c : Dev Cert.SguSampleIdeal.nD) → Buf (Elt Ideal) ((c.tc : Thread Cert.SguSampleIdeal.nD Cert.SguSampleIdeal.τ).loc Cert.SguSampleIdeal.main_v12_0)) (v1 : (c : Dev Cert.SguSampleIdeal.nD) → Buf (Elt Ideal) ((c.tc : Thread Cert.SguSampleIdeal.nD Cert.SguSampleIdeal.τ).loc Cert.SguSampleIdeal.main_v12_1)),
      θ_run (Cert.SguSampleIdeal.defs (F := Ideal)) (onTc (τ := Cert.SguSampleIdeal.τ) (Cert.SguSampleIdeal.main (F := Ideal))) ⟨m, fun _ => 0, g⟩ (fun r => ∀ c : Dev Cert.SguSampleIdeal.nD,
          r.2.mem ((c.tc : Thread Cert.SguSampleIdeal.nD Cert.SguSampleIdeal.τ).loc Cert.SguSampleIdeal.main_v12_0) = v0 c
          ∧ r.2.mem ((c.tc : Thread Cert.SguSampleIdeal.nD Cert.SguSampleIdeal.τ).loc Cert.SguSampleIdeal.main_v12_1) = v1 c
          ∧ r.2.mem ((c.tc : Thread Cert.SguSampleIdeal.nD Cert.SguSampleIdeal.τ).loc Cert.SguSampleIdeal.main_arg0) = m ((c.tc : Thread Cert.SguSampleIdeal.nD Cert.SguSampleIdeal.τ).loc Cert.SguSampleIdeal.main_arg0)
          ∧ r.2.mem ((c.tc : Thread Cert.SguSampleIdeal.nD Cert.SguSampleIdeal.τ).loc Cert.SguSampleIdeal.main_arg1) = m ((c.tc : Thread Cert.SguSampleIdeal.nD Cert.SguSampleIdeal.τ).loc Cert.SguSampleIdeal.main_arg1)
          ∧ r.2.mem ((c.tc : Thread Cert.SguSampleIdeal.nD Cert.SguSampleIdeal.τ).loc Cert.SguSampleIdeal.main_arg2) = m ((c.tc : Thread Cert.SguSampleIdeal.nD Cert.SguSampleIdeal.τ).loc Cert.SguSampleIdeal.main_arg2)
          ∧ r.2.mem ((c.tc : Thread Cert.SguSampleIdeal.nD Cert.SguSampleIdeal.τ).loc Cert.SguSampleIdeal.main_arg3) = m ((c.tc : Thread Cert.SguSampleIdeal.nD Cert.SguSampleIdeal.τ).loc Cert.SguSampleIdeal.main_arg3)
          ∧ r.2.mem ((c.tc : Thread Cert.SguSampleIdeal.nD Cert.SguSampleIdeal.τ).loc Cert.SguSampleIdeal.main_arg4) = m ((c.tc : Thread Cert.SguSampleIdeal.nD Cert.SguSampleIdeal.τ).loc Cert.SguSampleIdeal.main_arg4))
      ∧ θ_run (Cert.SguSampleRefIdeal.defs (F := Ideal)) (onTc (τ := Cert.SguSampleRefIdeal.τ) (Cert.SguSampleRefIdeal.main (F := Ideal))) ⟨m', fun _ => 0, g'⟩ (fun r => ∀ c : Dev Cert.SguSampleRefIdeal.nD,
          r.2.mem ((c.tc : Thread Cert.SguSampleRefIdeal.nD Cert.SguSampleRefIdeal.τ).loc Cert.SguSampleRefIdeal.main_v71) = v0 c
          ∧ r.2.mem ((c.tc : Thread Cert.SguSampleRefIdeal.nD Cert.SguSampleRefIdeal.τ).loc Cert.SguSampleRefIdeal.main_v72) = v1 c
          ∧ r.2.mem ((c.tc : Thread Cert.SguSampleRefIdeal.nD Cert.SguSampleRefIdeal.τ).loc Cert.SguSampleRefIdeal.main_arg0) = m' ((c.tc : Thread Cert.SguSampleRefIdeal.nD Cert.SguSampleRefIdeal.τ).loc Cert.SguSampleRefIdeal.main_arg0)
          ∧ r.2.mem ((c.tc : Thread Cert.SguSampleRefIdeal.nD Cert.SguSampleRefIdeal.τ).loc Cert.SguSampleRefIdeal.main_arg1) = m' ((c.tc : Thread Cert.SguSampleRefIdeal.nD Cert.SguSampleRefIdeal.τ).loc Cert.SguSampleRefIdeal.main_arg1)
          ∧ r.2.mem ((c.tc : Thread Cert.SguSampleRefIdeal.nD Cert.SguSampleRefIdeal.τ).loc Cert.SguSampleRefIdeal.main_arg2) = m' ((c.tc : Thread Cert.SguSampleRefIdeal.nD Cert.SguSampleRefIdeal.τ).loc Cert.SguSampleRefIdeal.main_arg2)
          ∧ r.2.mem ((c.tc : Thread Cert.SguSampleRefIdeal.nD Cert.SguSampleRefIdeal.τ).loc Cert.SguSampleRefIdeal.main_arg3) = m' ((c.tc : Thread Cert.SguSampleRefIdeal.nD Cert.SguSampleRefIdeal.τ).loc Cert.SguSampleRefIdeal.main_arg3)
          ∧ r.2.mem ((c.tc : Thread Cert.SguSampleRefIdeal.nD Cert.SguSampleRefIdeal.τ).loc Cert.SguSampleRefIdeal.main_arg4) = m' ((c.tc : Thread Cert.SguSampleRefIdeal.nD Cert.SguSampleRefIdeal.τ).loc Cert.SguSampleRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v34) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)
      ∧ m' ((c.tc : Thread Cert.FinalSampleRefIdeal.nD Cert.FinalSampleRefIdeal.τ).loc Cert.FinalSampleRefIdeal.main_arg3) = m ((c.tc : Thread Cert.FinalSampleIdeal.nD Cert.FinalSampleIdeal.τ).loc Cert.FinalSampleIdeal.main_arg3)
      ∧ m' ((c.tc : Thread Cert.FinalSampleRefIdeal.nD Cert.FinalSampleRefIdeal.τ).loc Cert.FinalSampleRefIdeal.main_arg4) = m ((c.tc : Thread Cert.FinalSampleIdeal.nD Cert.FinalSampleIdeal.τ).loc Cert.FinalSampleIdeal.main_arg4)) →
    ∃ (v0 : (c : Dev Cert.FinalSampleIdeal.nD) → Buf (Elt Ideal) ((c.tc : Thread Cert.FinalSampleIdeal.nD Cert.FinalSampleIdeal.τ).loc Cert.FinalSampleIdeal.main_v2)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v2) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
          ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v30) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2)
          ∧ r.2.mem ((c.tc : Thread Cert.FinalSampleRefIdeal.nD Cert.FinalSampleRefIdeal.τ).loc Cert.FinalSampleRefIdeal.main_arg3) = m' ((c.tc : Thread Cert.FinalSampleRefIdeal.nD Cert.FinalSampleRefIdeal.τ).loc Cert.FinalSampleRefIdeal.main_arg3)
          ∧ r.2.mem ((c.tc : Thread Cert.FinalSampleRefIdeal.nD Cert.FinalSampleRefIdeal.τ).loc Cert.FinalSampleRefIdeal.main_arg4) = m' ((c.tc : Thread Cert.FinalSampleRefIdeal.nD Cert.FinalSampleRefIdeal.τ).loc Cert.FinalSampleRefIdeal.main_arg4))

def Claim : Prop :=
  ∃ (hModulation : Cert.Modulation.Facts) (hModulationIdeal : Cert.ModulationIdeal.Facts) (hModulationRefIdeal : Cert.ModulationRefIdeal.Facts) (hInProj : Cert.InProj.Facts) (hInProjIdeal : Cert.InProjIdeal.Facts) (hInProjRefIdeal : Cert.InProjRefIdeal.Facts) (hInProjSample : Cert.InProjSample.Facts) (hInProjSampleIdeal : Cert.InProjSampleIdeal.Facts) (hInProjSampleRefIdeal : Cert.InProjSampleRefIdeal.Facts) (hShift : Cert.Shift.Facts) (hShiftIdeal : Cert.ShiftIdeal.Facts) (hShiftRefIdeal : Cert.ShiftRefIdeal.Facts) (hShiftSample : Cert.ShiftSample.Facts) (hShiftSampleIdeal : Cert.ShiftSampleIdeal.Facts) (hShiftSampleRefIdeal : Cert.ShiftSampleRefIdeal.Facts) (hMerge : Cert.Merge.Facts) (hMergeIdeal : Cert.MergeIdeal.Facts) (hMergeRefIdeal : Cert.MergeRefIdeal.Facts) (hMergeSample : Cert.MergeSample.Facts) (hMergeSampleIdeal : Cert.MergeSampleIdeal.Facts) (hMergeSampleRefIdeal : Cert.MergeSampleRefIdeal.Facts) (hOutLn : Cert.OutLn.Facts) (hOutLnIdeal : Cert.OutLnIdeal.Facts) (hOutLnRefIdeal : Cert.OutLnRefIdeal.Facts) (hOutLnSample : Cert.OutLnSample.Facts) (hOutLnSampleIdeal : Cert.OutLnSampleIdeal.Facts) (hOutLnSampleRefIdeal : Cert.OutLnSampleRefIdeal.Facts) (hScanSample : Cert.ScanSample.Facts) (hScanSampleIdeal : Cert.ScanSampleIdeal.Facts) (hScanSampleRefIdeal : Cert.ScanSampleRefIdeal.Facts) (hSguSample : Cert.SguSample.Facts) (hSguSampleIdeal : Cert.SguSampleIdeal.Facts) (hSguSampleRefIdeal : Cert.SguSampleRefIdeal.Facts) (hFinal : Cert.Final.Facts) (hFinalIdeal : Cert.FinalIdeal.Facts) (hFinalRefIdeal : Cert.FinalRefIdeal.Facts) (hFinalSample : Cert.FinalSample.Facts) (hFinalSampleIdeal : Cert.FinalSampleIdeal.Facts) (hFinalSampleRefIdeal : Cert.FinalSampleRefIdeal.Facts),
    quiescent_Modulation (hModulation := hModulation)
    ∧ quiescent_ModulationIdeal (hModulationIdeal := hModulationIdeal)
    ∧ quiescent_ModulationRefIdeal (hModulationRefIdeal := hModulationRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_Shift (hShift := hShift)
    ∧ quiescent_ShiftIdeal (hShiftIdeal := hShiftIdeal)
    ∧ quiescent_ShiftRefIdeal (hShiftRefIdeal := hShiftRefIdeal)
    ∧ quiescent_ShiftSample (hShiftSample := hShiftSample)
    ∧ quiescent_ShiftSampleIdeal (hShiftSampleIdeal := hShiftSampleIdeal)
    ∧ quiescent_ShiftSampleRefIdeal (hShiftSampleRefIdeal := hShiftSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_OutLnSample (hOutLnSample := hOutLnSample)
    ∧ quiescent_OutLnSampleIdeal (hOutLnSampleIdeal := hOutLnSampleIdeal)
    ∧ quiescent_OutLnSampleRefIdeal (hOutLnSampleRefIdeal := hOutLnSampleRefIdeal)
    ∧ quiescent_ScanSample (hScanSample := hScanSample)
    ∧ quiescent_ScanSampleIdeal (hScanSampleIdeal := hScanSampleIdeal)
    ∧ quiescent_ScanSampleRefIdeal (hScanSampleRefIdeal := hScanSampleRefIdeal)
    ∧ quiescent_SguSample (hSguSample := hSguSample)
    ∧ quiescent_SguSampleIdeal (hSguSampleIdeal := hSguSampleIdeal)
    ∧ quiescent_SguSampleRefIdeal (hSguSampleRefIdeal := hSguSampleRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ preserves_Modulation_ModulationIdeal
    ∧ algebraic_ModulationIdeal_ModulationRefIdeal (hModulationIdeal := hModulationIdeal) (hModulationRefIdeal := hModulationRefIdeal)
    ∧ preserves_InProj_InProjIdeal
    ∧ algebraic_InProjIdeal_InProjRefIdeal (hInProjIdeal := hInProjIdeal) (hInProjRefIdeal := hInProjRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_Shift_ShiftIdeal
    ∧ algebraic_ShiftIdeal_ShiftRefIdeal (hShiftIdeal := hShiftIdeal) (hShiftRefIdeal := hShiftRefIdeal)
    ∧ preserves_ShiftSample_ShiftSampleIdeal
    ∧ algebraic_ShiftSampleIdeal_ShiftSampleRefIdeal (hShiftSampleIdeal := hShiftSampleIdeal) (hShiftSampleRefIdeal := hShiftSampleRefIdeal)
    ∧ preserves_Merge_MergeIdeal
    ∧ algebraic_MergeIdeal_MergeRefIdeal (hMergeIdeal := hMergeIdeal) (hMergeRefIdeal := hMergeRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_OutLn_OutLnIdeal
    ∧ algebraic_OutLnIdeal_OutLnRefIdeal (hOutLnIdeal := hOutLnIdeal) (hOutLnRefIdeal := hOutLnRefIdeal)
    ∧ preserves_OutLnSample_OutLnSampleIdeal
    ∧ algebraic_OutLnSampleIdeal_OutLnSampleRefIdeal (hOutLnSampleIdeal := hOutLnSampleIdeal) (hOutLnSampleRefIdeal := hOutLnSampleRefIdeal)
    ∧ preserves_ScanSample_ScanSampleIdeal
    ∧ algebraic_ScanSampleIdeal_ScanSampleRefIdeal (hScanSampleIdeal := hScanSampleIdeal) (hScanSampleRefIdeal := hScanSampleRefIdeal)
    ∧ preserves_SguSample_SguSampleIdeal
    ∧ algebraic_SguSampleIdeal_SguSampleRefIdeal (hSguSampleIdeal := hSguSampleIdeal) (hSguSampleRefIdeal := hSguSampleRefIdeal)
    ∧ preserves_Final_FinalIdeal
    ∧ algebraic_FinalIdeal_FinalRefIdeal (hFinalIdeal := hFinalIdeal) (hFinalRefIdeal := hFinalRefIdeal)
    ∧ preserves_FinalSample_FinalSampleIdeal
    ∧ algebraic_FinalSampleIdeal_FinalSampleRefIdeal (hFinalSampleIdeal := hFinalSampleIdeal) (hFinalSampleRefIdeal := hFinalSampleRefIdeal)
-- ==== Modulation.lean ====
abbrev S4x2048 : Shape := ⟨2, ![4, 2048]⟩
abbrev S128x2048 : Shape := ⟨2, ![128, 2048]⟩
abbrev S2048x12288 : Shape := ⟨2, ![2048, 12288]⟩
abbrev S12288 : Shape := ⟨1, ![12288]⟩
abbrev S132x2048 : Shape := ⟨2, ![132, 2048]⟩
abbrev S_ : Shape := ⟨0, ![]⟩
abbrev S136x2048 : Shape := ⟨2, ![136, 2048]⟩
abbrev S1x12288 : Shape := ⟨2, ![1, 12288]⟩
abbrev S136x12288 : Shape := ⟨2, ![136, 12288]⟩
abbrev S2048x1536 : Shape := ⟨2, ![2048, 1536]⟩
abbrev S1x1536 : Shape := ⟨2, ![1, 1536]⟩
abbrev S136x1536 : Shape := ⟨2, ![136, 1536]⟩
abbrev S4x12288 : Shape := ⟨2, ![4, 12288]⟩
abbrev S128x12288 : Shape := ⟨2, ![128, 12288]⟩

abbrev nBuf : Space → Nat
  | .hbm => 12
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S2048x12288, .f32⟩
  | .hbm, ⟨3, _⟩ => ⟨S12288, .f32⟩
  | .hbm, ⟨4, _⟩ => ⟨S132x2048, .f32⟩
  | .hbm, ⟨5, _⟩ => ⟨S_, .i32⟩
  | .hbm, ⟨6, _⟩ => ⟨S_, .f32⟩
  | .hbm, ⟨7, _⟩ => ⟨S136x2048, .f32⟩
  | .hbm, ⟨8, _⟩ => ⟨S1x12288, .f32⟩
  | .hbm, ⟨9, _⟩ => ⟨S136x12288, .f32⟩
  | .hbm, ⟨10, _⟩ => ⟨S4x12288, .f32⟩
  | .hbm, ⟨11, _⟩ => ⟨S128x12288, .f32⟩
  | .local _ .vmem, ⟨0, _⟩ => ⟨S136x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S136x1536, .f32⟩
  | .local _ .vmem, ⟨6, _⟩ => ⟨S136x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S4x2048 : Shape := ⟨2, ![4, 2048]⟩
abbrev S128x2048 : Shape := ⟨2, ![128, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩
abbrev S128x12288 : Shape := ⟨2, ![128, 12288]⟩

abbrev nBuf : Space → Nat
  | .hbm => 30
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S2048x12288, .f32⟩
  | .hbm, ⟨3, _⟩ => ⟨S12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288, .f32⟩
  | .hbm, ⟨14, _⟩ => ⟨S1x12288, .f32⟩
  | .hbm, ⟨15, _⟩ => ⟨S4x12288, .f32⟩
  | .hbm, ⟨16, _⟩ => ⟨S4x12288, .f32⟩
  | .hbm, ⟨17, _⟩ => ⟨S128x2048, .f32⟩
  | .hbm, ⟨18, _⟩ => ⟨S128x2048, .f32⟩
  | .hbm, ⟨19, _⟩ => ⟨S_, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x12288, .f32⟩
  | .hbm, ⟨27, _⟩ => ⟨S1x12288, .f32⟩
  | .hbm, ⟨28, _⟩ => ⟨S128x12288, .f32⟩
  | .hbm, ⟨29, _⟩ => ⟨S128x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== InProj.lean ====
abbrev S8192x2048 : Shape := ⟨2, ![8192, 2048]⟩
abbrev S4x1x12288 : Shape := ⟨3, ![4, 1, 12288]⟩
abbrev S12800x2048 : Shape := ⟨2, ![12800, 2048]⟩
abbrev S8192x12800 : Shape := ⟨2, ![8192, 12800]⟩
abbrev S1024x2048 : Shape := ⟨2, ![1024, 2048]⟩
abbrev S1x1x2048 : Shape := ⟨3, ![1, 1, 2048]⟩
abbrev S1280x2048 : Shape := ⟨2, ![1280, 2048]⟩
abbrev S1024x1280 : Shape := ⟨2, ![1024, 1280]⟩
abbrev S1x2048 : Shape := ⟨2, ![1, 2048]⟩

abbrev nBuf : Space → Nat
  | .hbm => 4
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x1x12288, .f32⟩
  | .hbm, ⟨2, _⟩ => ⟨S12800x2048, .bf16⟩
  | .hbm, ⟨3, _⟩ => ⟨S8192x12800, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1280x2048, .bf16⟩
  | .local _ .vmem, ⟨7, _⟩ => ⟨S1280x2048, .bf16⟩
  | .local _ .vmem, ⟨8, _⟩ => ⟨S1024x1280, .f32⟩
  | .local _ .vmem, ⟨9, _⟩ => ⟨S1024x1280, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x2048 : Shape := ⟨2, ![8192, 2048]⟩
abbrev S4x1x12288 : Shape := ⟨3, ![4, 1, 12288]⟩
abbrev S12800x2048 : Shape := ⟨2, ![12800, 2048]⟩
abbrev S4x1x2048 : Shape := ⟨3, ![4, 1, 2048]⟩
abbrev S4x2048x2048 : Shape := ⟨3, ![4, 2048, 2048]⟩
abbrev S_ : Shape := ⟨0, ![]⟩
abbrev S2048x12800 : Shape := ⟨2, ![2048, 12800]⟩
abbrev S8192x12800 : Shape := ⟨2, ![8192, 12800]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x12288, .f32⟩
  | .hbm, ⟨2, _⟩ => ⟨S12800x2048, .bf16⟩
  | .hbm, ⟨3, _⟩ => ⟨S4x1x2048, .f32⟩
  | .hbm, ⟨4, _⟩ => ⟨S4x1x2048, .f32⟩
  | .hbm, ⟨5, _⟩ => ⟨S4x2048x2048, .f32⟩
  | .hbm, ⟨6, _⟩ => ⟨S_, .f32⟩
  | .hbm, ⟨7, _⟩ => ⟨S4x1x2048, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S8192x2048, .f32⟩
  | .hbm, ⟨14, _⟩ => ⟨S12800x2048, .f32⟩
  | .hbm, ⟨15, _⟩ => ⟨S2048x12800, .f32⟩
  | .hbm, ⟨16, _⟩ => ⟨S8192x12800, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== InProjSample.lean ====
abbrev S128x2048 : Shape := ⟨2, ![128, 2048]⟩
abbrev S128x12288 : Shape := ⟨2, ![128, 12288]⟩
abbrev S12800x2048 : Shape := ⟨2, ![12800, 2048]⟩
abbrev S128x12800 : Shape := ⟨2, ![128, 12800]⟩
abbrev S1280x2048 : Shape := ⟨2, ![1280, 2048]⟩
abbrev S128x1280 : Shape := ⟨2, ![128, 1280]⟩

abbrev nBuf : Space → Nat
  | .hbm => 4
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S128x12288, .f32⟩
  | .hbm, ⟨2, _⟩ => ⟨S12800x2048, .bf16⟩
  | .hbm, ⟨3, _⟩ => ⟨S128x12800, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S1280x2048, .bf16⟩
  | .local _ .vmem, ⟨4, _⟩ => ⟨S1280x2048, .bf16⟩
  | .local _ .vmem, ⟨5, _⟩ => ⟨S128x1280, .f32⟩
  | .local _ .vmem, ⟨6, _⟩ => ⟨S128x1280, .f32⟩
  | .local _ .vmem, ⟨7, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjSampleRefIdeal.lean ====
abbrev S128x2048 : Shape := ⟨2, ![128, 2048]⟩
abbrev S128x12288 : Shape := ⟨2, ![128, 12288]⟩
abbrev S12800x2048 : Shape := ⟨2, ![12800, 2048]⟩
abbrev S_ : Shape := ⟨0, ![]⟩
abbrev S2048x12800 : Shape := ⟨2, ![2048, 12800]⟩
abbrev S128x12800 : Shape := ⟨2, ![128, 12800]⟩

abbrev nBuf : Space → Nat
  | .hbm => 13
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x12288, .f32⟩
  | .hbm, ⟨2, _⟩ => ⟨S12800x2048, .bf16⟩
  | .hbm, ⟨3, _⟩ => ⟨S128x2048, .f32⟩
  | .hbm, ⟨4, _⟩ => ⟨S128x2048, .f32⟩
  | .hbm, ⟨5, _⟩ => ⟨S_, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S12800x2048, .f32⟩
  | .hbm, ⟨11, _⟩ => ⟨S2048x12800, .f32⟩
  | .hbm, ⟨12, _⟩ => ⟨S128x12800, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Shift.lean ====
abbrev S8192x2048 : Shape := ⟨2, ![8192, 2048]⟩
abbrev S4x1x12288 : Shape := ⟨3, ![4, 1, 12288]⟩
abbrev S2048x12736 : Shape := ⟨2, ![2048, 12736]⟩
abbrev S12736x2048 : Shape := ⟨2, ![12736, 2048]⟩
abbrev S448x2048 : Shape := ⟨2, ![448, 2048]⟩
abbrev S_ : Shape := ⟨0, ![]⟩
abbrev S512x2048 : Shape := ⟨2, ![512, 2048]⟩
abbrev S6144x2048 : Shape := ⟨2, ![6144, 2048]⟩
abbrev S3x2048x2048 : Shape := ⟨3, ![3, 2048, 2048]⟩
abbrev S3x32x64x2048 : Shape := ⟨4, ![3, 32, 64, 2048]⟩
abbrev S3x64x32x2048 : Shape := ⟨4, ![3, 64, 32, 2048]⟩
abbrev S2048x2048 : Shape := ⟨2, ![2048, 2048]⟩
abbrev S1024x2048 : Shape := ⟨2, ![1024, 2048]⟩
abbrev S12800x2048 : Shape := ⟨2, ![12800, 2048]⟩
abbrev S8192x12800 : Shape := ⟨2, ![8192, 12800]⟩
abbrev S1x1x2048 : Shape := ⟨3, ![1, 1, 2048]⟩
abbrev S1280x2048 : Shape := ⟨2, ![1280, 2048]⟩
abbrev S1024x1280 : Shape := ⟨2, ![1024, 1280]⟩
abbrev S1x2048 : Shape := ⟨2, ![1, 2048]⟩
abbrev S4x2048x12800 : Shape := ⟨3, ![4, 2048, 12800]⟩
abbrev S4x1x12800 : Shape := ⟨3, ![4, 1, 12800]⟩
abbrev S4x12800 : Shape := ⟨2, ![4, 12800]⟩
abbrev S4x6144 : Shape := ⟨2, ![4, 6144]⟩
abbrev S4x3x2048 : Shape := ⟨3, ![4, 3, 2048]⟩
abbrev S4x3x64x32 : Shape := ⟨4, ![4, 3, 64, 32]⟩
abbrev S4x3x32x64 : Shape := ⟨4, ![4, 3, 32, 64]⟩
abbrev S4x448 : Shape := ⟨2, ![4, 448]⟩
abbrev S4x6592 : Shape := ⟨2, ![4, 6592]⟩

abbrev nBuf : Space → Nat
  | .hbm => 32
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x1x12288, .f32⟩
  | .hbm, ⟨2, _⟩ => ⟨S2048x12736, .f32⟩
  | .hbm, ⟨3, _⟩ => ⟨S12736x2048, .f32⟩
  | .hbm, ⟨4, _⟩ => ⟨S448x2048, .f32⟩
  | .hbm, ⟨5, _⟩ => ⟨S_, .i32⟩
  | .hbm, ⟨6, _⟩ => ⟨S_, .f32⟩
  | .hbm, ⟨7, _⟩ => ⟨S512x2048, .f32⟩
  | .hbm, ⟨8, _⟩ => ⟨S6144x2048, .f32⟩
  | .hbm, ⟨9, _⟩ => ⟨S3x2048x2048, .f32⟩
  | .hbm, ⟨10, _⟩ => ⟨S3x32x64x2048, .f32⟩
  | .hbm, ⟨11, _⟩ => ⟨S3x64x32x2048, .f32⟩
  | .hbm, ⟨12, _⟩ => ⟨S3x2048x2048, .f32⟩
  | .hbm, ⟨13, _⟩ => ⟨S6144x2048, .f32⟩
  | .hbm, ⟨14, _⟩ => ⟨S2048x2048, .f32⟩
  | .hbm, ⟨15, _⟩ => ⟨S2048x2048, .f32⟩
  | .hbm, ⟨16, _⟩ => ⟨S1024x2048, .f32⟩
  | .hbm, ⟨17, _⟩ => ⟨S1024x2048, .f32⟩
  | .hbm, ⟨18, _⟩ => ⟨S12800x2048, .f32⟩
  | .hbm, ⟨19, _⟩ => ⟨S12800x2048, .bf16⟩
  | .hbm, ⟨20, _⟩ => ⟨S8192x12800, .f32⟩
  | .hbm, ⟨21, _⟩ => ⟨S4x2048x12800, .f32⟩
  | .hbm, ⟨22, _⟩ => ⟨S4x1x12800, .f32⟩
  | .hbm, ⟨23, _⟩ => ⟨S4x12800, .f32⟩
  | .hbm, ⟨24, _⟩ => ⟨S4x6144, .f32⟩
  | .hbm, ⟨25, _⟩ => ⟨S4x3x2048, .f32⟩
  | .hbm, ⟨26, _⟩ => ⟨S4x3x64x32, .f32⟩
  | .hbm, ⟨27, _⟩ => ⟨S4x3x32x64, .f32⟩
  | .hbm, ⟨28, _⟩ => ⟨S4x3x2048, .f32⟩
  | .hbm, ⟨29, _⟩ => ⟨S4x6144, .f32⟩
  | .hbm, ⟨30, _⟩ => ⟨S4x448, .f32⟩
  | .hbm, ⟨31, _⟩ => ⟨S4x6592, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1280x2048, .bf16⟩
  | .local _ .vmem, ⟨7, _⟩ => ⟨S1280x2048, .bf16⟩
  | .local _ .vmem, ⟨8, _⟩ => ⟨S1024x1280, .f32⟩
  | .local _ .vmem, ⟨9, _⟩ => ⟨S1024x1280, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftRefIdeal.lean ====
abbrev S8192x2048 : Shape := ⟨2, ![8192, 2048]⟩
abbrev S4x1x12288 : Shape := ⟨3, ![4, 1, 12288]⟩
abbrev S2048x12736 : Shape := ⟨2, ![2048, 12736]⟩
abbrev S4x1x2048 : Shape := ⟨3, ![4, 1, 2048]⟩
abbrev S4x2048x2048 : Shape := ⟨3, ![4, 2048, 2048]⟩
abbrev S_ : Shape := ⟨0, ![]⟩
abbrev S4x2048x12736 : Shape := ⟨3, ![4, 2048, 12736]⟩
abbrev S4x2048x6592 : Shape := ⟨3, ![4, 2048, 6592]⟩
abbrev S4x1x6592 : Shape := ⟨3, ![4, 1, 6592]⟩
abbrev S4x6592 : Shape := ⟨2, ![4, 6592]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x12288, .f32⟩
  | .hbm, ⟨2, _⟩ => ⟨S2048x12736, .f32⟩
  | .hbm, ⟨3, _⟩ => ⟨S4x1x2048, .f32⟩
  | .hbm, ⟨4, _⟩ => ⟨S4x1x2048, .f32⟩
  | .hbm, ⟨5, _⟩ => ⟨S4x2048x2048, .f32⟩
  | .hbm, ⟨6, _⟩ => ⟨S_, .f32⟩
  | .hbm, ⟨7, _⟩ => ⟨S4x1x2048, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x12736, .f32⟩
  | .hbm, ⟨14, _⟩ => ⟨S4x2048x6592, .f32⟩
  | .hbm, ⟨15, _⟩ => ⟨S4x1x6592, .f32⟩
  | .hbm, ⟨16, _⟩ => ⟨S4x6592, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ShiftSample.lean ====
abbrev S128x2048 : Shape := ⟨2, ![128, 2048]⟩
abbrev S128x12288 : Shape := ⟨2, ![128, 12288]⟩
abbrev S2048x12736 : Shape := ⟨2, ![2048, 12736]⟩
abbrev S12736x2048 : Shape := ⟨2, ![12736, 2048]⟩
abbrev S448x2048 : Shape := ⟨2, ![448, 2048]⟩
abbrev S_ : Shape := ⟨0, ![]⟩
abbrev S512x2048 : Shape := ⟨2, ![512, 2048]⟩
abbrev S6144x2048 : Shape := ⟨2, ![6144, 2048]⟩
abbrev S3x2048x2048 : Shape := ⟨3, ![3, 2048, 2048]⟩
abbrev S3x32x64x2048 : Shape := ⟨4, ![3, 32, 64, 2048]⟩
abbrev S3x64x32x2048 : Shape := ⟨4, ![3, 64, 32, 2048]⟩
abbrev S2048x2048 : Shape := ⟨2, ![2048, 2048]⟩
abbrev S1024x2048 : Shape := ⟨2, ![1024, 2048]⟩
abbrev S12800x2048 : Shape := ⟨2, ![12800, 2048]⟩
abbrev S128x12800 : Shape := ⟨2, ![128, 12800]⟩
abbrev S1280x2048 : Shape := ⟨2, ![1280, 2048]⟩
abbrev S128x1280 : Shape := ⟨2, ![128, 1280]⟩
abbrev S128x6144 : Shape := ⟨2, ![128, 6144]⟩
abbrev S128x3x2048 : Shape := ⟨3, ![128, 3, 2048]⟩
abbrev S128x3x64x32 : Shape := ⟨4, ![128, 3, 64, 32]⟩
abbrev S128x3x32x64 : Shape := ⟨4, ![128, 3, 32, 64]⟩
abbrev S128x448 : Shape := ⟨2, ![128, 448]⟩
abbrev S128x6592 : Shape := ⟨2, ![128, 6592]⟩

abbrev nBuf : Space → Nat
  | .hbm => 29
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S128x12288, .f32⟩
  | .hbm, ⟨2, _⟩ => ⟨S2048x12736, .f32⟩
  | .hbm, ⟨3, _⟩ => ⟨S12736x2048, .f32⟩
  | .hbm, ⟨4, _⟩ => ⟨S448x2048, .f32⟩
  | .hbm, ⟨5, _⟩ => ⟨S_, .i32⟩
  | .hbm, ⟨6, _⟩ => ⟨S_, .f32⟩
  | .hbm, ⟨7, _⟩ => ⟨S512x2048, .f32⟩
  | .hbm, ⟨8, _⟩ => ⟨S6144x2048, .f32⟩
  | .hbm, ⟨9, _⟩ => ⟨S3x2048x2048, .f32⟩
  | .hbm, ⟨10, _⟩ => ⟨S3x32x64x2048, .f32⟩
  | .hbm, ⟨11, _⟩ => ⟨S3x64x32x2048, .f32⟩
  | .hbm, ⟨12, _⟩ => ⟨S3x2048x2048, .f32⟩
  | .hbm, ⟨13, _⟩ => ⟨S6144x2048, .f32⟩
  | .hbm, ⟨14, _⟩ => ⟨S2048x2048, .f32⟩
  | .hbm, ⟨15, _⟩ => ⟨S2048x2048, .f32⟩
  | .hbm, ⟨16, _⟩ => ⟨S1024x2048, .f32⟩
  | .hbm, ⟨17, _⟩ => ⟨S1024x2048, .f32⟩
  | .hbm, ⟨18, _⟩ => ⟨S12800x2048, .f32⟩
  | .hbm, ⟨19, _⟩ => ⟨S12800x2048, .bf16⟩
  | .hbm, ⟨20, _⟩ => ⟨S128x12800, .f32⟩
  | .hbm, ⟨21, _⟩ => ⟨S128x6144, .f32⟩
  | .hbm, ⟨22, _⟩ => ⟨S128x3x2048, .f32⟩
  | .hbm, ⟨23, _⟩ => ⟨S128x3x64x32, .f32⟩
  | .hbm, ⟨24, _⟩ => ⟨S128x3x32x64, .f32⟩
  | .hbm, ⟨25, _⟩ => ⟨S128x3x2048, .f32⟩
  | .hbm, ⟨26, _⟩ => ⟨S128x6144, .f32⟩
  | .hbm, ⟨27, _⟩ => ⟨S128x448, .f32⟩
  | .hbm, ⟨28, _⟩ => ⟨S128x6592, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S1280x2048, .bf16⟩
  | .local _ .vmem, ⟨4, _⟩ => ⟨S1280x2048, .bf16⟩
  | .local _ .vmem, ⟨5, _⟩ => ⟨S128x1280, .f32⟩
  | .local _ .vmem, ⟨6, _⟩ => ⟨S128x1280, .f32⟩
  | .local _ .vmem, ⟨7, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftSampleRefIdeal.lean ====
abbrev S128x2048 : Shape := ⟨2, ![128, 2048]⟩
abbrev S128x12288 : Shape := ⟨2, ![128, 12288]⟩
abbrev S2048x12736 : Shape := ⟨2, ![2048, 12736]⟩
abbrev S_ : Shape := ⟨0, ![]⟩
abbrev S128x12736 : Shape := ⟨2, ![128, 12736]⟩
abbrev S128x6592 : Shape := ⟨2, ![128, 6592]⟩

abbrev nBuf : Space → Nat
  | .hbm => 12
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x12288, .f32⟩
  | .hbm, ⟨2, _⟩ => ⟨S2048x12736, .f32⟩
  | .hbm, ⟨3, _⟩ => ⟨S128x2048, .f32⟩
  | .hbm, ⟨4, _⟩ => ⟨S128x2048, .f32⟩
  | .hbm, ⟨5, _⟩ => ⟨S_, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S128x12736, .f32⟩
  | .hbm, ⟨11, _⟩ => ⟨S128x6592, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S8192x12800 : Shape := ⟨2, ![8192, 12800]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .bf16⟩
  | .hbm, ⟨3, _⟩ => ⟨S8192x12800, .f32⟩
  | .hbm, ⟨4, _⟩ => ⟨S2048x2048, .bf16⟩
  | .hbm, ⟨5, _⟩ => ⟨S1024x2048, .bf16⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8192x2048 : Shape := ⟨2, ![8192, 2048]⟩
abbrev S8192x1024 : Shape := ⟨2, ![8192, 1024]⟩
abbrev S8192x12800 : Shape := ⟨2, ![8192, 12800]⟩
abbrev S2048x2048 : Shape := ⟨2, ![2048, 2048]⟩
abbrev S1024x2048 : Shape := ⟨2, ![1024, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .bf16⟩
  | .hbm, ⟨3, _⟩ => ⟨S8192x12800, .f32⟩
  | .hbm, ⟨4, _⟩ => ⟨S2048x2048, .bf16⟩
  | .hbm, ⟨5, _⟩ => ⟨S1024x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S2048x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1024x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== MergeSample.lean ====
abbrev S128x2048 : Shape := ⟨2, ![128, 2048]⟩
abbrev S128x1024 : Shape := ⟨2, ![128, 1024]⟩
abbrev S128x12800 : Shape := ⟨2, ![128, 12800]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x1024, .bf16⟩
  | .hbm, ⟨3, _⟩ => ⟨S128x12800, .f32⟩
  | .hbm, ⟨4, _⟩ => ⟨S2048x2048, .bf16⟩
  | .hbm, ⟨5, _⟩ => ⟨S1024x2048, .bf16⟩
  | .hbm, ⟨6, _⟩ => ⟨S128x2048, .bf16⟩
  | .local _ .vmem, ⟨0, _⟩ => ⟨S128x2048, .f32⟩
  | .local _ .vmem, ⟨1, _⟩ => ⟨S128x2048, .f32⟩
  | .local _ .vmem, ⟨2, _⟩ => ⟨S128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .bf16⟩
  | .local _ .vmem, ⟨12, _⟩ => ⟨S128x1024, .bf16⟩
  | .local _ .vmem, ⟨13, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeSampleRefIdeal.lean ====
abbrev S128x2048 : Shape := ⟨2, ![128, 2048]⟩
abbrev S128x1024 : Shape := ⟨2, ![128, 1024]⟩
abbrev S128x12800 : Shape := ⟨2, ![128, 12800]⟩
abbrev S2048x2048 : Shape := ⟨2, ![2048, 2048]⟩
abbrev S1024x2048 : Shape := ⟨2, ![1024, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x1024, .bf16⟩
  | .hbm, ⟨3, _⟩ => ⟨S128x12800, .f32⟩
  | .hbm, ⟨4, _⟩ => ⟨S2048x2048, .bf16⟩
  | .hbm, ⟨5, _⟩ => ⟨S1024x2048, .bf16⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S2048x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128x2048, .f32⟩
  | .hbm, ⟨24, _⟩ => ⟨S128x2048, .f32⟩
  | .hbm, ⟨25, _⟩ => ⟨S_, .f32⟩
  | .hbm, ⟨26, _⟩ => ⟨S128x2048, .f32⟩
  | .hbm, ⟨27, _⟩ => ⟨S128x2048, .f32⟩
  | .hbm, ⟨28, _⟩ => ⟨S128x1024, .f32⟩
  | .hbm, ⟨29, _⟩ => ⟨S1024x2048, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S128x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== OutLn.lean ====
abbrev S8192x2048 : Shape := ⟨2, ![8192, 2048]⟩
abbrev S4x1x12288 : Shape := ⟨3, ![4, 1, 12288]⟩
abbrev S2048x2048 : Shape := ⟨2, ![2048, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x1x12288, .f32⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutLnRefIdeal.lean ====
abbrev S8192x2048 : Shape := ⟨2, ![8192, 2048]⟩
abbrev S4x1x12288 : Shape := ⟨3, ![4, 1, 12288]⟩
abbrev S2048x2048 : Shape := ⟨2, ![2048, 2048]⟩
abbrev S1x2048 : Shape := ⟨2, ![1, 2048]⟩
abbrev S4x1x2048 : Shape := ⟨3, ![4, 1, 2048]⟩
abbrev S4x2048x2048 : Shape := ⟨3, ![4, 2048, 2048]⟩
abbrev S_ : Shape := ⟨0, ![]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x1x12288, .f32⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | .hbm, ⟨60, _⟩ => ⟨S2048x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | .hbm, ⟨64, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== OutLnSample.lean ====
abbrev S128x2048 : Shape := ⟨2, ![128, 2048]⟩
abbrev S128x12288 : Shape := ⟨2, ![128, 12288]⟩
abbrev S2048x2048 : Shape := ⟨2, ![2048, 2048]⟩
abbrev S1x2048 : Shape := ⟨2, ![1, 2048]⟩
abbrev S128 : Shape := ⟨1, ![128]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S128x12288, .f32⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S128x2048, .f32⟩
  | .hbm, ⟨8, _⟩ => ⟨S128x2048, .bf16⟩
  | .hbm, ⟨9, _⟩ => ⟨S128x2048, .bf16⟩
  | .local _ .vmem, ⟨0, _⟩ => ⟨S128x2048, .bf16⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== OutLnSampleRefIdeal.lean ====
abbrev S128x2048 : Shape := ⟨2, ![128, 2048]⟩
abbrev S128x12288 : Shape := ⟨2, ![128, 12288]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S128 : Shape := ⟨1, ![128]⟩
abbrev S128x1 : Shape := ⟨2, ![128, 1]⟩

abbrev nBuf : Space → Nat
  | .hbm => 58
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S128x12288, .f32⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S2048x2048, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S128x2048, .f32⟩
  | .hbm, ⟨36, _⟩ => ⟨S128x2048, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x2048, .f32⟩
  | .hbm, ⟨42, _⟩ => ⟨S128x2048, .f32⟩
  | .hbm, ⟨43, _⟩ => ⟨S1x2048, .f32⟩
  | .hbm, ⟨44, _⟩ => ⟨S128x2048, .f32⟩
  | .hbm, ⟨45, _⟩ => ⟨S128x2048, .f32⟩
  | .hbm, ⟨46, _⟩ => ⟨S1x2048, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S2048x2048, .f32⟩
  | .hbm, ⟨55, _⟩ => ⟨S128x2048, .f32⟩
  | .hbm, ⟨56, _⟩ => ⟨S128x2048, .bf16⟩
  | .hbm, ⟨57, _⟩ => ⟨S128x2048, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== ScanSample.lean ====
abbrev S128x2048 : Shape := ⟨2, ![128, 2048]⟩
abbrev S128x32x64x64 : Shape := ⟨4, ![128, 32, 64, 64]⟩
abbrev S2048 : Shape := ⟨1, ![2048]⟩
abbrev S32x64 : Shape := ⟨2, ![32, 64]⟩
abbrev S32x64x64x128 : Shape := ⟨4, ![32, 64, 64, 128]⟩
abbrev S128x64x32 : Shape := ⟨3, ![128, 64, 32]⟩
abbrev S64x32x128 : Shape := ⟨3, ![64, 32, 128]⟩
abbrev S64x1x4096 : Shape := ⟨3, ![64, 1, 4096]⟩
abbrev S64x32 : Shape := ⟨2, ![64, 32]⟩
abbrev S64x4096 : Shape := ⟨2, ![64, 4096]⟩
abbrev S64x1x128 : Shape := ⟨3, ![64, 1, 128]⟩
abbrev S1x64x64x128 : Shape := ⟨4, ![1, 64, 64, 128]⟩
abbrev S64x64x128 : Shape := ⟨3, ![64, 64, 128]⟩
abbrev S1x128 : Shape := ⟨2, ![1, 128]⟩
abbrev S1x64x128 : Shape := ⟨3, ![1, 64, 128]⟩
abbrev S1x1x128 : Shape := ⟨3, ![1, 1, 128]⟩
abbrev S64x128 : Shape := ⟨2, ![64, 128]⟩
abbrev S8x128 : Shape := ⟨2, ![8, 128]⟩

abbrev nBuf : Space → Nat
  | .hbm => 57
  | .vmem => 32
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x32x64x64, .f32⟩
  | .hbm, ⟨6, _⟩ => ⟨S2048, .f32⟩
  | .hbm, ⟨7, _⟩ => ⟨S2048, .f32⟩
  | .hbm, ⟨8, _⟩ => ⟨S32x64, .f32⟩
  | .hbm, ⟨9, _⟩ => ⟨S2048, .f32⟩
  | .hbm, ⟨10, _⟩ => ⟨S2048, .f32⟩
  | .hbm, ⟨11, _⟩ => ⟨S32x64x64x128, .f32⟩
  | .hbm, ⟨12, _⟩ => ⟨S128x64x32, .f32⟩
  | .hbm, ⟨13, _⟩ => ⟨S64x32x128, .f32⟩
  | .hbm, ⟨14, _⟩ => ⟨S64x1x4096, .f32⟩
  | .hbm, ⟨15, _⟩ => ⟨S128x64x32, .f32⟩
  | .hbm, ⟨16, _⟩ => ⟨S64x32x128, .f32⟩
  | .hbm, ⟨17, _⟩ => ⟨S64x1x4096, .f32⟩
  | .hbm, ⟨18, _⟩ => ⟨S128x64x32, .f32⟩
  | .hbm, ⟨19, _⟩ => ⟨S64x32x128, .f32⟩
  | .hbm, ⟨20, _⟩ => ⟨S64x1x4096, .f32⟩
  | .hbm, ⟨21, _⟩ => ⟨S128x64x32, .f32⟩
  | .hbm, ⟨22, _⟩ => ⟨S64x32x128, .f32⟩
  | .hbm, ⟨23, _⟩ => ⟨S64x1x4096, .f32⟩
  | .hbm, ⟨24, _⟩ => ⟨S128x64x32, .f32⟩
  | .hbm, ⟨25, _⟩ => ⟨S64x32x128, .f32⟩
  | .hbm, ⟨26, _⟩ => ⟨S64x1x4096, .f32⟩
  | .hbm, ⟨27, _⟩ => ⟨S32x64, .f32⟩
  | .hbm, ⟨28, _⟩ => ⟨S64x32, .f32⟩
  | .hbm, ⟨29, _⟩ => ⟨S64x32x128, .f32⟩
  | .hbm, ⟨30, _⟩ => ⟨S64x4096, .f32⟩
  | .hbm, ⟨31, _⟩ => ⟨S64x1x4096, .f32⟩
  | .hbm, ⟨32, _⟩ => ⟨S32x64, .f32⟩
  | .hbm, ⟨33, _⟩ => ⟨S64x32, .f32⟩
  | .hbm, ⟨34, _⟩ => ⟨S64x32x128, .f32⟩
  | .hbm, ⟨35, _⟩ => ⟨S64x4096, .f32⟩
  | .hbm, ⟨36, _⟩ => ⟨S64x1x4096, .f32⟩
  | .hbm, ⟨37, _⟩ => ⟨S64x32, .f32⟩
  | .hbm, ⟨38, _⟩ => ⟨S64x32x128, .f32⟩
  | .hbm, ⟨39, _⟩ => ⟨S64x4096, .f32⟩
  | .hbm, ⟨40, _⟩ => ⟨S64x1x4096, .f32⟩
  | .hbm, ⟨41, _⟩ => ⟨S32x64, .f32⟩
  | .hbm, ⟨42, _⟩ => ⟨S64x32, .f32⟩
  | .hbm, ⟨43, _⟩ => ⟨S64x32x128, .f32⟩
  | .hbm, ⟨44, _⟩ => ⟨S64x4096, .f32⟩
  | .hbm, ⟨45, _⟩ => ⟨S64x1x4096, .f32⟩
  | .hbm, ⟨46, _⟩ => ⟨S32x64, .f32⟩
  | .hbm, ⟨47, _⟩ => ⟨S64x32, .f32⟩
  | .hbm, ⟨48, _⟩ => ⟨S64x32x128, .f32⟩
  | .hbm, ⟨49, _⟩ => ⟨S64x4096, .f32⟩
  | .hbm, ⟨50, _⟩ => ⟨S64x1x4096, .f32⟩
  | .hbm, ⟨51, _⟩ => ⟨S64x1x4096, .f32⟩
  | .hbm, ⟨52, _⟩ => ⟨S32x64x64x128, .f32⟩
  | .hbm, ⟨53, _⟩ => ⟨S64x32x128, .f32⟩
  | .hbm, ⟨54, _⟩ => ⟨S128x64x32, .f32⟩
  | .hbm, ⟨55, _⟩ => ⟨S128x2048, .f32⟩
  | .hbm, ⟨56, _⟩ => ⟨S128x32x64x64, .f32⟩
  | .local _ .vmem, ⟨0, _⟩ => ⟨S64x1x128, .f32⟩
  | .local _ .vmem, ⟨1, _⟩ => ⟨S64x1x128, .f32⟩
  | .local _ .vmem, ⟨2, _⟩ => ⟨S64x1x128, .f32⟩
  | .local _ .vmem, ⟨3, _⟩ => ⟨S64x1x128, .f32⟩
  | .local _ .vmem, ⟨4, _⟩ => ⟨S64x1x128, .f32⟩
  | .local _ .vmem, ⟨5, _⟩ => ⟨S64x1x128, .f32⟩
  | .local _ .vmem, ⟨6, _⟩ => ⟨S64x1x128, .f32⟩
  | .local _ .vmem, ⟨7, _⟩ => ⟨S64x1x128, .f32⟩
  | .local _ .vmem, ⟨8, _⟩ => ⟨S64x1x128, .f32⟩
  | .local _ .vmem, ⟨9, _⟩ => ⟨S64x1x128, .f32⟩
  | .local _ .vmem, ⟨10, _⟩ => ⟨S1x64x64x128, .f32⟩
  | .local _ .vmem, ⟨11, _⟩ => ⟨S1x64x64x128, .f32⟩
  | .local _ .vmem, ⟨12, _⟩ => ⟨S64x1x128, .f32⟩
  | .local _ .vmem, ⟨13, _⟩ => ⟨S64x1x128, .f32⟩
  | .local _ .vmem, ⟨14, _⟩ => ⟨S64x1x128, .f32⟩
  | .local _ .vmem, ⟨15, _⟩ => ⟨S64x1x128, .f32⟩
  | .local _ .vmem, ⟨16, _⟩ => ⟨S64x1x128, .f32⟩
  | .local _ .vmem, ⟨17, _⟩ => ⟨S64x1x128, .f32⟩
  | .local _ .vmem, ⟨18, _⟩ => ⟨S64x1x128, .f32⟩
  | .local _ .vmem, ⟨19, _⟩ => ⟨S64x1x128, .f32⟩
  | .local _ .vmem, ⟨20, _⟩ => ⟨S64x1x128, .f32⟩
  | .local _ .vmem, ⟨21, _⟩ => ⟨S64x1x128, .f32⟩
  | .local _ .vmem, ⟨22, _⟩ => ⟨S64x1x128, .f32⟩
  | .local _ .vmem, ⟨23, _⟩ => ⟨S64x1x128, .f32⟩
  | .local _ .vmem, ⟨24, _⟩ => ⟨S1x64x64x128, .f32⟩
  | .local _ .vmem, ⟨25, _⟩ => ⟨S1x64x64x128, .f32⟩
  | .local _ .vmem, ⟨26, _⟩ => ⟨S64x64x128, .f32⟩
  | .local _ .vmem, ⟨27, _⟩ => ⟨S64x1x128, .f32⟩
  | .local _ .vmem, ⟨28, _⟩ => ⟨S64x1x128, .f32⟩
  | .local _ .vmem, ⟨29, _⟩ => ⟨S64x1x128, .f32⟩
  | .local _ .vmem, ⟨30, _⟩ => ⟨S1x128, .f32⟩
  | .local _ .vmem, ⟨31, _⟩ => ⟨S1x64x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_1 : BitVec 32 := 0#32
  let c64_i32 : BitVec 32 := 64#32
  let v4 : BitVec 32 := Scalar.addi c0_i32_1 c64_i32
  let c1_i32 : BitVec 32 := 1#32
  ⟨c0_i32_1, v4, c1_i32⟩
def k0_off1 (k0_t1 : Fin k0_t1_loop.trips) : Fin 3 → Nat :=
  let c0_i32_1 : BitVec 32 := 0#32
  let c1_i32 : BitVec 32 := 1#32
  let arg21 : BitVec 32 := Scf.iv c0_i32_1 c1_i32 k0_t1
  let v4768 : Index := Scalar.indexCast arg21
  let c0_1703 : Index := 0#32
  let c0_1704 : Index := 0#32
  ![v4768.toNat, 0, 0]
@[reducible] def k0_t2_loop : Scf.Loop 32 :=
  let c0_i32_16 : BitVec 32 := 0#32
  let c64_i32_17 : BitVec 32 := 64#32
  let v23 : BitVec 32 := Scalar.addi c0_i32_16 c64_i32_17
  let c1_i32_18 : BitVec 32 := 1#32
  ⟨c0_i32_16, v23, c1_i32_18⟩
def k0_off2 (k0_t2 : Fin k0_t2_loop.trips) : Fin 3 → Nat :=
  let c0_i32_16 : BitVec 32 := 0#32
  let c1_i32_18 : BitVec 32 := 1#32
  let arg21 : BitVec 32 := Scf.iv c0_i32_16 c1_i32_18 k0_t2
  let v4768 : Index := Scalar.indexCast arg21
  let c0_1703 : Index := 0#32
  let c0_1704 : Index := 0#32
  ![v4768.toNat, 0, 0]
@[reducible] def k0_t3_loop : Scf.Loop 32 :=
  let c0_i32_23 : BitVec 32 := 0#32
  let c8_i32 : BitVec 32 := 8#32
  let v30 : BitVec 32 := Scalar.addi c0_i32_23 c8_i32
  let c1_i32_24 : BitVec 32 := 1#32
  ⟨c0_i32_23, v30, c1_i32_24⟩
def k0_off3 (k0_t3 : Fin k0_t3_loop.trips) (c0_i32_1704 : BitVec 32) : Fin 3 → Nat :=
  let c0_i32_23 : BitVec 32 := 0#32
  let c1_i32_24 : BitVec 32 := 1#32
  let arg21 : BitVec 32 := Scf.iv c0_i32_23 c1_i32_24 k0_t3
  let c8_i32_1703 : BitVec 32 := 8#32
  let v4768 : BitVec 32 := Scalar.muli arg21 c8_i32_1703
  let v4769 : BitVec 32 := Scalar.addi v4768 c0_i32_1704
  let v4770 : Index := Scalar.indexCast v4769
  let c0_1705 : Index := 0#32
  let c0_1706 : Index := 0#32
  ![v4770.toNat, 0, 0]
def k0_off4 (k0_t3 : Fin k0_t3_loop.trips) (c0_i32_1704 : BitVec 32) : Fin 3 → Nat :=
  let c0_i32_23 : BitVec 32 := 0#32
  let c1_i32_24 : BitVec 32 := 1#32
  let arg21 : BitVec 32 := Scf.iv c0_i32_23 c1_i32_24 k0_t3
  let c8_i32_1703 : BitVec 32 := 8#32
  let v4768 : BitVec 32 := Scalar.muli arg21 c8_i32_1703
  let v4769 : BitVec 32 := Scalar.addi v4768 c0_i32_1704
  let v4773 : Index := Scalar.indexCast v4769
  let c0_1707 : Index := 0#32
  let c0_1708 : Index := 0#32
  ![v4773.toNat, 0, 0]
def k0_mult1 : BitVec 32 :=
  let c0_i32_26 : BitVec 32 := 0#32
  let c1_i32_27 : BitVec 32 := 1#32
  let v32 : BitVec 32 := Scalar.muli c0_i32_26 c1_i32_27
  v32
def k0_off5 : Fin 3 → Nat :=
  let c0_31 : Index := 0#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v37 : Index := Scalar.indexCast v34
  let c0_32 : Index := 0#32
  ![0, v37.toNat, 0]
def k0_off6 : Fin 3 → Nat :=
  let c1 : Index := 1#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v44 : Index := Scalar.indexCast v34
  let c0_34 : Index := 0#32
  ![1, v44.toNat, 0]
def k0_off7 : Fin 3 → Nat :=
  let c2 : Index := 2#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v52 : Index := Scalar.indexCast v34
  let c0_35 : Index := 0#32
  ![2, v52.toNat, 0]
def k0_off8 : Fin 3 → Nat :=
  let c3 : Index := 3#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v60 : Index := Scalar.indexCast v34
  let c0_36 : Index := 0#32
  ![3, v60.toNat, 0]
def k0_off9 : Fin 3 → Nat :=
  let c4 : Index := 4#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v68 : Index := Scalar.indexCast v34
  let c0_37 : Index := 0#32
  ![4, v68.toNat, 0]
def k0_off10 : Fin 3 → Nat :=
  let c5 : Index := 5#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v76 : Index := Scalar.indexCast v34
  let c0_38 : Index := 0#32
  ![5, v76.toNat, 0]
def k0_off11 : Fin 3 → Nat :=
  let c6 : Index := 6#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v84 : Index := Scalar.indexCast v34
  let c0_39 : Index := 0#32
  ![6, v84.toNat, 0]
def k0_off12 : Fin 3 → Nat :=
  let c7 : Index := 7#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v92 : Index := Scalar.indexCast v34
  let c0_40 : Index := 0#32
  ![7, v92.toNat, 0]
def k0_off13 : Fin 3 → Nat :=
  let c8 : Index := 8#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v98 : Index := Scalar.indexCast v34
  let c0_41 : Index := 0#32
  ![8, v98.toNat, 0]
def k0_off14 : Fin 3 → Nat :=
  let c9 : Index := 9#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v105 : Index := Scalar.indexCast v34
  let c0_43 : Index := 0#32
  ![9, v105.toNat, 0]
def k0_off15 : Fin 3 → Nat :=
  let c10 : Index := 10#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v113 : Index := Scalar.indexCast v34
  let c0_45 : Index := 0#32
  ![10, v113.toNat, 0]
def k0_off16 : Fin 3 → Nat :=
  let c11 : Index := 11#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v121 : Index := Scalar.indexCast v34
  let c0_47 : Index := 0#32
  ![11, v121.toNat, 0]
def k0_off17 : Fin 3 → Nat :=
  let c12 : Index := 12#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v129 : Index := Scalar.indexCast v34
  let c0_49 : Index := 0#32
  ![12, v129.toNat, 0]
def k0_off18 : Fin 3 → Nat :=
  let c13 : Index := 13#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v137 : Index := Scalar.indexCast v34
  let c0_51 : Index := 0#32
  ![13, v137.toNat, 0]
def k0_off19 : Fin 3 → Nat :=
  let c14 : Index := 14#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v145 : Index := Scalar.indexCast v34
  let c0_53 : Index := 0#32
  ![14, v145.toNat, 0]
def k0_off20 : Fin 3 → Nat :=
  let c15 : Index := 15#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v153 : Index := Scalar.indexCast v34
  let c0_55 : Index := 0#32
  ![15, v153.toNat, 0]
def k0_off21 : Fin 3 → Nat :=
  let c16 : Index := 16#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v159 : Index := Scalar.indexCast v34
  let c0_56 : Index := 0#32
  ![16, v159.toNat, 0]
def k0_off22 : Fin 3 → Nat :=
  let c17 : Index := 17#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v166 : Index := Scalar.indexCast v34
  let c0_58 : Index := 0#32
  ![17, v166.toNat, 0]
def k0_off23 : Fin 3 → Nat :=
  let c18 : Index := 18#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v174 : Index := Scalar.indexCast v34
  let c0_60 : Index := 0#32
  ![18, v174.toNat, 0]
def k0_off24 : Fin 3 → Nat :=
  let c19 : Index := 19#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v182 : Index := Scalar.indexCast v34
  let c0_62 : Index := 0#32
  ![19, v182.toNat, 0]
def k0_off25 : Fin 3 → Nat :=
  let c20 : Index := 20#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v190 : Index := Scalar.indexCast v34
  let c0_64 : Index := 0#32
  ![20, v190.toNat, 0]
def k0_off26 : Fin 3 → Nat :=
  let c21 : Index := 21#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v198 : Index := Scalar.indexCast v34
  let c0_66 : Index := 0#32
  ![21, v198.toNat, 0]
def k0_off27 : Fin 3 → Nat :=
  let c22 : Index := 22#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v206 : Index := Scalar.indexCast v34
  let c0_68 : Index := 0#32
  ![22, v206.toNat, 0]
def k0_off28 : Fin 3 → Nat :=
  let c23 : Index := 23#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v214 : Index := Scalar.indexCast v34
  let c0_70 : Index := 0#32
  ![23, v214.toNat, 0]
def k0_off29 : Fin 3 → Nat :=
  let c24 : Index := 24#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v220 : Index := Scalar.indexCast v34
  let c0_71 : Index := 0#32
  ![24, v220.toNat, 0]
def k0_off30 : Fin 3 → Nat :=
  let c25 : Index := 25#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v227 : Index := Scalar.indexCast v34
  let c0_73 : Index := 0#32
  ![25, v227.toNat, 0]
def k0_off31 : Fin 3 → Nat :=
  let c26 : Index := 26#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v235 : Index := Scalar.indexCast v34
  let c0_75 : Index := 0#32
  ![26, v235.toNat, 0]
def k0_off32 : Fin 3 → Nat :=
  let c27 : Index := 27#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v243 : Index := Scalar.indexCast v34
  let c0_77 : Index := 0#32
  ![27, v243.toNat, 0]
def k0_off33 : Fin 3 → Nat :=
  let c28 : Index := 28#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v251 : Index := Scalar.indexCast v34
  let c0_79 : Index := 0#32
  ![28, v251.toNat, 0]
def k0_off34 : Fin 3 → Nat :=
  let c29 : Index := 29#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v259 : Index := Scalar.indexCast v34
  let c0_81 : Index := 0#32
  ![29, v259.toNat, 0]
def k0_off35 : Fin 3 → Nat :=
  let c30 : Index := 30#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v267 : Index := Scalar.indexCast v34
  let c0_83 : Index := 0#32
  ![30, v267.toNat, 0]
def k0_off36 : Fin 3 → Nat :=
  let c31 : Index := 31#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v275 : Index := Scalar.indexCast v34
  let c0_85 : Index := 0#32
  ![31, v275.toNat, 0]
def k0_off37 : Fin 3 → Nat :=
  let c32 : Index := 32#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v281 : Index := Scalar.indexCast v34
  let c0_86 : Index := 0#32
  ![32, v281.toNat, 0]
def k0_off38 : Fin 3 → Nat :=
  let c33 : Index := 33#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v288 : Index := Scalar.indexCast v34
  let c0_88 : Index := 0#32
  ![33, v288.toNat, 0]
def k0_off39 : Fin 3 → Nat :=
  let c34 : Index := 34#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v296 : Index := Scalar.indexCast v34
  let c0_90 : Index := 0#32
  ![34, v296.toNat, 0]
def k0_off40 : Fin 3 → Nat :=
  let c35 : Index := 35#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v304 : Index := Scalar.indexCast v34
  let c0_92 : Index := 0#32
  ![35, v304.toNat, 0]
def k0_off41 : Fin 3 → Nat :=
  let c36 : Index := 36#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v312 : Index := Scalar.indexCast v34
  let c0_94 : Index := 0#32
  ![36, v312.toNat, 0]
def k0_off42 : Fin 3 → Nat :=
  let c37 : Index := 37#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v320 : Index := Scalar.indexCast v34
  let c0_96 : Index := 0#32
  ![37, v320.toNat, 0]
def k0_off43 : Fin 3 → Nat :=
  let c38 : Index := 38#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v328 : Index := Scalar.indexCast v34
  let c0_98 : Index := 0#32
  ![38, v328.toNat, 0]
def k0_off44 : Fin 3 → Nat :=
  let c39 : Index := 39#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v336 : Index := Scalar.indexCast v34
  let c0_100 : Index := 0#32
  ![39, v336.toNat, 0]
def k0_off45 : Fin 3 → Nat :=
  let c40 : Index := 40#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v342 : Index := Scalar.indexCast v34
  let c0_101 : Index := 0#32
  ![40, v342.toNat, 0]
def k0_off46 : Fin 3 → Nat :=
  let c41 : Index := 41#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v349 : Index := Scalar.indexCast v34
  let c0_103 : Index := 0#32
  ![41, v349.toNat, 0]
def k0_off47 : Fin 3 → Nat :=
  let c42 : Index := 42#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v357 : Index := Scalar.indexCast v34
  let c0_105 : Index := 0#32
  ![42, v357.toNat, 0]
def k0_off48 : Fin 3 → Nat :=
  let c43 : Index := 43#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v365 : Index := Scalar.indexCast v34
  let c0_107 : Index := 0#32
  ![43, v365.toNat, 0]
def k0_off49 : Fin 3 → Nat :=
  let c44 : Index := 44#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v373 : Index := Scalar.indexCast v34
  let c0_109 : Index := 0#32
  ![44, v373.toNat, 0]
def k0_off50 : Fin 3 → Nat :=
  let c45 : Index := 45#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v381 : Index := Scalar.indexCast v34
  let c0_111 : Index := 0#32
  ![45, v381.toNat, 0]
def k0_off51 : Fin 3 → Nat :=
  let c46 : Index := 46#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v389 : Index := Scalar.indexCast v34
  let c0_113 : Index := 0#32
  ![46, v389.toNat, 0]
def k0_off52 : Fin 3 → Nat :=
  let c47 : Index := 47#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v397 : Index := Scalar.indexCast v34
  let c0_115 : Index := 0#32
  ![47, v397.toNat, 0]
def k0_off53 : Fin 3 → Nat :=
  let c48 : Index := 48#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v403 : Index := Scalar.indexCast v34
  let c0_116 : Index := 0#32
  ![48, v403.toNat, 0]
def k0_off54 : Fin 3 → Nat :=
  let c49 : Index := 49#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v410 : Index := Scalar.indexCast v34
  let c0_118 : Index := 0#32
  ![49, v410.toNat, 0]
def k0_off55 : Fin 3 → Nat :=
  let c50 : Index := 50#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v418 : Index := Scalar.indexCast v34
  let c0_120 : Index := 0#32
  ![50, v418.toNat, 0]
def k0_off56 : Fin 3 → Nat :=
  let c51 : Index := 51#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v426 : Index := Scalar.indexCast v34
  let c0_122 : Index := 0#32
  ![51, v426.toNat, 0]
def k0_off57 : Fin 3 → Nat :=
  let c52 : Index := 52#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v434 : Index := Scalar.indexCast v34
  let c0_124 : Index := 0#32
  ![52, v434.toNat, 0]
def k0_off58 : Fin 3 → Nat :=
  let c53 : Index := 53#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v442 : Index := Scalar.indexCast v34
  let c0_126 : Index := 0#32
  ![53, v442.toNat, 0]
def k0_off59 : Fin 3 → Nat :=
  let c54 : Index := 54#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v450 : Index := Scalar.indexCast v34
  let c0_128 : Index := 0#32
  ![54, v450.toNat, 0]
def k0_off60 : Fin 3 → Nat :=
  let c55 : Index := 55#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v458 : Index := Scalar.indexCast v34
  let c0_130 : Index := 0#32
  ![55, v458.toNat, 0]
def k0_off61 : Fin 3 → Nat :=
  let c56 : Index := 56#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v464 : Index := Scalar.indexCast v34
  let c0_131 : Index := 0#32
  ![56, v464.toNat, 0]
def k0_off62 : Fin 3 → Nat :=
  let c57 : Index := 57#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v471 : Index := Scalar.indexCast v34
  let c0_133 : Index := 0#32
  ![57, v471.toNat, 0]
def k0_off63 : Fin 3 → Nat :=
  let c58 : Index := 58#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v479 : Index := Scalar.indexCast v34
  let c0_135 : Index := 0#32
  ![58, v479.toNat, 0]
def k0_off64 : Fin 3 → Nat :=
  let c59 : Index := 59#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v487 : Index := Scalar.indexCast v34
  let c0_137 : Index := 0#32
  ![59, v487.toNat, 0]
def k0_off65 : Fin 3 → Nat :=
  let c60 : Index := 60#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v495 : Index := Scalar.indexCast v34
  let c0_139 : Index := 0#32
  ![60, v495.toNat, 0]
def k0_off66 : Fin 3 → Nat :=
  let c61 : Index := 61#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v503 : Index := Scalar.indexCast v34
  let c0_141 : Index := 0#32
  ![61, v503.toNat, 0]
def k0_off67 : Fin 3 → Nat :=
  let c62 : Index := 62#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v511 : Index := Scalar.indexCast v34
  let c0_143 : Index := 0#32
  ![62, v511.toNat, 0]
def k0_off68 : Fin 3 → Nat :=
  let c63 : Index := 63#32
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v519 : Index := Scalar.indexCast v34
  let c0_145 : Index := 0#32
  ![63, v519.toNat, 0]
def k0_off69 (c0_i32_146 : BitVec 32) (c0_i32_148 : BitVec 32) : Fin 3 → Nat :=
  let c8_i32_147 : BitVec 32 := 8#32
  let v526 : BitVec 32 := Scalar.muli c0_i32_146 c8_i32_147
  let v527 : BitVec 32 := Scalar.addi v526 c0_i32_148
  let v528 : Index := Scalar.indexCast v527
  let c0_149 : Index := 0#32
  let c0_150 : Index := 0#32
  ![v528.toNat, 0, 0]
def k0_off70 (c0_i32_146 : BitVec 32) (c0_i32_148 : BitVec 32) : Fin 3 → Nat :=
  let c8_i32_147 : BitVec 32 := 8#32
  let v526 : BitVec 32 := Scalar.muli c0_i32_146 c8_i32_147
  let v527 : BitVec 32 := Scalar.addi v526 c0_i32_148
  let v531 : Index := Scalar.indexCast v527
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let v532 : Index := Scalar.indexCast v34
  let c0_151 : Index := 0#32
  ![v531.toNat, v532.toNat, 0]
def k0_off71 (c0_i32_146 : BitVec 32) (c0_i32_148 : BitVec 32) : Fin 3 → Nat :=
  let c8_i32_147 : BitVec 32 := 8#32
  let v526 : BitVec 32 := Scalar.muli c0_i32_146 c8_i32_147
  let v527 : BitVec 32 := Scalar.addi v526 c0_i32_148
  let v562 : Index := Scalar.indexCast v527
  let c0_i32_26 : BitVec 32 := 0#32
  let c1_i32_27 : BitVec 32 := 1#32
  let v32 : BitVec 32 := Scalar.muli c0_i32_26 c1_i32_27
  let v33 : BitVec 32 := v32
  let c0_i32_28 : BitVec 32 := 0#32
  let v34 : BitVec 32 := Scalar.addi v33 c0_i32_28
  let c1_i32_29 : BitVec 32 := 1#32
  let v35 : BitVec 32 := Scalar.addi v34 c1_i32_29
  let c0_i32_30 : BitVec 32 := 0#32
  let v36 : BitVec 32 := Scalar.minsi v35 c0_i32_30
  let v563 : Index := Scalar.indexCast v36
  let c0_157 : Index := 0#32
  ![v562.toNat, v563.toNat, 0]
def k0_off72 : Fin 2 → Nat :=
  let c0_i32_26 : BitVec 32 := 0#32
  let c1_i32_27 : BitVec 32 := 1#32
  let v32 : BitVec 32 := Scalar.muli c0_i32_26 c1_i32_27
  let v33 : BitVec 32 := v32
  let v3675 : Index := Scalar.indexCast v33
  let c0_1059 : Index := 0#32
  ![v3675.toNat, 0]
def k0_off73 : Fin 3 → Nat :=
  let c0_1066 : Index := 0#32
  let c0_i32_26 : BitVec 32 := 0#32
  let c1_i32_27 : BitVec 32 := 1#32
  let v32 : BitVec 32 := Scalar.muli c0_i32_26 c1_i32_27
  let v33 : BitVec 32 := v32
  let v3685 : Index := Scalar.indexCast v33
  let c0_1067 : Index := 0#32
  ![0, v3685.toNat, 0]
def k0_off74 : Fin 3 → Nat :=
  let c1_1076 : Index := 1#32
  let c0_i32_26 : BitVec 32 := 0#32
  let c1_i32_27 : BitVec 32 := 1#32
  let v32 : BitVec 32 := Scalar.muli c0_i32_26 c1_i32_27
  let v33 : BitVec 32 := v32
  let v3702 : Index := Scalar.indexCast v33
  let c0_1077 : Index := 0#32
  ![1, v3702.toNat, 0]
def k0_off75 : Fin 3 → Nat :=
  let c2_1086 : Index := 2#32
  let c0_i32_26 : BitVec 32 := 0#32
  let c1_i32_27 : BitVec 32 := 1#32
  let v32 : BitVec 32 := Scalar.muli c0_i32_26 c1_i32_27
  let v33 : BitVec 32 := v32
  let v3719 : Index := Scalar.indexCast v33
  let c0_1087 : Index := 0#32
  ![2, v3719.toNat, 0]
def k0_off76 : Fin 3 → Nat :=
  let c3_1096 : Index := 3#32
  let c0_i32_26 : BitVec 32 := 0#32
  let c1_i32_27 : BitVec 32 := 1#32
  let v32 : BitVec 32 := Scalar.muli c0_i32_26 c1_i32_27
  let v33 : BitVec 32 := v32
  let v3736 : Index := Scalar.indexCast v33
  let c0_1097 : Index := 0#32
  ![3, v3736.toNat, 0]
def k0_off77 : Fin 3 → Nat :=
  let c4_1106 : Index := 4#32
  let c0_i32_26 : BitVec 32 := 0#32
  let c1_i32_27 : BitVec 32 := 1#32
  let v32 : BitVec 32 := Scalar.muli c0_i32_26 c1_i32_27
  let v33 : BitVec 32 := v32
  let v3753 : Index := Scalar.indexCast v33
  let c0_1107 : Index := 0#32
  ![4, v3753.toNat, 0]
def k0_off78 : Fin 3 → Nat :=
  let c5_1116 : Index := 5#32
  let c0_i32_26 : BitVec 32 := 0#32
  let c1_i32_27 : BitVec 32 := 1#32
  let v32 : BitVec 32 := Scalar.muli c0_i32_26 c1_i32_27
  let v33 : BitVec 32 := v32
  let v3770 : Index := Scalar.indexCast v33
  let c0_1117 : Index := 0#32
  ![5, v3770.toNat, 0]
def k0_off79 : Fin 3 → Nat :=
  let c6_1126 : Index := 6#32
  let c0_i32_26 : BitVec 32 := 0#32
  let c1_i32_27 : BitVec 32 := 1#32
  let v32 : BitVec 32 := Scalar.muli c0_i32_26 c1_i32_27
  let v33 : BitVec 32 := v32
  let v3787 : Index := Scalar.indexCast v33
  let c0_1127 : Index := 0#32
  ![6, v3787.toNat, 0]
def k0_off80 : Fin 3 → Nat :=
  let c7_1136 : Index := 7#32
  let c0_i32_26 : BitVec 32 := 0#32
  let c1_i32_27 : BitVec 32 := 1#32
  let v32 : BitVec 32 := Scalar.muli c0_i32_26 c1_i32_27
  let v33 : BitVec 32 := v32
  let v3804 : Index := Scalar.indexCast v33
  let c0_1137 : Index := 0#32
  ![7, v3804.toNat, 0]
def k0_off81 : Fin 3 → Nat :=
  let c8_1146 : Index := 8#32
  let c0_i32_26 : BitVec 32 := 0#32
  let c1_i32_27 : BitVec 32 := 1#32
  let v32 : BitVec 32 := Scalar.muli c0_i32_26 c1_i32_27
  let v33 : BitVec 32 := v32
  let v3821 : Index := Scalar.indexCast v33
  let c0_1147 : Index := 0#32
  ![8, v3821.toNat, 0]
def k0_off82 : Fin 3 → Nat :=
  let c9_1156 : Index := 9#32
  let c0_i32_26 : BitVec 32 := 0#32
  let c1_i32_27 : BitVec 32 := 1#32
  let v32 : BitVec 32 := Scalar.muli c0_i32_26 c1_i32_27
  let v33 : BitVec 32 := v32
  let v3838 : Index := Scalar.indexCast v33
  let c0_1157 : Index := 0#32
  ![9, v3838.toNat, 0]
def k0_off83 : Fin 3 → Nat :=
  let c10_1166 : Index := 10#32
  let c0_i32_26 : BitVec 32 := 0#32
  let c1_i32_27 : BitVec 32 := 1#32
  let v32 : BitVec 32 := Scalar.muli c0_i32_26 c1_i32_27
  let v33 : BitVec 32 := v32
  let v3855 : Index := Scalar.indexCast v33
  let c0_1167 : Index := 0#32
  ![10, v3855.toNat, 0]
def k0_off84 : Fin 3 → Nat :=
  let c11_1176 : Index := 11#32
  let c0_i32_26 : BitVec 32 := 0#32
  let c1_i32_27 : BitVec 32 := 1#32
  let v32 : BitVec 32 := Scalar.muli c0_i32_26 c1_i32_27
  let v33 : BitVec 32 := v32
  let v3872 : Index := Scalar.indexCast v33
  let c0_1177 : Index := 0#32
  ![11, v3872.toNat, 0]
def k0_off85 : Fin 3 → Nat :=
  let c12_1186 : Index := 12#32
  let c0_i32_26 : BitVec 32 := 0#32
  let c1_i32_27 : BitVec 32 := 1#32
  let v32 : BitVec 32 := Scalar.muli c0_i32_26 c1_i32_27
  let v33 : BitVec 32 := v32
  let v3889 : Index := Scalar.indexCast v33
  let c0_1187 : Index := 0#32
  ![12, v3889.toNat, 0]
def k0_off86 : Fin 3 → Nat :=
  let c13_1196 : Index := 13#32
  let c0_i32_26 : BitVec 32 := 0#32
  let c1_i32_27 : BitVec 32 := 1#32
  let v32 : BitVec 32 := Scalar.muli c0_i32_26 c1_i32_27
  let v33 : BitVec 32 := v32
  let v3906 : Index := Scalar.indexCast v33
  let c0_1197 : Index := 0#32
  ![13, v3906.toNat, 0]
def k0_off87 : Fin 3 → Nat :=
  let c14_1206 : Index := 14#32
  let c0_i32_26 : BitVec 32 := 0#32
  let c1_i32_27 : BitVec 32 := 1#32
  let v32 : BitVec 32 := Scalar.muli c0_i32_26 c1_i32_27
  let v33 : BitVec 32 := v32
  let v3923 : Index := Scalar.indexCast v33
  let c0_1207 : Index := 0#32
  ![14, v3923.toNat, 0]
def k0_off88 : Fin 3 → Nat :=
  let c15_1216 : Index := 15#32
  let c0_i32_26 : BitVec 32 := 0#32
  let c1_i32_27 : BitVec 32 := 1#32
  let v32 : BitVec 32 := Scalar.muli c0_i32_26 c1_i32_27
  let v33 : BitVec 32 := v32
  let v3940 : Index := Scalar.indexCast v33
  let c0_1217 : Index := 0#32
  ![15, v3940.toNat, 0]
def k0_off89 : Fin 3 → Nat :=
  let c16_1226 : Index := 16#32
  let c0_i32_26 : BitVec 32 := 0#32
  let c1_i32_27 : BitVec 32 := 1#32
  let v32 : BitVec 32 := Scalar.muli c0_i32_26 c1_i32_27
  let v33 : BitVec 32 := v32
  let v3957 : Index := Scalar.indexCast v33
  let c0_1227 : Index := 0#32
  ![16, v3957.toNat, 0]
def k0_off90 : Fin 3 → Nat :=
  let c17_1236 : Index := 17#32
  let c0_i32_26 : BitVec 32 := 0#32
  let c1_i32_27 : BitVec 32 := 1#32
  let v32 : BitVec 32 := Scalar.muli c0_i32_26 c1_i32_27
  let v33 : BitVec 32 := v32
  let v3974 : Index := Scalar.indexCast v33
  let c0_1237 : Index := 0#32
  ![17, v3974.toNat, 0]
def k0_off91 : Fin 3 → Nat :=
  let c18_1246 : Index := 18#32
  let c0_i32_26 : BitVec 32 := 0#32
  let c1_i32_27 : BitVec 32 := 1#32
  let v32 : BitVec 32 := Scalar.muli c0_i32_26 c1_i32_27
  let v33 : BitVec 32 := v32
  let v3991 : Index := Scalar.indexCast v33
  let c0_1247 : Index := 0#32
  ![18, v3991.toNat, 0]
def k0_off92 : Fin 3 → Nat :=
  let c19_1256 : Index := 19#32
  let c0_i32_26 : BitVec 32 := 0#32
  let c1_i32_27 : BitVec 32 := 1#32
  let v32 : BitVec 32 := Scalar.muli c0_i32_26 c1_i32_27
  let v33 : BitVec 32 := v32
  let v4008 : Index := Scalar.indexCast v33
  let c0_1257 : Index := 0#32
  ![19, v4008.toNat, 0]
def k0_off93 : Fin 3 → Nat :=
  let c20_1266 : Index := 20#32
  let c0_i32_26 : BitVec 32 := 0#32
  let c1_i32_27 : BitVec 32 := 1#32
  let v32 : BitVec 32 := Scalar.muli c0_i32_26 c1_i32_27
  let v33 : BitVec 32 := v32
  let v4025 : Index := Scalar.indexCast v33
  let c0_1267 : Index := 0#32
  ![20, v4025.toNat, 0]
def k0_off94 : Fin 3 → Nat :=
  let c21_1276 : Index := 21#32
  let c0_i32_26 : BitVec 32 := 0#32
  let c1_i32_27 : BitVec 32 := 1#32
  let v32 : BitVec 32 := Scalar.muli c0_i32_26 c1_i32_27
  let v33 : BitVec 32 := v32
  let v4042 : Index := Scalar.indexCast v33
  let c0_1277 : Index := 0#32
  ![21, v4042.toNat, 0]
def k0_off95 : Fin 3 → Nat :=
  let c22_1286 : Index := 22#32
  let c0_i32_26 : BitVec 32 := 0#32
  let c1_i32_27 : BitVec 32 := 1#32
  let v32 : BitVec 32 := Scalar.muli c0_i32_26 c1_i32_27
  let v33 : BitVec 32 := v32
  let v4059 : Index := Scalar.indexCast v33
  let c0_1287 : Index := 0#32
  ![22, v4059.toNat, 0]
def k0_off96 : Fin 3 → Nat :=
  let c23_1296 : Index := 23#32
  let c0_i32_26 : BitVec 32 := 0#32
  let c1_i32_27 : BitVec 32 := 1#32
  let v32 : BitVec 32 := Scalar.muli c0_i32_26 c1_i32_27
  let v33 : BitVec 32 := v32
  let v4076 : Index := Scalar.indexCast v33
  let c0_1297 : Index := 0#32
  ![23, v4076.toNat, 0]
def k0_off97 : Fin 3 → Nat :=
  let c24_1306 : Index := 24#32
  let c0_i32_26 : BitVec 32 := 0#32
  let c1_i32_27 : BitVec 32 := 1#32
  let v32 : BitVec 32 := Scalar.muli c0_i32_26 c1_i32_27
  let v33 : BitVec 32 := v32
  let v4093 : Index := Scalar.indexCast v33
  let c0_1307 : Index := 0#32
  ![24, v4093.toNat, 0]
def k0_off98 : Fin 3 → Nat :=
  let c25_1316 : Index := 25#32
  let c0_i32_26 : BitVec 32 := 0#32
  let c1_i32_27 : BitVec 32 := 1#32
  let v32 : BitVec 32 := Scalar.muli c0_i32_26 c1_i32_27
  let v33 : BitVec 32 := v32
  let v4110 : Index := Scalar.indexCast v33
  let c0_1317 : Index := 0#32
  ![25, v4110.toNat, 0]
def k0_off99 : Fin 3 → Nat :=
  let c26_1326 : Index := 26#32
  let c0_i32_26 : BitVec 32 := 0#32
  let c1_i32_27 : BitVec 32 := 1#32
  let v32 : BitVec 32 := Scalar.muli c0_i32_26 c1_i32_27
  let v33 : BitVec 32 := v32
  let v4127 : Index := Scalar.indexCast v33
  let c0_1327 : Index := 0#32
  ![26, v4127.toNat, 0]
def k0_off100 : Fin 3 → Nat :=
  let c27_1336 : Index := 27#32
  let c0_i32_26 : BitVec 32 := 0#32
  let c1_i32_27 : BitVec 32 := 1#32
  let v32 : BitVec 32 := Scalar.muli c0_i32_26 c1_i32_27
  let v33 : BitVec 32 := v32
  let v4144 : Index := Scalar.indexCast v33
  let c0_1337 : Index := 0#32
  ![27, v4144.toNat, 0]
def k0_off101 : Fin 3 → Nat :=
  let c28_1346 : Index := 28#32
  let c0_i32_26 : BitVec 32 := 0#32
  let c1_i32_27 : BitVec 32 := 1#32
  let v32 : BitVec 32 := Scalar.muli c0_i32_26 c1_i32_27
  let v33 : BitVec 32 := v32
  let v4161 : Index := Scalar.indexCast v33
  let c0_1347 : Index := 0#32
  ![28, v4161.toNat, 0]
def k0_off102 : Fin 3 → Nat :=
  let c29_1356 : Index := 29#32
  let c0_i32_26 : BitVec 32 := 0#32
  let c1_i32_27 : BitVec 32 := 1#32
  let v32 : BitVec 32 := Scalar.muli c0_i32_26 c1_i32_27
  let v33 : BitVec 32 := v32
  let v4178 : Index := Scalar.indexCast v33
  let c0_1357 : Index := 0#32
  ![29, v4178.toNat, 0]
def k0_off103 : Fin 3 → Nat :=
  let c30_1366 : Index := 30#32
  let c0_i32_26 : BitVec 32 := 0#32
  let c1_i32_27 : BitVec 32 := 1#32
  let v32 : BitVec 32 := Scalar.muli c0_i32_26 c1_i32_27
  let v33 : BitVec 32 := v32
  let v4195 : Index := Scalar.indexCast v33
  let c0_1367 : Index := 0#32
  ![30, v4195.toNat, 0]
def k0_off104 : Fin 3 → Nat :=
  let c31_1376 : Index := 31#32
  let c0_i32_26 : BitVec 32 := 0#32
  let c1_i32_27 : BitVec 32 := 1#32
  let v32 : BitVec 32 := Scalar.muli c0_i32_26 c1_i32_27
  let v33 : BitVec 32 := v32
  let v4212 : Index := Scalar.indexCast v33
  let c0_1377 : Index := 0#32
  ![31, v4212.toNat, 0]
def k0_off105 : Fin 3 → Nat :=
  let c32_1386 : Index := 32#32
  let c0_i32_26 : BitVec 32 := 0#32
  let c1_i32_27 : BitVec 32 := 1#32
  let v32 : BitVec 32 := Scalar.muli c0_i32_26 c1_i32_27
  let v33 : BitVec 32 := v32
  let v4229 : Index := Scalar.indexCast v33
  let c0_1387 : Index := 0#32
  ![32, v4229.toNat, 0]
def k0_off106 : Fin 3 → Nat :=
  let c33_1396 : Index := 33#32
  let c0_i32_26 : BitVec 32 := 0#32
  let c1_i32_27 : BitVec 32 := 1#32
  let v32 : BitVec 32 := Scalar.muli c0_i32_26 c1_i32_27
  let v33 : BitVec 32 := v32
  let v4246 : Index := Scalar.indexCast v33
  let c0_1397 : Index := 0#32
  ![33, v4246.toNat, 0]
def k0_off107 : Fin 3 → Nat :=
  let c34_1406 : Index := 34#32
  let c0_i32_26 : BitVec 32 := 0#32
  let c1_i32_27 : BitVec 32 := 1#32
  let v32 : BitVec 32 := Scalar.muli c0_i32_26 c1_i32_27
  let v33 : BitVec 32 := v32
  let v4263 : Index := Scalar.indexCast v33
  let c0_1407 : Index := 0#32
  ![34, v4263.toNat, 0]
def k0_off108 : Fin 3 → Nat :=
  let c35_1416 : Index := 35#32
  let c0_i32_26 : BitVec 32 := 0#32
  let c1_i32_27 : BitVec 32 := 1#32
  let v32 : BitVec 32 := Scalar.muli c0_i32_26 c1_i32_27
  let v33 : BitVec 32 := v32
  let v4280 : Index := Scalar.indexCast v33
  let c0_1417 : Index := 0#32
  ![35, v4280.toNat, 0]
def k0_off109 : Fin 3 → Nat :=
  let c36_1426 : Index := 36#32
  let c0_i32_26 : BitVec 32 := 0#32
  let c1_i32_27 : BitVec 32 := 1#32
  let v32 : BitVec 32 := Scalar.muli c0_i32_26 c1_i32_27
  let v33 : BitVec 32 := v32
  let v4297 : Index := Scalar.indexCast v33
  let c0_1427 : Index := 0#32
  ![36, v4297.toNat, 0]
def k0_off110 : Fin 3 → Nat :=
  let c37_1436 : Index := 37#32
  let c0_i32_26 : BitVec 32 := 0#32
  let c1_i32_27 : BitVec 32 := 1#32
  let v32 : BitVec 32 := Scalar.muli c0_i32_26 c1_i32_27
  let v33 : BitVec 32 := v32
  let v4314 : Index := Scalar.indexCast v33
  let c0_1437 : Index := 0#32
  ![37, v4314.toNat, 0]
def k0_off111 : Fin 3 → Nat :=
  let c38_1446 : Index := 38#32
  let c0_i32_26 : BitVec 32 := 0#32
  let c1_i32_27 : BitVec 32 := 1#32
  let v32 : BitVec 32 := Scalar.muli c0_i32_26 c1_i32_27
  let v33 : BitVec 32 := v32
  let v4331 : Index := Scalar.indexCast v33
  let c0_1447 : Index := 0#32
  ![38, v4331.toNat, 0]
def k0_off112 : Fin 3 → Nat :=
  let c39_1456 : Index := 39#32
  let c0_i32_26 : BitVec 32 := 0#32
  let c1_i32_27 : BitVec 32 := 1#32
  let v32 : BitVec 32 := Scalar.muli c0_i32_26 c1_i32_27
  let v33 : BitVec 32 := v32
  let v4348 : Index := Scalar.indexCast v33
  let c0_1457 : Index := 0#32
  ![39, v4348.toNat, 0]
def k0_off113 : Fin 3 → Nat :=
  let c40_1466 : Index := 40#32
  let c0_i32_26 : BitVec 32 := 0#32
  let c1_i32_27 : BitVec 32 := 1#32
  let v32 : BitVec 32 := Scalar.muli c0_i32_26 c1_i32_27
  let v33 : BitVec 32 := v32
  let v4365 : Index := Scalar.indexCast v33
  let c0_1467 : Index := 0#32
  ![40, v4365.toNat, 0]
def k0_off114 : Fin 3 → Nat :=
  let c41_1476 : Index := 41#32
  let c0_i32_26 : BitVec 32 := 0#32
  let c1_i32_27 : BitVec 32 := 1#32
  let v32 : BitVec 32 := Scalar.muli c0_i32_26 c1_i32_27
  let v33 : BitVec 32 := v32
  let v4382 : Index := Scalar.indexCast v33
  let c0_1477 : Index := 0#32
  ![41, v4382.toNat, 0]
def k0_off115 : Fin 3 → Nat :=
  let c42_1486 : Index := 42#32
  let c0_i32_26 : BitVec 32 := 0#32
  let c1_i32_27 : BitVec 32 := 1#32
  let v32 : BitVec 32 := Scalar.muli c0_i32_26 c1_i32_27
  let v33 : BitVec 32 := v32
  let v4399 : Index := Scalar.indexCast v33
  let c0_1487 : Index := 0#32
  ![42, v4399.toNat, 0]
def k0_off116 : Fin 3 → Nat :=
  let c43_1496 : Index := 43#32
  let c0_i32_26 : BitVec 32 := 0#32
  let c1_i32_27 : BitVec 32 := 1#32
  let v32 : BitVec 32 := Scalar.muli c0_i32_26 c1_i32_27
  let v33 : BitVec 32 := v32
  let v4416 : Index := Scalar.indexCast v33
  let c0_1497 : Index := 0#32
  ![43, v4416.toNat, 0]
def k0_off117 : Fin 3 → Nat :=
  let c44_1506 : Index := 44#32
  let c0_i32_26 : BitVec 32 := 0#32
  let c1_i32_27 : BitVec 32 := 1#32
  let v32 : BitVec 32 := Scalar.muli c0_i32_26 c1_i32_27
  let v33 : BitVec 32 := v32
  let v4433 : Index := Scalar.indexCast v33
  let c0_1507 : Index := 0#32
  ![44, v4433.toNat, 0]
def k0_off118 : Fin 3 → Nat :=
  let c45_1516 : Index := 45#32
  let c0_i32_26 : BitVec 32 := 0#32
  let c1_i32_27 : BitVec 32 := 1#32
  let v32 : BitVec 32 := Scalar.muli c0_i32_26 c1_i32_27
  let v33 : BitVec 32 := v32
  let v4450 : Index := Scalar.indexCast v33
  let c0_1517 : Index := 0#32
  ![45, v4450.toNat, 0]
def k0_off119 : Fin 3 → Nat :=
  let c46_1526 : Index := 46#32
  let c0_i32_26 : BitVec 32 := 0#32
  let c1_i32_27 : BitVec 32 := 1#32
  let v32 : BitVec 32 := Scalar.muli c0_i32_26 c1_i32_27
  let v33 : BitVec 32 := v32
  let v4467 : Index := Scalar.indexCast v33
  let c0_1527 : Index := 0#32
  ![46, v4467.toNat, 0]
def k0_off120 : Fin 3 → Nat :=
  let c47_1536 : Index := 47#32
  let c0_i32_26 : BitVec 32 := 0#32
  let c1_i32_27 : BitVec 32 := 1#32
  let v32 : BitVec 32 := Scalar.muli c0_i32_26 c1_i32_27
  let v33 : BitVec 32 := v32
  let v4484 : Index := Scalar.indexCast v33
  let c0_1537 : Index := 0#32
  ![47, v4484.toNat, 0]
def k0_off121 : Fin 3 → Nat :=
  let c48_1546 : Index := 48#32
  let c0_i32_26 : BitVec 32 := 0#32
  let c1_i32_27 : BitVec 32 := 1#32
  let v32 : BitVec 32 := Scalar.muli c0_i32_26 c1_i32_27
  let v33 : BitVec 32 := v32
  let v4501 : Index := Scalar.indexCast v33
  let c0_1547 : Index := 0#32
  ![48, v4501.toNat, 0]
def k0_off122 : Fin 3 → Nat :=
  let c49_1556 : Index := 49#32
  let c0_i32_26 : BitVec 32 := 0#32
  let c1_i32_27 : BitVec 32 := 1#32
  let v32 : BitVec 32 := Scalar.muli c0_i32_26 c1_i32_27
  let v33 : BitVec 32 := v32
  let v4518 : Index := Scalar.indexCast v33
  let c0_1557 : Index := 0#32
  ![49, v4518.toNat, 0]
def k0_off123 : Fin 3 → Nat :=
  let c50_1566 : Index := 50#32
  let c0_i32_26 : BitVec 32 := 0#32
  let c1_i32_27 : BitVec 32 := 1#32
  let v32 : BitVec 32 := Scalar.muli c0_i32_26 c1_i32_27
  let v33 : BitVec 32 := v32
  let v4535 : Index := Scalar.indexCast v33
  let c0_1567 : Index := 0#32
  ![50, v4535.toNat, 0]
def k0_off124 : Fin 3 → Nat :=
  let c51_1576 : Index := 51#32
  let c0_i32_26 : BitVec 32 := 0#32
  let c1_i32_27 : BitVec 32 := 1#32
  let v32 : BitVec 32 := Scalar.muli c0_i32_26 c1_i32_27
  let v33 : BitVec 32 := v32
  let v4552 : Index := Scalar.indexCast v33
  let c0_1577 : Index := 0#32
  ![51, v4552.toNat, 0]
def k0_off125 : Fin 3 → Nat :=
  let c52_1586 : Index := 52#32
  let c0_i32_26 : BitVec 32 := 0#32
  let c1_i32_27 : BitVec 32 := 1#32
  let v32 : BitVec 32 := Scalar.muli c0_i32_26 c1_i32_27
  let v33 : BitVec 32 := v32
  let v4569 : Index := Scalar.indexCast v33
  let c0_1587 : Index := 0#32
  ![52, v4569.toNat, 0]
def k0_off126 : Fin 3 → Nat :=
  let c53_1596 : Index := 53#32
  let c0_i32_26 : BitVec 32 := 0#32
  let c1_i32_27 : BitVec 32 := 1#32
  let v32 : BitVec 32 := Scalar.muli c0_i32_26 c1_i32_27
  let v33 : BitVec 32 := v32
  let v4586 : Index := Scalar.indexCast v33
  let c0_1597 : Index := 0#32
  ![53, v4586.toNat, 0]
def k0_off127 : Fin 3 → Nat :=
  let c54_1606 : Index := 54#32
  let c0_i32_26 : BitVec 32 := 0#32
  let c1_i32_27 : BitVec 32 := 1#32
  let v32 : BitVec 32 := Scalar.muli c0_i32_26 c1_i32_27
  let v33 : BitVec 32 := v32
  let v4603 : Index := Scalar.indexCast v33
  let c0_1607 : Index := 0#32
  ![54, v4603.toNat, 0]
def k0_off128 : Fin 3 → Nat :=
  let c55_1616 : Index := 55#32
  let c0_i32_26 : BitVec 32 := 0#32
  let c1_i32_27 : BitVec 32 := 1#32
  let v32 : BitVec 32 := Scalar.muli c0_i32_26 c1_i32_27
  let v33 : BitVec 32 := v32
  let v4620 : Index := Scalar.indexCast v33
  let c0_1617 : Index := 0#32
  ![55, v4620.toNat, 0]
def k0_off129 : Fin 3 → Nat :=
  let c56_1626 : Index := 56#32
  let c0_i32_26 : BitVec 32 := 0#32
  let c1_i32_27 : BitVec 32 := 1#32
  let v32 : BitVec 32 := Scalar.muli c0_i32_26 c1_i32_27
  let v33 : BitVec 32 := v32
  let v4637 : Index := Scalar.indexCast v33
  let c0_1627 : Index := 0#32
  ![56, v4637.toNat, 0]
def k0_off130 : Fin 3 → Nat :=
  let c57_1636 : Index := 57#32
  let c0_i32_26 : BitVec 32 := 0#32
  let c1_i32_27 : BitVec 32 := 1#32
  let v32 : BitVec 32 := Scalar.muli c0_i32_26 c1_i32_27
  let v33 : BitVec 32 := v32
  let v4654 : Index := Scalar.indexCast v33
  let c0_1637 : Index := 0#32
  ![57, v4654.toNat, 0]
def k0_off131 : Fin 3 → Nat :=
  let c58_1646 : Index := 58#32
  let c0_i32_26 : BitVec 32 := 0#32
  let c1_i32_27 : BitVec 32 := 1#32
  let v32 : BitVec 32 := Scalar.muli c0_i32_26 c1_i32_27
  let v33 : BitVec 32 := v32
  let v4671 : Index := Scalar.indexCast v33
  let c0_1647 : Index := 0#32
  ![58, v4671.toNat, 0]
def k0_off132 : Fin 3 → Nat :=
  let c59_1656 : Index := 59#32
  let c0_i32_26 : BitVec 32 := 0#32
  let c1_i32_27 : BitVec 32 := 1#32
  let v32 : BitVec 32 := Scalar.muli c0_i32_26 c1_i32_27
  let v33 : BitVec 32 := v32
  let v4688 : Index := Scalar.indexCast v33
  let c0_1657 : Index := 0#32
  ![59, v4688.toNat, 0]
def k0_off133 : Fin 3 → Nat :=
  let c60_1666 : Index := 60#32
  let c0_i32_26 : BitVec 32 := 0#32
  let c1_i32_27 : BitVec 32 := 1#32
  let v32 : BitVec 32 := Scalar.muli c0_i32_26 c1_i32_27
  let v33 : BitVec 32 := v32
  let v4705 : Index := Scalar.indexCast v33
  let c0_1667 : Index := 0#32
  ![60, v4705.toNat, 0]
def k0_off134 : Fin 3 → Nat :=
  let c61_1676 : Index := 61#32
  let c0_i32_26 : BitVec 32 := 0#32
  let c1_i32_27 : BitVec 32 := 1#32
  let v32 : BitVec 32 := Scalar.muli c0_i32_26 c1_i32_27
  let v33 : BitVec 32 := v32
  let v4722 : Index := Scalar.indexCast v33
  let c0_1677 : Index := 0#32
  ![61, v4722.toNat, 0]
def k0_off135 : Fin 3 → Nat :=
  let c62_1686 : Index := 62#32
  let c0_i32_26 : BitVec 32 := 0#32
  let c1_i32_27 : BitVec 32 := 1#32
  let v32 : BitVec 32 := Scalar.muli c0_i32_26 c1_i32_27
  let v33 : BitVec 32 := v32
  let v4739 : Index := Scalar.indexCast v33
  let c0_1687 : Index := 0#32
  ![62, v4739.toNat, 0]
def k0_off136 : Fin 3 → Nat :=
  let c63_1696 : Index := 63#32
  let c0_i32_26 : BitVec 32 := 0#32
  let c1_i32_27 : BitVec 32 := 1#32
  let v32 : BitVec 32 := Scalar.muli c0_i32_26 c1_i32_27
  let v33 : BitVec 32 := v32
  let v4756 : Index := Scalar.indexCast v33
  let c0_1697 : Index := 0#32
  ![63, v4756.toNat, 0]
def k0_cond2 (i : grid0.Coords) : BitVec 1 :=
  let arg1 : BitVec 32 := BitVec.ofNat 32 (i 1).val
  let c0_i32_1701 : BitVec 32 := 0#32
  let v4765 : BitVec 1 := Scalar.cmpi .eq arg1 c0_i32_1701
  let v4766 : BitVec 32 := Scalar.extui v4765
  let c0_i32_1702 : BitVec 32 := 0#32
  let v4767 : BitVec 1 := Scalar.cmpi .ne v4766 c0_i32_1702
  v4767

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScanSampleRefIdeal.lean ====
abbrev S128x2048 : Shape := ⟨2, ![128, 2048]⟩
abbrev S128x32x64x64 : Shape := ⟨4, ![128, 32, 64, 64]⟩
abbrev S2048 : Shape := ⟨1, ![2048]⟩
abbrev S32x64 : Shape := ⟨2, ![32, 64]⟩
abbrev S128x64x32 : Shape := ⟨3, ![128, 64, 32]⟩
abbrev S128x32x64 : Shape := ⟨3, ![128, 32, 64]⟩
abbrev S1x32x64 : Shape := ⟨3, ![1, 32, 64]⟩
abbrev S_ : Shape := ⟨0, ![]⟩
abbrev S128x32 : Shape := ⟨2, ![128, 32]⟩
abbrev S128x32x1 : Shape := ⟨3, ![128, 32, 1]⟩
abbrev S128x32x1x64 : Shape := ⟨4, ![128, 32, 1, 64]⟩
abbrev S128x32x64x1 : Shape := ⟨4, ![128, 32, 64, 1]⟩

abbrev nBuf : Space → Nat
  | .hbm => 108
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x32x64x64, .f32⟩
  | .hbm, ⟨6, _⟩ => ⟨S2048, .f32⟩
  | .hbm, ⟨7, _⟩ => ⟨S2048, .f32⟩
  | .hbm, ⟨8, _⟩ => ⟨S32x64, .f32⟩
  | .hbm, ⟨9, _⟩ => ⟨S2048, .f32⟩
  | .hbm, ⟨10, _⟩ => ⟨S2048, .f32⟩
  | .hbm, ⟨11, _⟩ => ⟨S128x64x32, .f32⟩
  | .hbm, ⟨12, _⟩ => ⟨S128x32x64, .f32⟩
  | .hbm, ⟨13, _⟩ => ⟨S128x64x32, .f32⟩
  | .hbm, ⟨14, _⟩ => ⟨S128x32x64, .f32⟩
  | .hbm, ⟨15, _⟩ => ⟨S128x64x32, .f32⟩
  | .hbm, ⟨16, _⟩ => ⟨S128x32x64, .f32⟩
  | .hbm, ⟨17, _⟩ => ⟨S128x64x32, .f32⟩
  | .hbm, ⟨18, _⟩ => ⟨S128x32x64, .f32⟩
  | .hbm, ⟨19, _⟩ => ⟨S128x64x32, .f32⟩
  | .hbm, ⟨20, _⟩ => ⟨S128x32x64, .f32⟩
  | .hbm, ⟨21, _⟩ => ⟨S32x64, .f32⟩
  | .hbm, ⟨22, _⟩ => ⟨S1x32x64, .f32⟩
  | .hbm, ⟨23, _⟩ => ⟨S128x32x64, .f32⟩
  | .hbm, ⟨24, _⟩ => ⟨S128x32x64, .f32⟩
  | .hbm, ⟨25, _⟩ => ⟨S128x32x64, .f32⟩
  | .hbm, ⟨26, _⟩ => ⟨S_, .f32⟩
  | .hbm, ⟨27, _⟩ => ⟨S128x32, .f32⟩
  | .hbm, ⟨28, _⟩ => ⟨S128x32x1, .f32⟩
  | .hbm, ⟨29, _⟩ => ⟨S128x32x1, .f32⟩
  | .hbm, ⟨30, _⟩ => ⟨S_, .f32⟩
  | .hbm, ⟨31, _⟩ => ⟨S128x32x1, .f32⟩
  | .hbm, ⟨32, _⟩ => ⟨S128x32x1, .f32⟩
  | .hbm, ⟨33, _⟩ => ⟨S128x32x64, .f32⟩
  | .hbm, ⟨34, _⟩ => ⟨S128x32x64, .f32⟩
  | .hbm, ⟨35, _⟩ => ⟨S_, .f32⟩
  | .hbm, ⟨36, _⟩ => ⟨S128x32x64, .f32⟩
  | .hbm, ⟨37, _⟩ => ⟨S128x32x64, .f32⟩
  | .hbm, ⟨38, _⟩ => ⟨S32x64, .f32⟩
  | .hbm, ⟨39, _⟩ => ⟨S1x32x64, .f32⟩
  | .hbm, ⟨40, _⟩ => ⟨S128x32x64, .f32⟩
  | .hbm, ⟨41, _⟩ => ⟨S128x32x64, .f32⟩
  | .hbm, ⟨42, _⟩ => ⟨S_, .f32⟩
  | .hbm, ⟨43, _⟩ => ⟨S128x32x64, .f32⟩
  | .hbm, ⟨44, _⟩ => ⟨S128x32x64, .f32⟩
  | .hbm, ⟨45, _⟩ => ⟨S128x32x64, .f32⟩
  | .hbm, ⟨46, _⟩ => ⟨S128x32x64, .f32⟩
  | .hbm, ⟨47, _⟩ => ⟨S128x32x64, .f32⟩
  | .hbm, ⟨48, _⟩ => ⟨S128x32x64, .f32⟩
  | .hbm, ⟨49, _⟩ => ⟨S128x32x1x64, .f32⟩
  | .hbm, ⟨50, _⟩ => ⟨S128x32x64x64, .f32⟩
  | .hbm, ⟨51, _⟩ => ⟨S128x32x64x64, .f32⟩
  | .hbm, ⟨52, _⟩ => ⟨S128x32x64x1, .f32⟩
  | .hbm, ⟨53, _⟩ => ⟨S128x32x1x64, .f32⟩
  | .hbm, ⟨54, _⟩ => ⟨S128x32x64x64, .f32⟩
  | .hbm, ⟨55, _⟩ => ⟨S128x32x64x64, .f32⟩
  | .hbm, ⟨56, _⟩ => ⟨S128x32x64x64, .f32⟩
  | .hbm, ⟨57, _⟩ => ⟨S128x32x64x64, .f32⟩
  | .hbm, ⟨58, _⟩ => ⟨S128x32x64x1, .f32⟩
  | .hbm, ⟨59, _⟩ => ⟨S128x32x1x64, .f32⟩
  | .hbm, ⟨60, _⟩ => ⟨S128x32x64x64, .f32⟩
  | .hbm, ⟨61, _⟩ => ⟨S128x32x64x64, .f32⟩
  | .hbm, ⟨62, _⟩ => ⟨S128x32x64x64, .f32⟩
  | .hbm, ⟨63, _⟩ => ⟨S128x32x64x64, .f32⟩
  | .hbm, ⟨64, _⟩ => ⟨S128x32x64, .f32⟩
  | .hbm, ⟨65, _⟩ => ⟨S_, .f32⟩
  | .hbm, ⟨66, _⟩ => ⟨S128x32, .f32⟩
  | .hbm, ⟨67, _⟩ => ⟨S128x32x1, .f32⟩
  | .hbm, ⟨68, _⟩ => ⟨S_, .f32⟩
  | .hbm, ⟨69, _⟩ => ⟨S128x32x1, .f32⟩
  | .hbm, ⟨70, _⟩ => ⟨S128x32x1, .f32⟩
  | .hbm, ⟨71, _⟩ => ⟨S128x32x64, .f32⟩
  | .hbm, ⟨72, _⟩ => ⟨S128x32x64, .f32⟩
  | .hbm, ⟨73, _⟩ => ⟨S128x32x64, .f32⟩
  | .hbm, ⟨74, _⟩ => ⟨S_, .f32⟩
  | .hbm, ⟨75, _⟩ => ⟨S128x32, .f32⟩
  | .hbm, ⟨76, _⟩ => ⟨S128x32x1, .f32⟩
  | .hbm, ⟨77, _⟩ => ⟨S_, .f32⟩
  | .hbm, ⟨78, _⟩ => ⟨S128x32x1, .f32⟩
  | .hbm, ⟨79, _⟩ => ⟨S128x32x1, .f32⟩
  | .hbm, ⟨80, _⟩ => ⟨S128x32x64, .f32⟩
  | .hbm, ⟨81, _⟩ => ⟨S128x32x64, .f32⟩
  | .hbm, ⟨82, _⟩ => ⟨S_, .f32⟩
  | .hbm, ⟨83, _⟩ => ⟨S128x32x1, .f32⟩
  | .hbm, ⟨84, _⟩ => ⟨S128x32x1, .f32⟩
  | .hbm, ⟨85, _⟩ => ⟨S128x32x1, .f32⟩
  | .hbm, ⟨86, _⟩ => ⟨S128x32x64, .f32⟩
  | .hbm, ⟨87, _⟩ => ⟨S128x32x64, .f32⟩
  | .hbm, ⟨88, _⟩ => ⟨S32x64, .f32⟩
  | .hbm, ⟨89, _⟩ => ⟨S1x32x64, .f32⟩
  | .hbm, ⟨90, _⟩ => ⟨S128x32x64, .f32⟩
  | .hbm, ⟨91, _⟩ => ⟨S128x32x64, .f32⟩
  | .hbm, ⟨92, _⟩ => ⟨S32x64, .f32⟩
  | .hbm, ⟨93, _⟩ => ⟨S1x32x64, .f32⟩
  | .hbm, ⟨94, _⟩ => ⟨S128x32x64, .f32⟩
  | .hbm, ⟨95, _⟩ => ⟨S128x32x64, .f32⟩
  | .hbm, ⟨96, _⟩ => ⟨S128x32x64, .f32⟩
  | .hbm, ⟨97, _⟩ => ⟨S1x32x64, .f32⟩
  | .hbm, ⟨98, _⟩ => ⟨S128x32x64, .f32⟩
  | .hbm, ⟨99, _⟩ => ⟨S128x32x64, .f32⟩
  | .hbm, ⟨100, _⟩ => ⟨S_, .f32⟩
  | .hbm, ⟨101, _⟩ => ⟨S128x32, .f32⟩
  | .hbm, ⟨102, _⟩ => ⟨S128x32x1, .f32⟩
  | .hbm, ⟨103, _⟩ => ⟨S128x32x64, .f32⟩
  | .hbm, ⟨104, _⟩ => ⟨S128x32x64, .f32⟩
  | .hbm, ⟨105, _⟩ => ⟨S128x32x64, .f32⟩
  | .hbm, ⟨106, _⟩ => ⟨S128x64x32, .f32⟩
  | .hbm, ⟨107, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== SguSample.lean ====
abbrev S128x12800 : Shape := ⟨2, ![128, 12800]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x1x1 : Shape := ⟨3, ![8, 1, 1]⟩
abbrev S8 : Shape := ⟨1, ![8]⟩
abbrev S8x1 : Shape := ⟨2, ![8, 1]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S128x12800, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S8x1x1, .f32⟩
  | .hbm, ⟨8, _⟩ => ⟨S8, .f32⟩
  | .hbm, ⟨9, _⟩ => ⟨S8x128, .f32⟩
  | .hbm, ⟨10, _⟩ => ⟨S1024, .f32⟩
  | .hbm, ⟨11, _⟩ => ⟨S1x1024, .f32⟩
  | .hbm, ⟨12, _⟩ => ⟨S8x1, .f32⟩
  | .hbm, ⟨13, _⟩ => ⟨S8, .f32⟩
  | .hbm, ⟨14, _⟩ => ⟨S8x128, .f32⟩
  | .hbm, ⟨15, _⟩ => ⟨S1024, .f32⟩
  | .hbm, ⟨16, _⟩ => ⟨S1x1024, .f32⟩
  | .hbm, ⟨17, _⟩ => ⟨S128x1024, .bf16⟩
  | .hbm, ⟨18, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S128x1024, .bf16⟩
  | .local _ .vmem, ⟨7, _⟩ => ⟨S128x1024, .f32⟩
  | _, _ => ⟨S128x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_1 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SguSampleRefIdeal.lean ====
abbrev S128x12800 : Shape := ⟨2, ![128, 12800]⟩
abbrev S1024 : Shape := ⟨1, ![1024]⟩
abbrev S8x128x128 : Shape := ⟨3, ![8, 128, 128]⟩
abbrev S8x128 : Shape := ⟨2, ![8, 128]⟩
abbrev S128x1024 : Shape := ⟨2, ![128, 1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x128x1024 : Shape := ⟨3, ![128, 128, 1024]⟩
abbrev S128x1x128x8x128 : Shape := ⟨5, ![128, 1, 128, 8, 128]⟩
abbrev S128x128 : Shape := ⟨2, ![128, 128]⟩
abbrev S1x128x128 : Shape := ⟨3, ![1, 128, 128]⟩
abbrev S8x128x1x128x128 : Shape := ⟨5, ![8, 128, 1, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 106
  | .vmem => 0
  | .smem => 0
  | _ => 0

abbrev bufTy : (tb : Table) → Fin (tcTables nBuf tb) → BufTy
  | .hbm, ⟨0, _⟩ => ⟨S128x12800, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x1024, .f32⟩
  | .hbm, ⟨6, _⟩ => ⟨S128x1x1024, .f32⟩
  | .hbm, ⟨7, _⟩ => ⟨S128x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S_, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S_, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S_, .f32⟩
  | .hbm, ⟨20, _⟩ => ⟨S128x1x1024, .f32⟩
  | .hbm, ⟨21, _⟩ => ⟨S128x1x1024, .f32⟩
  | .hbm, ⟨22, _⟩ => ⟨S_, .f32⟩
  | .hbm, ⟨23, _⟩ => ⟨S128x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S_, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S_, .f32⟩
  | .hbm, ⟨37, _⟩ => ⟨S128x1x1024, .f32⟩
  | .hbm, ⟨38, _⟩ => ⟨S128x1x1024, .f32⟩
  | .hbm, ⟨39, _⟩ => ⟨S_, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S_, .f32⟩
  | .hbm, ⟨44, _⟩ => ⟨S128x1, .f32⟩
  | .hbm, ⟨45, _⟩ => ⟨S128x1x1, .f32⟩
  | .hbm, ⟨46, _⟩ => ⟨S_, .f32⟩
  | .hbm, ⟨47, _⟩ => ⟨S128x1x1, .f32⟩
  | .hbm, ⟨48, _⟩ => ⟨S128x1x1, .f32⟩
  | .hbm, ⟨49, _⟩ => ⟨S128x1x1024, .f32⟩
  | .hbm, ⟨50, _⟩ => ⟨S128x1x1024, .f32⟩
  | .hbm, ⟨51, _⟩ => ⟨S128x1x1024, .f32⟩
  | .hbm, ⟨52, _⟩ => ⟨S_, .f32⟩
  | .hbm, ⟨53, _⟩ => ⟨S128x1, .f32⟩
  | .hbm, ⟨54, _⟩ => ⟨S128x1x1, .f32⟩
  | .hbm, ⟨55, _⟩ => ⟨S_, .f32⟩
  | .hbm, ⟨56, _⟩ => ⟨S128x1x1, .f32⟩
  | .hbm, ⟨57, _⟩ => ⟨S128x1x1, .f32⟩
  | .hbm, ⟨58, _⟩ => ⟨S128x1x1024, .f32⟩
  | .hbm, ⟨59, _⟩ => ⟨S128x1x1024, .f32⟩
  | .hbm, ⟨60, _⟩ => ⟨S_, .f32⟩
  | .hbm, ⟨61, _⟩ => ⟨S128x1x1, .f32⟩
  | .hbm, ⟨62, _⟩ => ⟨S128x1x1, .f32⟩
  | .hbm, ⟨63, _⟩ => ⟨S128x1x1, .f32⟩
  | .hbm, ⟨64, _⟩ => ⟨S128x1x1024, .f32⟩
  | .hbm, ⟨65, _⟩ => ⟨S128x1x1024, .f32⟩
  | .hbm, ⟨66, _⟩ => ⟨S1x1x1024, .f32⟩
  | .hbm, ⟨67, _⟩ => ⟨S128x1x1024, .f32⟩
  | .hbm, ⟨68, _⟩ => ⟨S128x1x1024, .f32⟩
  | .hbm, ⟨69, _⟩ => ⟨S1x1x1024, .f32⟩
  | .hbm, ⟨70, _⟩ => ⟨S128x1x1024, .f32⟩
  | .hbm, ⟨71, _⟩ => ⟨S128x1x1024, .f32⟩
  | .hbm, ⟨72, _⟩ => ⟨S_, .i32⟩
  | .hbm, ⟨73, _⟩ => ⟨S_, .f32⟩
  | .hbm, ⟨74, _⟩ => ⟨S128x128x1024, .f32⟩
  | .hbm, ⟨75, _⟩ => ⟨S128x1x128x8x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S1x128x128, .i1⟩
  | .hbm, ⟨88, _⟩ => ⟨S_, .i32⟩
  | .hbm, ⟨89, _⟩ => ⟨S_, .f32⟩
  | .hbm, ⟨90, _⟩ => ⟨S8x128x128, .i1⟩
  | .hbm, ⟨91, _⟩ => ⟨S8x128x128, .f32⟩
  | .hbm, ⟨92, _⟩ => ⟨S8x128x128, .f32⟩
  | .hbm, ⟨93, _⟩ => ⟨S8x128x1x128x128, .f32⟩
  | .hbm, ⟨94, _⟩ => ⟨S128x1x128x8x128, .f32⟩
  | .hbm, ⟨95, _⟩ => ⟨S128x8, .f32⟩
  | .hbm, ⟨96, _⟩ => ⟨S128x8x1, .f32⟩
  | .hbm, ⟨97, _⟩ => ⟨S1x1x128x8x1, .f32⟩
  | .hbm, ⟨98, _⟩ => ⟨S128x1x128x8x128, .f32⟩
  | .hbm, ⟨99, _⟩ => ⟨S128x1x128x8x128, .f32⟩
  | .hbm, ⟨100, _⟩ => ⟨S128x128x1024, .f32⟩
  | .hbm, ⟨101, _⟩ => ⟨S128x1x1024, .f32⟩
  | .hbm, ⟨102, _⟩ => ⟨S128x1x1024, .f32⟩
  | .hbm, ⟨103, _⟩ => ⟨S128x1024, .f32⟩
  | .hbm, ⟨104, _⟩ => ⟨S128x1024, .bf16⟩
  | .hbm, ⟨105, _⟩ => ⟨S128x1024, .f32⟩
  | _, _ => ⟨S128x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_c_0 : Ref sig .tc := ⟨.hbm, 84, rfl⟩
abbrev main_call1_v5 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Final.lean ====
abbrev S8192x2048 : Shape := ⟨2, ![8192, 2048]⟩
abbrev S2048x8448 : Shape := ⟨2, ![2048, 8448]⟩
abbrev S4x1x12288 : Shape := ⟨3, ![4, 1, 12288]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x8448, .f32⟩
  | .hbm, ⟨2, _⟩ => ⟨S4x1x12288, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalRefIdeal.lean ====
abbrev S8192x2048 : Shape := ⟨2, ![8192, 2048]⟩
abbrev S2048x8448 : Shape := ⟨2, ![2048, 8448]⟩
abbrev S4x1x12288 : Shape := ⟨3, ![4, 1, 12288]⟩
abbrev S2048 : Shape := ⟨1, ![2048]⟩
abbrev S4x1x2048 : Shape := ⟨3, ![4, 1, 2048]⟩
abbrev S8448x2048 : Shape := ⟨2, ![8448, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8448, .f32⟩
  | .hbm, ⟨2, _⟩ => ⟨S4x1x12288, .f32⟩
  | .hbm, ⟨3, _⟩ => ⟨S2048, .f32⟩
  | .hbm, ⟨4, _⟩ => ⟨S2048, .f32⟩
  | .hbm, ⟨5, _⟩ => ⟨S4x1x2048, .f32⟩
  | .hbm, ⟨6, _⟩ => ⟨S8448x2048, .f32⟩
  | .hbm, ⟨7, _⟩ => ⟨S8192x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FinalSample.lean ====
abbrev S128x2048 : Shape := ⟨2, ![128, 2048]⟩
abbrev S2048x8448 : Shape := ⟨2, ![2048, 8448]⟩
abbrev S128x12288 : Shape := ⟨2, ![128, 12288]⟩
abbrev S2048 : Shape := ⟨1, ![2048]⟩
abbrev S1x2048 : Shape := ⟨2, ![1, 2048]⟩
abbrev S2048x128 : Shape := ⟨2, ![2048, 128]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x2048, .f32⟩
  | .hbm, ⟨1, _⟩ => ⟨S2048x8448, .f32⟩
  | .hbm, ⟨2, _⟩ => ⟨S128x12288, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S128x2048, .f32⟩
  | .local _ .vmem, ⟨0, _⟩ => ⟨S128x2048, .f32⟩
  | .local _ .vmem, ⟨1, _⟩ => ⟨S2048x128, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FinalSampleRefIdeal.lean ====
abbrev S128x2048 : Shape := ⟨2, ![128, 2048]⟩
abbrev S2048x8448 : Shape := ⟨2, ![2048, 8448]⟩
abbrev S128x12288 : Shape := ⟨2, ![128, 12288]⟩
abbrev S2048 : Shape := ⟨1, ![2048]⟩
abbrev S8448x2048 : Shape := ⟨2, ![8448, 2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x8448, .f32⟩
  | .hbm, ⟨2, _⟩ => ⟨S128x12288, .f32⟩
  | .hbm, ⟨3, _⟩ => ⟨S2048, .f32⟩
  | .hbm, ⟨4, _⟩ => ⟨S2048, .f32⟩
  | .hbm, ⟨5, _⟩ => ⟨S128x2048, .f32⟩
  | .hbm, ⟨6, _⟩ => ⟨S8448x2048, .f32⟩
  | .hbm, ⟨7, _⟩ => ⟨S128x2048, .f32⟩
  | .hbm, ⟨8, _⟩ => ⟨S_, .f32⟩
  | .hbm, ⟨9, _⟩ => ⟨S128x2048, .f32⟩
  | .hbm, ⟨10, _⟩ => ⟨S128x2048, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x2048, .f32⟩
  | .hbm, ⟨29, _⟩ => ⟨S128x2048, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S1x2048, .f32⟩
  | .hbm, ⟨37, _⟩ => ⟨S128x2048, .f32⟩
  | .hbm, ⟨38, _⟩ => ⟨S128x2048, .f32⟩
  | .hbm, ⟨39, _⟩ => ⟨S1x2048, .f32⟩
  | .hbm, ⟨40, _⟩ => ⟨S128x2048, .f32⟩
  | .hbm, ⟨41, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Modulation.Block.lean ====
/-
  The modulation, block by block: eight blocks of 1536 columns for all conditioning vectors, padded to 136 rows.
-/
module

public import proofs.«01_k».proof.Proof.Gen.ModulationIdeal.Frame
public import Idealize.ShloMosaic.Lib.Pipeline.ValueKit
public import Idealize.ShloMosaic.Lib.Claim
public import Idealize.ShloMosaic.Lib.StableHlo.ReadAt

@[expose] public section

set_option maxRecDepth 16384

noncomputable section

namespace Cert.ModulationIdeal.Value

open Cert.ModulationIdeal Cert.ModulationIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The kernel's bias row is the argument's bias vector. -/
theorem bias (c : Dev nD) (x : S1x12288.Idx) : V m c main_v2 x = (m ((c : Thread nD τ).loc main_arg3)) (ix1 (x 1)) := by
  unfold V V0
  simp only [hostOps0, hostOps0_1, hostOps0_2, List.flatten_cons, List.flatten_nil, List.append_nil, List.cons_append, List.nil_append]
  after_reads_at

/-- The first four of the kernel's padded rows are the prompt sequences' conditioning vectors. -/
theorem cond_prompt (c : Dev nD) (x : S136x2048.Idx) (b : Fin 4) (h : (x 0).val = b.val) :
    V m c main_v1 x = (m ((c : Thread nD τ).loc main_arg0)) (ix2 b (x 1)) := by
  unfold V V0
  simp only [hostOps0, hostOps0_1, hostOps0_2, List.flatten_cons, List.flatten_nil, List.append_nil, List.cons_append, List.nil_append]
  after_reads_at
  have hb := b.isLt
  rw [dif_pos (by omega), dif_pos (by omega), StableHlo.upto_zero]
  exact congrArg (fun z => (m ((c : Thread nD τ).loc main_arg0)) (ix2 z (x 1))) (Fin.ext h)

/-- The next 128 of the kernel's padded rows are the sample sequences' conditioning vectors. -/
theorem cond_sample (c : Dev nD) (x : S136x2048.Idx) (b : Fin 128) (h : (x 0).val = 4 + b.val) :
    V m c main_v1 x = (m ((c : Thread nD τ).loc main_arg1)) (ix2 b (x 1)) := by
  unfold V V0
  simp only [hostOps0, hostOps0_1, hostOps0_2, List.flatten_cons, List.flatten_nil, List.append_nil, List.cons_append, List.nil_append]
  after_reads_at
  have hb := b.isLt
  rw [dif_pos (by omega), dif_neg (by omega), StableHlo.upto_zero]
  exact congrArg (fun z => (m ((c : Thread nD τ).loc main_arg1)) (ix2 z (x 1))) (Fin.ext (by change (x 0).val - 4 = b.val; omega))

/-- The kernel's padded rows. -/
abbrev padded (c : Dev nD) : FVec Ideal S136x2048 .f32 := V m c main_v1

/-- The whole array of modulations of the kernel's padded rows `x`: `silu x · w + b`. -/
def whole (c : Dev nD) : FVec Ideal S136x12288 .f32 := fun i =>
  ((∑ k : Fin 2048, (padded m c (ix2 (i 0) k) * Ideal.logistic (padded m c (ix2 (i 0) k)) : EReal)
    * (m ((c : Thread nD τ).loc main_arg2)) (ix2 k (i 1)) : EReal)
    + (m ((c : Thread nD τ).loc main_arg3)) (ix1 (i 1)) : EReal)

/-- Place `y` of a block of biases is the bias of its column. -/
theorem b_block (c : Dev nD) (t : Fin cfg0.N) (y : S1x1536.Idx) (j : Fin 12288) (h : j.val = 1536 * t.val + (y 1).val) :
    iblk m c 2 t y = (m ((c : Thread nD τ).loc main_arg3)) (ix1 j) := by
  have e : iblk m c 2 t y = V m c main_v2 (ix2 0 j) := by
    blk_simp [iblk, idx t]
    refine congrArg (V m c main_v2) (funext fun a => Fin.ext ?_)
    match a with
    | ⟨0, _⟩ =>
      blk_simp [idx t]
      rfl
    | ⟨1, _⟩ =>
      blk_simp [idx t]
      exact (congrArg (· + (y 1).val) (Nat.mul_comm _ _)).trans h.symm
  exact e.trans (bias m c _)

/-- What point `t` stores at place `y` of its block is the whole array's element there. -/
theorem point (c : Dev nD) (t : Fin cfg0.N) (y : S136x1536.Idx) :
    k0_pay1 (F := Ideal) (iblk m c 0 t) (iblk m c 1 t) (iblk m c 2 t) y = whole m c (((cfg0.win 3).blk t).view.emb y) := by
  unfold whole
  pointwise [k0_pay1]
  refine congrArg₂ (· + ·) ?_ (b_block m c t _ _ ?_)
  · blk_point [iblk, padded, idx t, V_main_arg2]
  · blk_simp [idx t]
    exact congrArg (· + (y 1).val) (Nat.mul_comm _ _)

/-- After the run the kernel's array is the whole array of modulations. -/
theorem final (c : Dev nD) : (dats m 0 c).arrAt 3 cfg0.N = whole m c := by
  refine (dats m 0 c).arrAt_eq_of_covers 3 _ (by decide +kernel) fun t _ y => ?_
  blk_simp
  rw [after0_3]
  frame_out
  exact point m c t y

end Cert.ModulationIdeal.Value

end
-- ==== Proof.Modulation.Value.lean ====
/-
  The modulation: the two results are the reference's.
-/
module

public import proofs.«01_k».proof.Proof.Modulation.Block
public import proofs.«01_k».proof.Proof.Gen.ModulationRefIdeal.Read
public import Idealize.ShloMosaic.Lib.StableHlo.ReadAt

@[expose] public section

set_option maxRecDepth 16384

noncomputable section

namespace Cert.ModulationIdeal.Value

open Cert.ModulationIdeal Cert.ModulationIdeal.Gen Idealize.ShloMosaic Idealize.ShloMosaic.TcCoe Idealize.SL.Sem
open Idealize.ShloMosaic.Pipeline (Dat)
open Cert.ModulationRefIdeal.Read

variable (m : (ℓ : Loc nD τ sig) → Buf (Elt Ideal) ℓ)

/-- The prompt sequences' rows of the whole array are the reference's prompt result. -/
theorem prompt (c : Dev nD) : extractStridedSlice S4x12288 ![0, 0] (whole m c) slices_S136x12288_S4x12288_0_0
    = val_main_v4 (F := Ideal) (m ((c : Thread nD τ).loc main_arg0)) (m ((c : Thread nD τ).loc main_arg2)) (m ((c : Thread nD τ).loc main_arg3)) := by
  funext i
  have hi := (i 0).isLt
  change (i 0).val < 4 at hi
  have h : ∀ k, padded m c (ix2 ⟨(i 0).val, by omega⟩ k) = (m ((c : Thread nD τ).loc main_arg0)) (ix2 (i 0) k) := fun k => cond_prompt m c _ (i 0) rfl
  pointwise [whole, val_main_v4, val_main_v3, val_main_v2, val_main_v1, val_main_v0, val_main_call0_v5, val_main_call0_v4,
    val_main_call0_cst_0, val_main_call0_v3, val_main_call0_v2, val_main_call0_cst, val_main_call0_v1, val_main_call0_v0]
  simp only [h]
  rfl

/-- The sample sequences' rows of the whole array are the reference's sample result. -/
theorem sample (c : Dev nD) : extractStridedSlice S128x12288 ![4, 0] (whole m c) slices_S136x12288_S128x12288_4_0
    = val_main_v9 (F := Ideal) (m ((c : Thread nD τ).loc main_arg1)) (m ((c : Thread nD τ).loc main_arg2)) (m ((c : Thread nD τ).loc main_arg3)) := by
  funext i
  have hi := (i 0).isLt
  change (i 0).val < 128 at hi
  have h : ∀ k, padded m c (ix2 ⟨4 + (i 0).val, by omega⟩ k) = (m ((c : Thread nD τ).loc main_arg1)) (ix2 (i 0) k) := fun k => cond_sample m c _ (i 0) rfl
  pointwise [whole, val_main_v9, val_main_v8, val_main_v7, val_main_v6, val_main_v5, val_main_call1_v5, val_main_call1_v4,
    val_main_call1_cst_0, val_main_call1_v3, val_main_call1_v2, val_main_call1_cst, val_main_call1_v1, val_main_call1_v0]
  simp only [h]
  rfl

/-- The prompt result after the run: the prompt rows of the kernel's array. -/
theorem tail_prompt (c : Dev nD) : Idealize.ShloMosaic.Pipeline.afterTail₀ cfgs (dats m) 0 (V0 m) [hostOps1] c main_v4
    = extractStridedSlice S4x12288 ![0, 0] (whole m c) slices_S136x12288_S4x12288_0_0 := by
  have e : Idealize.ShloMosaic.Pipeline.withArrays (cfgs 0).spec c (V0 m c) (fun w => (dats m 0 c).arrAt w (cfgs 0).N) (Proc.devRef .tc main_v3) = whole m c :=
    (Idealize.ShloMosaic.Pipeline.withArrays_arr (cfgs 0).spec (by decide) c (V0 m c) _ 3).trans (final m c)
  unfold Idealize.ShloMosaic.Pipeline.afterTail₀
  simp only [hostOps1, List.flatten_cons, List.flatten_nil, List.append_nil]
  after_reads_simp
  exact congrArg (extractStridedSlice S4x12288 ![0, 0] · slices_S136x12288_S4x12288_0_0) e

/-- The sample result after the run: the sample rows of the kernel's array. -/
theorem tail_sample (c : Dev nD) : Idealize.ShloMosaic.Pipeline.afterTail₀ cfgs (dats m) 0 (V0 m) [hostOps1] c main_v5
    = extractStridedSlice S128x12288 ![4, 0] (whole m c) slices_S136x12288_S128x12288_4_0 := by
  have e : Idealize.ShloMosaic.Pipeline.withArrays (cfgs 0).spec c (V0 m c) (fun w => (dats m 0 c).arrAt w (cfgs 0).N) (Proc.devRef .tc main_v3) = whole m c :=
    (Idealize.ShloMosaic.Pipeline.withArrays_arr (cfgs 0).spec (by decide) c (V0 m c) _ 3).trans (final m c)
  unfold Idealize.ShloMosaic.Pipeline.afterTail₀
  simp only [hostOps1, List.flatten_cons, List.flatten_nil, List.append_nil]
  after_reads_simp
  exact congrArg (extractStridedSlice S128x12288 ![4, 0] · slices_S136x12288_S128x12288_4_0) e

end Cert.ModulationIdeal.Value

end
-- ==== Proof.Modulation.Algebraic.lean ====
/-
  The modulation: the kernel and the plain reference leave the same arrays over the extended reals.
-/
module

public import proofs.«01_k».proof.Defs
public import proofs.«01_k».proof.Proof.Modulation.Value
public import proofs.«01_k».proof.Proof.Gen.Modulation
public import proofs.«01_k».proof.Proof.Gen.ModulationIdeal
public import proofs.«01_k».proof.Proof.Gen.ModulationRefIdeal
public import Idealize.ShloMosaic.Lib.Claim

@[expose] public section

set_option maxRecDepth 16384

noncomputable section

namespace Cert.Proof

open Idealize.ShloMosaic Idealize.SL.Sem

/-- From the same arguments the kernel's two arrays of modulations are the reference's. -/
theorem modulation_algebraic : Cert.algebraic_ModulationIdeal_ModulationRefIdeal := by
  pair_intro
  · run_from Cert.ModulationIdeal.Gen.run_main m g
    · exact Cert.ModulationIdeal.Gen.W_main_arg0 m _ c
    · exact Cert.ModulationIdeal.Gen.W_main_arg1 m _ c
    · exact Cert.ModulationIdeal.Gen.W_main_arg3 m _ c
  · run_from Cert.ModulationRefIdeal.Value.run m' g'
    · exact ((Cert.ModulationIdeal.Value.tail_prompt m c).trans (Cert.ModulationIdeal.Value.prompt m c)).symm
    · exact ((Cert.ModulationIdeal.Value.tail_sample m c).trans (Cert.ModulationIdeal.Value.sample m c)).symm

end Cert.Proof

end
-- ==== Proof.InProj.Block.lean ====
/-
  The input projection, block by block. The kernel walks a grid of 8 row blocks by 10 column blocks; the first column
  block of each row block computes the modulated rows into a scratch buffer, which the other nine reuse.
-/
module

public import proofs.«01_k».proof.Proof.Gen.InProjIdeal.Frame
public import Idealize.ShloMosaic.Lib.Pipeline.ValueKit

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 10, 0] ∧ win0_1.index t = ![t.val / 20, 0, 0]
    ∧ win0_2.index t = ![t.val / 20, 0, 1] ∧ win0_3.index t = ![t.val % 10, 0]
    ∧ win0_4.index t = ![t.val / 10, t.val % 10] :=
  (by decide +kernel : ∀ t : Fin grid0.N, _)

/-- The modulated rows of the row block of point `t`: `x * (1 + scale) + shift`. -/
def modulated (c : Dev nD) (t : Fin cfg0.N) : FVec Ideal S1024x2048 .bf16 :=
  k0_pay1 (F := Ideal) (iblk m c 0 t) (iblk m c 2 t) (iblk m c 1 t)

/-- The modulated rows depend on the row block only: two consecutive points of one row block have the same ones. -/
theorem modulated_pred (c : Dev nD) (t t' : Fin cfg0.N) (h : t'.val + 1 = t.val) (h0 : ¬t.val % 10 = 0) :
    modulated m c t' = modulated m c t := by
  have e : t'.val / 10 = t.val / 10 := by omega
  have e2 : t'.val / 20 = t.val / 20 := by omega
  funext y
  unfold modulated
  pointwise [k0_pay1]
  blk_point [iblk, V, idx t, idx t', e, e2]

/-- After every point the scratch buffer holds the modulated rows of the point's row block. -/
theorem scratch (c : Dev nD) : ∀ (n : ℕ) (hn : n < cfg0.N), (outsAt0 m c n hn).2 = modulated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 10 = 0
    · rw [outsAt0_A m c ⟨n + 1, hn⟩ h0]
      frame_out
      rfl
    · rw [outsAt0_B m c ⟨n + 1, hn⟩ h0]
      unfold sout0_B_0
      exact (ih (Nat.lt_of_succ_lt hn)).trans (modulated_pred m c ⟨n + 1, hn⟩ ⟨n, Nat.lt_of_succ_lt hn⟩ rfl h0)

/-- After every point the output block is the product of the modulated rows and the point's rows of the weights. -/
theorem out_block (c : Dev nD) (t : Fin cfg0.N) :
    (outsAt0 m c t.val t.isLt).1 = k0_pay2 (modulated m c t) (iblk m c 3 t) := by
  by_cases h0 : t.val % 10 = 0
  · rw [outsAt0_A m c t h0]
    frame_out
    rfl
  · have hp : t.val - 1 + 1 = t.val := by omega
    rw [outsAt0_B m c t h0, scratch m c (t.val - 1) _, modulated_pred m c t ⟨t.val - 1, _⟩ hp h0]
    frame_out
    exact congrArg (fun s => k0_pay2 s (iblk m c 3 t))
      ((Memref.isWhole_whole cc0_scratch0).read_unread (Val := Elt Ideal) (modulated m c t))

end Cert.InProjIdeal.Value

end
-- ==== Proof.InProj.Value.lean ====
/-
  The input projection: the array the kernel leaves is the reference's array, element by element over the extended reals.
-/
module

public import proofs.«01_k».proof.Proof.InProj.Block
public import proofs.«01_k».proof.Proof.Gen.InProjRefIdeal.Read

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

/-- What point `t` stores at place `y` of its block is the reference's element there. -/
theorem point (c : Dev nD) (t : Fin cfg0.N) (y : S1024x1280.Idx) :
    k0_pay2 (modulated m c t) (iblk m c 3 t) y = val_main_v12 (F := Ideal) (m ((c : Thread nD τ).loc main_arg0))
      (m ((c : Thread nD τ).loc main_arg1)) (m ((c : Thread nD τ).loc main_arg2)) (((cfg0.win 4).blk t).view.emb y) := by
  unfold modulated
  pointwise [k0_pay1, k0_pay2, val_main_v12, val_main_v11, val_main_v10, val_main_v9, val_main_v8, val_main_v7, val_main_v6,
    val_main_v5, val_main_v4, val_main_v3, val_main_v2, val_main_v1, val_main_v0, val_main_cst]
  blk_point [iblk, V, idx t]

/-- After the run the result array is the reference's result of the argument arrays. -/
theorem final (c : Dev nD) : (dats m 0 c).arrAt 4 cfg0.N = val_main_v12 (F := Ideal) (m ((c : Thread nD τ).loc main_arg0))
      (m ((c : Thread nD τ).loc main_arg1)) (m ((c : Thread nD τ).loc main_arg2)) := by
  refine (dats m 0 c).arrAt_eq_of_covers 4 _ (by decide +kernel) fun t _ y => ?_
  blk_simp
  rw [after0_4, out_block]
  exact point m c t y

end Cert.InProjIdeal.Value

end
-- ==== Proof.InProj.Algebraic.lean ====
/-
  The input projection: the kernel and the plain reference leave the same arrays over the extended reals.
-/
module

public import proofs.«01_k».proof.Defs
public import proofs.«01_k».proof.Proof.InProj.Value
public import proofs.«01_k».proof.Proof.Gen.InProj
public import proofs.«01_k».proof.Proof.Gen.InProjIdeal
public import proofs.«01_k».proof.Proof.Gen.InProjRefIdeal
public import Idealize.ShloMosaic.Lib.Claim

@[expose] public section

set_option maxRecDepth 16384

noncomputable section

namespace Cert.Proof

open Idealize.ShloMosaic Idealize.SL.Sem

/-- From the same arguments the kernel's projection is the reference's. -/
theorem inProj_algebraic : Cert.algebraic_InProjIdeal_InProjRefIdeal := by
  pair_intro
  · run_from Cert.InProjIdeal.Gen.run_main m g
  · run_from Cert.InProjRefIdeal.Value.run m' g'
    exact (Cert.InProjIdeal.Value.final m c).symm

end Cert.Proof

end
-- ==== Proof.InProjSample.Block.lean ====
/-
  The input projection of the sample rows, block by block. The kernel walks 10 column blocks; the first one computes the modulated rows into a scratch buffer, which the other nine reuse.
-/
module

public import proofs.«01_k».proof.Proof.Gen.InProjSampleIdeal.Frame
public import Idealize.ShloMosaic.Lib.Pipeline.ValueKit

@[expose] public section

set_option maxRecDepth 16384

noncomputable section

namespace Cert.InProjSampleIdeal.Value

open Cert.InProjSampleIdeal Cert.InProjSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 10, 0] ∧ win0_1.index t = ![t.val / 10, 0]
    ∧ win0_2.index t = ![t.val / 10, 1] ∧ win0_3.index t = ![t.val % 10, 0]
    ∧ win0_4.index t = ![t.val / 10, t.val % 10] :=
  (by decide +kernel : ∀ t : Fin grid0.N, _)

/-- The modulated rows of the row block of point `t`: `x * (1 + scale) + shift`. -/
def modulated (c : Dev nD) (t : Fin cfg0.N) : FVec Ideal S128x2048 .bf16 :=
  k0_pay1 (F := Ideal) (iblk m c 0 t) (iblk m c 2 t) (iblk m c 1 t)

/-- The modulated rows depend on the row block only: two consecutive points of one row block have the same ones. -/
theorem modulated_pred (c : Dev nD) (t t' : Fin cfg0.N) (h : t'.val + 1 = t.val) (h0 : ¬t.val % 10 = 0) :
    modulated m c t' = modulated m c t := by
  have e : t'.val / 10 = t.val / 10 := by omega
  funext y
  unfold modulated
  pointwise [k0_pay1]
  blk_point [iblk, V, idx t, idx t', e]

/-- After every point the scratch buffer holds the modulated rows of the point's row block. -/
theorem scratch (c : Dev nD) : ∀ (n : ℕ) (hn : n < cfg0.N), (outsAt0 m c n hn).2 = modulated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 10 = 0
    · rw [outsAt0_A m c ⟨n + 1, hn⟩ h0]
      frame_out
      rfl
    · rw [outsAt0_B m c ⟨n + 1, hn⟩ h0]
      unfold sout0_B_0
      exact (ih (Nat.lt_of_succ_lt hn)).trans (modulated_pred m c ⟨n + 1, hn⟩ ⟨n, Nat.lt_of_succ_lt hn⟩ rfl h0)

/-- After every point the output block is the product of the modulated rows and the point's rows of the weights. -/
theorem out_block (c : Dev nD) (t : Fin cfg0.N) :
    (outsAt0 m c t.val t.isLt).1 = k0_pay2 (modulated m c t) (iblk m c 3 t) := by
  by_cases h0 : t.val % 10 = 0
  · rw [outsAt0_A m c t h0]
    frame_out
    rfl
  · have hp : t.val - 1 + 1 = t.val := by omega
    rw [outsAt0_B m c t h0, scratch m c (t.val - 1) _, modulated_pred m c t ⟨t.val - 1, _⟩ hp h0]
    frame_out
    exact congrArg (fun s => k0_pay2 s (iblk m c 3 t))
      ((Memref.isWhole_whole cc0_scratch0).read_unread (Val := Elt Ideal) (modulated m c t))

end Cert.InProjSampleIdeal.Value

end
-- ==== Proof.InProjSample.Value.lean ====
/-
  The input projection of the sample rows: the array the kernel leaves is the reference's array, element by element over the extended reals.
-/
module

public import proofs.«01_k».proof.Proof.InProjSample.Block
public import proofs.«01_k».proof.Proof.Gen.InProjSampleRefIdeal.Read

@[expose] public section

set_option maxRecDepth 16384

noncomputable section

namespace Cert.InProjSampleIdeal.Value

open Cert.InProjSampleIdeal Cert.InProjSampleIdeal.Gen Idealize.ShloMosaic Idealize.ShloMosaic.TcCoe Idealize.SL.Sem
open Idealize.ShloMosaic.Pipeline (Dat)
open Cert.InProjSampleRefIdeal.Read

variable (m : (ℓ : Loc nD τ sig) → Buf (Elt Ideal) ℓ)

/-- What point `t` stores at place `y` of its block is the reference's element there. -/
theorem point (c : Dev nD) (t : Fin cfg0.N) (y : S128x1280.Idx) :
    k0_pay2 (modulated m c t) (iblk m c 3 t) y = val_main_v8 (F := Ideal) (m ((c : Thread nD τ).loc main_arg0))
      (m ((c : Thread nD τ).loc main_arg1)) (m ((c : Thread nD τ).loc main_arg2)) (((cfg0.win 4).blk t).view.emb y) := by
  unfold modulated
  pointwise [k0_pay1, k0_pay2, val_main_v8, val_main_v7, val_main_v6, val_main_v5, val_main_v4, val_main_v3, val_main_v2, val_main_cst, val_main_v1,
    val_main_v0]
  blk_point [iblk, V, idx t]

/-- After the run the result array is the reference's result of the argument arrays. -/
theorem final (c : Dev nD) : (dats m 0 c).arrAt 4 cfg0.N = val_main_v8 (F := Ideal) (m ((c : Thread nD τ).loc main_arg0))
      (m ((c : Thread nD τ).loc main_arg1)) (m ((c : Thread nD τ).loc main_arg2)) := by
  refine (dats m 0 c).arrAt_eq_of_covers 4 _ (by decide +kernel) fun t _ y => ?_
  blk_simp
  rw [after0_4, out_block]
  exact point m c t y

end Cert.InProjSampleIdeal.Value

end
-- ==== Proof.InProjSample.Algebraic.lean ====
/-
  The input projection of the sample rows: the kernel and the plain reference leave the same arrays over the extended reals.
-/
module

public import proofs.«01_k».proof.Defs
public import proofs.«01_k».proof.Proof.InProjSample.Value
public import proofs.«01_k».proof.Proof.Gen.InProjSample
public import proofs.«01_k».proof.Proof.Gen.InProjSampleIdeal
public import proofs.«01_k».proof.Proof.Gen.InProjSampleRefIdeal
public import Idealize.ShloMosaic.Lib.Claim

@[expose] public section

set_option maxRecDepth 16384

noncomputable section

namespace Cert.Proof

open Idealize.ShloMosaic Idealize.SL.Sem

/-- From the same arguments the kernel's projection is the reference's. -/
theorem inProjSample_algebraic : Cert.algebraic_InProjSampleIdeal_InProjSampleRefIdeal := by
  pair_intro
  · run_from Cert.InProjSampleIdeal.Gen.run_main m g
  · run_from Cert.InProjSampleRefIdeal.Value.run m' g'
    exact (Cert.InProjSampleIdeal.Value.final m c).symm

end Cert.Proof

end
-- ==== Proof.Shift.Block.lean ====
/-
  The time-shift columns of the projection: what the kernel's array holds after the run.
-/
module

public import proofs.«01_k».proof.Proof.Gen.ShiftIdeal.Frame
public import Idealize.ShloMosaic.Lib.Pipeline.ValueKit

@[expose] public section

set_option maxRecDepth 16384

noncomputable section

namespace Cert.ShiftIdeal.Value

open Cert.ShiftIdeal Cert.ShiftIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 10, 0] ∧ win0_1.index t = ![t.val / 20, 0, 0]
    ∧ win0_2.index t = ![t.val / 20, 0, 1] ∧ win0_3.index t = ![t.val % 10, 0]
    ∧ win0_4.index t = ![t.val / 10, t.val % 10] :=
  (by decide +kernel : ∀ t : Fin grid0.N, _)

/-- The modulated rows of the row block of point `t`: `x * (1 + scale) + shift`. -/
def modulated (c : Dev nD) (t : Fin cfg0.N) : FVec Ideal S1024x2048 .bf16 :=
  k0_pay1 (F := Ideal) (iblk m c 0 t) (iblk m c 2 t) (iblk m c 1 t)

/-- The modulated rows depend on the row block only: two consecutive points of one row block have the same ones. -/
theorem modulated_pred (c : Dev nD) (t t' : Fin cfg0.N) (h : t'.val + 1 = t.val) (h0 : ¬t.val % 10 = 0) :
    modulated m c t' = modulated m c t := by
  have e : t'.val / 10 = t.val / 10 := by omega
  have e2 : t'.val / 20 = t.val / 20 := by omega
  funext y
  unfold modulated
  pointwise [k0_pay1]
  blk_point [iblk, V_main_arg0, V_main_arg1, idx t, idx t', e, e2]

/-- After every point the scratch buffer holds the modulated rows of the point's row block. -/
theorem scratch (c : Dev nD) : ∀ (n : ℕ) (hn : n < cfg0.N), (outsAt0 m c n hn).2 = modulated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 10 = 0
    · rw [outsAt0_A m c ⟨n + 1, hn⟩ h0]
      frame_out
      rfl
    · rw [outsAt0_B m c ⟨n + 1, hn⟩ h0]
      unfold sout0_B_0
      exact (ih (Nat.lt_of_succ_lt hn)).trans (modulated_pred m c ⟨n + 1, hn⟩ ⟨n, Nat.lt_of_succ_lt hn⟩ rfl h0)

/-- After every point the output block is the product of the modulated rows and the point's rows of the weights. -/
theorem out_block (c : Dev nD) (t : Fin cfg0.N) :
    (outsAt0 m c t.val t.isLt).1 = k0_pay2 (modulated m c t) (iblk m c 3 t) := by
  by_cases h0 : t.val % 10 = 0
  · rw [outsAt0_A m c t h0]
    frame_out
    rfl
  · have hp : t.val - 1 + 1 = t.val := by omega
    rw [outsAt0_B m c t h0, scratch m c (t.val - 1) _, modulated_pred m c t ⟨t.val - 1, _⟩ hp h0]
    frame_out
    exact congrArg (fun s => k0_pay2 s (iblk m c 3 t))
      ((Memref.isWhole_whole cc0_scratch0).read_unread (Val := Elt Ideal) (modulated m c t))

/-- The kernel's packed weights, one row per column of the projection. -/
abbrev packed (c : Dev nD) : FVec Ideal S12800x2048 .bf16 := V m c main_v14

/-- The kernel's rows. -/
abbrev rowsIn (c : Dev nD) : FVec Ideal S8192x2048 .f32 := (m ((c : Thread nD τ).loc main_arg0))

/-- The kernel's modulation. -/
abbrev modIn (c : Dev nD) : FVec Ideal S4x1x12288 .f32 := (m ((c : Thread nD τ).loc main_arg1))

/-- The modulated rows of all sequences: `x * (1 + scale) + shift`. -/
def modAll (c : Dev nD) : FVec Ideal S8192x2048 .f32 := fun i =>
  ((rowsIn m c i * ((1 : EReal) + modIn m c (ix3 ⟨(i 0).val / 2048, by have h := (i 0).isLt; change (i 0).val < 8192 at h; omega⟩ 0
      ⟨2048 + (i 1).val, by have h := (i 1).isLt; change (i 1).val < 2048 at h; omega⟩) : EReal) : EReal)
    + modIn m c (ix3 ⟨(i 0).val / 2048, by have h := (i 0).isLt; change (i 0).val < 8192 at h; omega⟩ 0
      ⟨(i 1).val, by have h := (i 1).isLt; change (i 1).val < 2048 at h; omega⟩) : EReal)

/-- The whole projection: the modulated rows against the packed weights. -/
def product (c : Dev nD) : FVec Ideal S8192x12800 .f32 := fun i =>
  (∑ k : Fin 2048, (modAll m c (ix2 (i 0) k) * packed m c (ix2 (i 1) k) : EReal) : EReal)

/-- What point `t` stores at place `y` of its block is the whole projection's element there. -/
theorem point (c : Dev nD) (t : Fin cfg0.N) (y : S1024x1280.Idx) :
    k0_pay2 (modulated m c t) (iblk m c 3 t) y = product m c (((cfg0.win 4).blk t).view.emb y) := by
  unfold modulated product modAll
  pointwise [k0_pay1, k0_pay2]
  blk_point [iblk, V_main_arg0, V_main_arg1, idx t]

/-- After the run the kernel's array is the whole projection. -/
theorem final (c : Dev nD) : (dats m 0 c).arrAt 4 cfg0.N = product m c := by
  refine (dats m 0 c).arrAt_eq_of_covers 4 _ (by decide +kernel) fun t _ y => ?_
  blk_simp
  rw [after0_4, out_block]
  exact point m c t y

end Cert.ShiftIdeal.Value

end
-- ==== Proof.Shift.Packed.lean ====
/-
  The time-shift columns of the projection: the rows of the packed weights.
-/
module

public import proofs.«01_k».proof.Proof.Shift.Block
public import Idealize.ShloMosaic.Lib.StableHlo.ReadAt

@[expose] public section

set_option maxRecDepth 16384

noncomputable section

namespace Cert.ShiftIdeal.Value

open Cert.ShiftIdeal Cert.ShiftIdeal.Gen Idealize.ShloMosaic Idealize.ShloMosaic.TcCoe Idealize.SL.Sem
open Idealize.ShloMosaic.Pipeline (Dat)

variable (m : (ℓ : Loc nD τ sig) → Buf (Elt Ideal) ℓ)

/-- Row `g * 2048 + n * 32 + h` of the packed weights is column `g * 2048 + h * 64 + n` of the weights: the packing exchanges heads and
    channels within each group of 2048 columns. -/
theorem packed_heads (c : Dev nD) (x : S12800x2048.Idx) (g : Fin 3) (h : Fin 32) (n : Fin 64) (hx : (x 0).val = g.val * 2048 + n.val * 32 + h.val) :
    packed m c x = (m ((c : Thread nD τ).loc main_arg2)) (ix2 (x 1) ⟨g.val * 2048 + h.val * 64 + n.val, by omega⟩) := by
  unfold packed V V0
  simp only [hostOps0, hostOps0_1, hostOps0_2, List.flatten_cons, List.flatten_nil, List.append_nil, List.cons_append, List.nil_append]
  after_reads_at
  rw [dif_pos (by omega)]
  after_reads_at
  exact congrArg (fun z => (m ((c : Thread nD τ).loc main_arg2)) (ix2 (x 1) z)) (Fin.ext (by
    change (x 0).val / 2048 * 2048 + ((x 0).val % 2048 % 32 * 64 + (x 0).val % 2048 / 32) = g.val * 2048 + h.val * 64 + n.val
    omega))

/-- Row `12288 + j` of the packed weights is column `6144 + j` of the weights. -/
theorem packed_rest (c : Dev nD) (x : S12800x2048.Idx) (j : Fin 448) (hx : (x 0).val = 12288 + j.val) :
    packed m c x = (m ((c : Thread nD τ).loc main_arg2)) (ix2 (x 1) ⟨6144 + j.val, by omega⟩) := by
  unfold packed V V0
  simp only [hostOps0, hostOps0_1, hostOps0_2, List.flatten_cons, List.flatten_nil, List.append_nil, List.cons_append, List.nil_append]
  after_reads_at
  rw [dif_neg (by omega), dif_neg (by omega), dif_neg (by omega), dif_neg (by omega), dif_neg (by omega)]
  after_reads_simp
  simp -implicitDefEqProofs only [StableHlo.TRef.toBuf, StableHlo.TRef.ofBuf, cast_cast, cast_eq]
  generalize hk : (Fin.mk ((x 0).val - 6144 - 2048 - 2048 - 1024 - 1024) _ : Fin 512) = k
  have hk' : k.val = j.val := by
    rw [← hk]
    change (x 0).val - 6144 - 2048 - 2048 - 1024 - 1024 = j.val
    omega
  clear hk
  clean_types
  pointwise
  rw [dif_pos (by omega)]
  exact congrArg (fun z => (m ((c : Thread nD τ).loc main_arg2)) (ix2 (x 1) z)) (Fin.ext (congrArg (6144 + ·) hk'))

end Cert.ShiftIdeal.Value

end
-- ==== Proof.Shift.Value.lean ====
/-
  The time-shift columns of the projection: the kernel's result is the reference's.
-/
module

public import proofs.«01_k».proof.Proof.Shift.Packed
public import proofs.«01_k».proof.Proof.Gen.ShiftRefIdeal.Read
public import Idealize.ShloMosaic.Lib.StableHlo.ReadAt

@[expose] public section

set_option maxRecDepth 16384

noncomputable section

namespace Cert.ShiftIdeal.Value

open Cert.ShiftIdeal Cert.ShiftIdeal.Gen Idealize.ShloMosaic Idealize.ShloMosaic.TcCoe Idealize.SL.Sem
open Idealize.ShloMosaic.Pipeline (Dat)
open Cert.ShiftRefIdeal.Read

variable (m : (ℓ : Loc nD τ sig) → Buf (Elt Ideal) ℓ)

/-- The reference's result of the kernel's argument arrays. -/
abbrev result (c : Dev nD) : FVec Ideal S4x6592 .f32 :=
  val_main_v12 (F := Ideal) (m ((c : Thread nD τ).loc main_arg0)) (m ((c : Thread nD τ).loc main_arg1)) (m ((c : Thread nD τ).loc main_arg2))

/-- Column `j` of the reference's result: the modulated row against column `j` of the weights. -/
theorem result_at (c : Dev nD) (i : S4x6592.Idx) : result m c i
    = (∑ k : Fin 2048, (modAll m c (ix2 ⟨(i 0).val * 2048 + 2047, by have h := (i 0).isLt; change (i 0).val < 4 at h; omega⟩ k)
      * ((m ((c : Thread nD τ).loc main_arg2)) : FVec Ideal S2048x12736 .f32) (ix2 k ⟨(i 1).val, by have h := (i 1).isLt; change (i 1).val < 6592 at h; omega⟩) : EReal) : EReal) := by
  unfold modAll
  pointwise [result,     val_main_v12, val_main_v11, val_main_v10, val_main_v9, val_main_v8, val_main_v7, val_main_v6, val_main_v5, val_main_v4,
    val_main_v3, val_main_cst, val_main_v2, val_main_v1, val_main_v0]
  have q : ∀ b : Fin 4, (b.val * 2048 + 2047) / 2048 = b.val := fun b => by omega
  have e := q (i 0)
  simp only [e]
  rfl

/-- Column `j < 6144` of the weights is the packed row that the closing layout step reads for it. -/
theorem heads_at (c : Dev nD) (j : Fin 6592) (hj : j.val < 6144) (k : Fin 2048) (p : Fin 12800)
    (hp : p.val = j.val / 2048 * 2048 + (j.val % 2048 % 64 * 32 + j.val % 2048 / 64)) :
    packed m c (ix2 p k) = (m ((c : Thread nD τ).loc main_arg2)) (ix2 k ⟨j.val, by omega⟩) := by
  have hx : ((ix2 p k : S12800x2048.Idx) 0).val = (⟨j.val / 2048, by omega⟩ : Fin 3).val * 2048
      + (⟨j.val % 2048 % 64, by omega⟩ : Fin 64).val * 32 + (⟨j.val % 2048 / 64, by omega⟩ : Fin 32).val := by
    change p.val = j.val / 2048 * 2048 + j.val % 2048 % 64 * 32 + j.val % 2048 / 64
    omega
  rw [packed_heads m c (ix2 p k) _ _ _ hx]
  have e : (⟨j.val / 2048 * 2048 + j.val % 2048 / 64 * 64 + j.val % 2048 % 64, by omega⟩ : Fin 12736) = ⟨j.val, by omega⟩ :=
    Fin.ext (by
      change j.val / 2048 * 2048 + j.val % 2048 / 64 * 64 + j.val % 2048 % 64 = j.val
      omega)
  exact congrArg (fun z => (m ((c : Thread nD τ).loc main_arg2)) (ix2 k z)) e

/-- Column `j ≥ 6144` of the weights is the packed row that the closing layout step reads for it. -/
theorem rest_at (c : Dev nD) (j : Fin 6592) (hj : ¬j.val < 6144) (k : Fin 2048) (p : Fin 12800)
    (hp : p.val = 12288 + (j.val - 6144)) : packed m c (ix2 p k) = (m ((c : Thread nD τ).loc main_arg2)) (ix2 k ⟨j.val, by omega⟩) := by
  rw [packed_rest m c (ix2 p k) ⟨j.val - 6144, by omega⟩ hp]
  have e : (⟨6144 + (j.val - 6144), by omega⟩ : Fin 12736) = ⟨j.val, by omega⟩ :=
    Fin.ext (by
      change 6144 + (j.val - 6144) = j.val
      omega)
  exact congrArg (fun z => (m ((c : Thread nD τ).loc main_arg2)) (ix2 k z)) e

/-- What the column part of the closing layout step leaves at an index, from the last rows of the sequences. -/
theorem columns_at (W : Valuation τ sig (Elt Ideal)) (A : FVec Ideal S4x12800 .f32) (hA : W (Proc.devRef .tc main_v18) = A)
    (i : S4x6592.Idx) : StableHlo.after (hostOps1.drop 3) W (Proc.devRef .tc main_v26) i
    = if h : (i 1).val < 6144 then
        A (ix2 (i 0) ⟨(i 1).val / 2048 * 2048 + ((i 1).val % 2048 % 64 * 32 + (i 1).val % 2048 / 64), by omega⟩)
      else A (ix2 (i 0) ⟨12288 + ((i 1).val - 6144), by have h := (i 1).isLt; change (i 1).val < 6592 at h; omega⟩) := by
  subst hA
  simp only [hostOps1, List.drop_succ_cons, List.drop_zero]
  after_reads_at

/-- The row part of the closing layout step leaves the last row of each sequence. -/
theorem rows_at (W : Valuation τ sig (Elt Ideal)) (A : FVec Ideal S8192x12800 .f32) (hA : W (Proc.devRef .tc main_v15) = A)
    (i : S4x12800.Idx) : StableHlo.after (hostOps1.take 3) W (Proc.devRef .tc main_v18) i
    = A (ix2 ⟨(i 0).val * 2048 + 2047, by have h := (i 0).isLt; change (i 0).val < 4 at h; omega⟩ (i 1)) := by
  subst hA
  simp only [hostOps1, List.take_succ_cons, List.take_zero]
  after_reads_at

/-- What the closing layout step leaves at an index, from any contents before it. -/
theorem layout_at (W : Valuation τ sig (Elt Ideal)) (A : FVec Ideal S8192x12800 .f32) (hA : W (Proc.devRef .tc main_v15) = A)
    (i : S4x6592.Idx) : StableHlo.after hostOps1 W (Proc.devRef .tc main_v26) i
    = if h : (i 1).val < 6144 then
        A (ix2 ⟨(i 0).val * 2048 + 2047, by have h := (i 0).isLt; change (i 0).val < 4 at h; omega⟩ ⟨(i 1).val / 2048 * 2048 + ((i 1).val % 2048 % 64 * 32 + (i 1).val % 2048 / 64), by omega⟩)
      else A (ix2 ⟨(i 0).val * 2048 + 2047, by have h := (i 0).isLt; change (i 0).val < 4 at h; omega⟩ ⟨12288 + ((i 1).val - 6144), by have h := (i 1).isLt; change (i 1).val < 6592 at h; omega⟩) := by
  have e : StableHlo.after hostOps1 W = StableHlo.after (hostOps1.drop 3) (StableHlo.after (hostOps1.take 3) W) := rfl
  rw [e, columns_at _ (fun y => A (ix2 ⟨(y 0).val * 2048 + 2047, by have h := (y 0).isLt; change (y 0).val < 4 at h; omega⟩ (y 1)))
    (funext fun y => rows_at W A hA y) i]
  rfl

/-- The projection read at the place of column `j` is the modulated row against column `j` of the weights. -/
theorem joined_at (c : Dev nD) (i : S4x6592.Idx) : (if h : (i 1).val < 6144 then
        product m c (ix2 ⟨(i 0).val * 2048 + 2047, by have h := (i 0).isLt; change (i 0).val < 4 at h; omega⟩ ⟨(i 1).val / 2048 * 2048 + ((i 1).val % 2048 % 64 * 32 + (i 1).val % 2048 / 64), by omega⟩)
      else product m c (ix2 ⟨(i 0).val * 2048 + 2047, by have h := (i 0).isLt; change (i 0).val < 4 at h; omega⟩ ⟨12288 + ((i 1).val - 6144), by have h := (i 1).isLt; change (i 1).val < 6592 at h; omega⟩))
    = (∑ k : Fin 2048, (modAll m c (ix2 ⟨(i 0).val * 2048 + 2047, by have h := (i 0).isLt; change (i 0).val < 4 at h; omega⟩ k)
      * (((m ((c : Thread nD τ).loc main_arg2))) : FVec Ideal S2048x12736 .f32) (ix2 k ⟨(i 1).val, by have h := (i 1).isLt; change (i 1).val < 6592 at h; omega⟩) : EReal) : EReal) := by
  split
  · rename_i h
    exact Finset.sum_congr rfl fun k _ => congrArg (fun z : EReal => (modAll m c (ix2 ⟨(i 0).val * 2048 + 2047, by have h := (i 0).isLt; change (i 0).val < 4 at h; omega⟩ k) * z : EReal)) (heads_at m c (i 1) h k _ rfl)
  · rename_i h
    exact Finset.sum_congr rfl fun k _ => congrArg (fun z : EReal => (modAll m c (ix2 ⟨(i 0).val * 2048 + 2047, by have h := (i 0).isLt; change (i 0).val < 4 at h; omega⟩ k) * z : EReal)) (rest_at m c (i 1) h k _ rfl)

/-- After the run the result array is the reference's result of the argument arrays. -/
theorem tail (c : Dev nD) :
    Idealize.ShloMosaic.Pipeline.afterTail₀ cfgs (dats m) 0 (V0 m) [hostOps1] c main_v26 = result m c := by
  have e : Idealize.ShloMosaic.Pipeline.withArrays (cfgs 0).spec c (V0 m c) (fun w => (dats m 0 c).arrAt w (cfgs 0).N) (Proc.devRef .tc main_v15) = product m c :=
    (Idealize.ShloMosaic.Pipeline.withArrays_arr_shared (cfgs 0).spec c (V0 m c) _
      (Dat.arrAt_sharedIn (dats m 0 c) sharedIn0 (V0 m c) (fun w => rfl) (cfgs 0).N) 4).trans (final m c)
  funext i
  refine (layout_at _ (product m c) e i).trans ((joined_at m c i).trans (result_at m c i).symm)

end Cert.ShiftIdeal.Value

end
-- ==== Proof.Shift.Algebraic.lean ====
/-
  The time-shift columns of the prompt projection: the kernel and the plain reference leave the same arrays over the extended reals.
-/
module

public import proofs.«01_k».proof.Defs
public import proofs.«01_k».proof.Proof.Shift.Value
public import proofs.«01_k».proof.Proof.Gen.Shift
public import proofs.«01_k».proof.Proof.Gen.ShiftIdeal
public import proofs.«01_k».proof.Proof.Gen.ShiftRefIdeal
public import Idealize.ShloMosaic.Lib.Claim

@[expose] public section

set_option maxRecDepth 16384

noncomputable section

namespace Cert.Proof

open Idealize.ShloMosaic Idealize.SL.Sem

/-- From the same arguments the kernel's time-shift columns are the reference's. -/
theorem shift_algebraic : Cert.algebraic_ShiftIdeal_ShiftRefIdeal := by
  pair_intro
  · run_from Cert.ShiftIdeal.Gen.run_main m g
    exact Cert.ShiftIdeal.Gen.W_main_arg2 m _ c
  · run_from Cert.ShiftRefIdeal.Value.run m' g'
    exact (Cert.ShiftIdeal.Value.tail m c).symm

end Cert.Proof

end
-- ==== Proof.ShiftSample.Block.lean ====
/-
  The time-shift columns of the projection: what the kernel's array holds after the run.
-/
module

public import proofs.«01_k».proof.Proof.Gen.ShiftSampleIdeal.Frame
public import Idealize.ShloMosaic.Lib.Pipeline.ValueKit

@[expose] public section

set_option maxRecDepth 16384

noncomputable section

namespace Cert.ShiftSampleIdeal.Value

open Cert.ShiftSampleIdeal Cert.ShiftSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 10, 0] ∧ win0_1.index t = ![t.val / 10, 0]
    ∧ win0_2.index t = ![t.val / 10, 1] ∧ win0_3.index t = ![t.val % 10, 0]
    ∧ win0_4.index t = ![t.val / 10, t.val % 10] :=
  (by decide +kernel : ∀ t : Fin grid0.N, _)

/-- The modulated rows of the row block of point `t`: `x * (1 + scale) + shift`. -/
def modulated (c : Dev nD) (t : Fin cfg0.N) : FVec Ideal S128x2048 .bf16 :=
  k0_pay1 (F := Ideal) (iblk m c 0 t) (iblk m c 2 t) (iblk m c 1 t)

/-- The modulated rows depend on the row block only: two consecutive points of one row block have the same ones. -/
theorem modulated_pred (c : Dev nD) (t t' : Fin cfg0.N) (h : t'.val + 1 = t.val) (h0 : ¬t.val % 10 = 0) :
    modulated m c t' = modulated m c t := by
  have e : t'.val / 10 = t.val / 10 := by omega
  funext y
  unfold modulated
  pointwise [k0_pay1]
  blk_point [iblk, V_main_arg0, V_main_arg1, idx t, idx t', e]

/-- After every point the scratch buffer holds the modulated rows of the point's row block. -/
theorem scratch (c : Dev nD) : ∀ (n : ℕ) (hn : n < cfg0.N), (outsAt0 m c n hn).2 = modulated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 10 = 0
    · rw [outsAt0_A m c ⟨n + 1, hn⟩ h0]
      frame_out
      rfl
    · rw [outsAt0_B m c ⟨n + 1, hn⟩ h0]
      unfold sout0_B_0
      exact (ih (Nat.lt_of_succ_lt hn)).trans (modulated_pred m c ⟨n + 1, hn⟩ ⟨n, Nat.lt_of_succ_lt hn⟩ rfl h0)

/-- After every point the output block is the product of the modulated rows and the point's rows of the weights. -/
theorem out_block (c : Dev nD) (t : Fin cfg0.N) :
    (outsAt0 m c t.val t.isLt).1 = k0_pay2 (modulated m c t) (iblk m c 3 t) := by
  by_cases h0 : t.val % 10 = 0
  · rw [outsAt0_A m c t h0]
    frame_out
    rfl
  · have hp : t.val - 1 + 1 = t.val := by omega
    rw [outsAt0_B m c t h0, scratch m c (t.val - 1) _, modulated_pred m c t ⟨t.val - 1, _⟩ hp h0]
    frame_out
    exact congrArg (fun s => k0_pay2 s (iblk m c 3 t))
      ((Memref.isWhole_whole cc0_scratch0).read_unread (Val := Elt Ideal) (modulated m c t))

/-- The kernel's packed weights, one row per column of the projection. -/
abbrev packed (c : Dev nD) : FVec Ideal S12800x2048 .bf16 := V m c main_v14

/-- The kernel's rows. -/
abbrev rowsIn (c : Dev nD) : FVec Ideal S128x2048 .f32 := (m ((c : Thread nD τ).loc main_arg0))

/-- The kernel's modulation. -/
abbrev modIn (c : Dev nD) : FVec Ideal S128x12288 .f32 := (m ((c : Thread nD τ).loc main_arg1))

/-- The modulated rows of all sequences: `x * (1 + scale) + shift`. -/
def modAll (c : Dev nD) : FVec Ideal S128x2048 .f32 := fun i =>
  ((rowsIn m c i * ((1 : EReal) + modIn m c (ix2 (i 0) ⟨2048 + (i 1).val, by have h := (i 1).isLt; change (i 1).val < 2048 at h; omega⟩) : EReal) : EReal)
    + modIn m c (ix2 (i 0) ⟨(i 1).val, by have h := (i 1).isLt; change (i 1).val < 2048 at h; omega⟩) : EReal)

/-- The whole projection: the modulated rows against the packed weights. -/
def product (c : Dev nD) : FVec Ideal S128x12800 .f32 := fun i =>
  (∑ k : Fin 2048, (modAll m c (ix2 (i 0) k) * packed m c (ix2 (i 1) k) : EReal) : EReal)

/-- What point `t` stores at place `y` of its block is the whole projection's element there. -/
theorem point (c : Dev nD) (t : Fin cfg0.N) (y : S128x1280.Idx) :
    k0_pay2 (modulated m c t) (iblk m c 3 t) y = product m c (((cfg0.win 4).blk t).view.emb y) := by
  unfold modulated product modAll
  pointwise [k0_pay1, k0_pay2]
  blk_point [iblk, V_main_arg0, V_main_arg1, idx t]

/-- After the run the kernel's array is the whole projection. -/
theorem final (c : Dev nD) : (dats m 0 c).arrAt 4 cfg0.N = product m c := by
  refine (dats m 0 c).arrAt_eq_of_covers 4 _ (by decide +kernel) fun t _ y => ?_
  blk_simp
  rw [after0_4, out_block]
  exact point m c t y

end Cert.ShiftSampleIdeal.Value

end
-- ==== Proof.ShiftSample.Packed.lean ====
/-
  The time-shift columns of the projection: the rows of the packed weights.
-/
module

public import proofs.«01_k».proof.Proof.ShiftSample.Block
public import Idealize.ShloMosaic.Lib.StableHlo.ReadAt

@[expose] public section

set_option maxRecDepth 16384

noncomputable section

namespace Cert.ShiftSampleIdeal.Value

open Cert.ShiftSampleIdeal Cert.ShiftSampleIdeal.Gen Idealize.ShloMosaic Idealize.ShloMosaic.TcCoe Idealize.SL.Sem
open Idealize.ShloMosaic.Pipeline (Dat)

variable (m : (ℓ : Loc nD τ sig) → Buf (Elt Ideal) ℓ)

/-- Row `g * 2048 + n * 32 + h` of the packed weights is column `g * 2048 + h * 64 + n` of the weights: the packing exchanges heads and
    channels within each group of 2048 columns. -/
theorem packed_heads (c : Dev nD) (x : S12800x2048.Idx) (g : Fin 3) (h : Fin 32) (n : Fin 64) (hx : (x 0).val = g.val * 2048 + n.val * 32 + h.val) :
    packed m c x = (m ((c : Thread nD τ).loc main_arg2)) (ix2 (x 1) ⟨g.val * 2048 + h.val * 64 + n.val, by omega⟩) := by
  unfold packed V V0
  simp only [hostOps0, hostOps0_1, hostOps0_2, List.flatten_cons, List.flatten_nil, List.append_nil, List.cons_append, List.nil_append]
  after_reads_at
  rw [dif_pos (by omega)]
  after_reads_at
  exact congrArg (fun z => (m ((c : Thread nD τ).loc main_arg2)) (ix2 (x 1) z)) (Fin.ext (by
    change (x 0).val / 2048 * 2048 + ((x 0).val % 2048 % 32 * 64 + (x 0).val % 2048 / 32) = g.val * 2048 + h.val * 64 + n.val
    omega))

/-- Row `12288 + j` of the packed weights is column `6144 + j` of the weights. -/
theorem packed_rest (c : Dev nD) (x : S12800x2048.Idx) (j : Fin 448) (hx : (x 0).val = 12288 + j.val) :
    packed m c x = (m ((c : Thread nD τ).loc main_arg2)) (ix2 (x 1) ⟨6144 + j.val, by omega⟩) := by
  unfold packed V V0
  simp only [hostOps0, hostOps0_1, hostOps0_2, List.flatten_cons, List.flatten_nil, List.append_nil, List.cons_append, List.nil_append]
  after_reads_at
  rw [dif_neg (by omega), dif_neg (by omega), dif_neg (by omega), dif_neg (by omega), dif_neg (by omega)]
  after_reads_simp
  simp -implicitDefEqProofs only [StableHlo.TRef.toBuf, StableHlo.TRef.ofBuf, cast_cast, cast_eq]
  generalize hk : (Fin.mk ((x 0).val - 6144 - 2048 - 2048 - 1024 - 1024) _ : Fin 512) = k
  have hk' : k.val = j.val := by
    rw [← hk]
    change (x 0).val - 6144 - 2048 - 2048 - 1024 - 1024 = j.val
    omega
  clear hk
  clean_types
  pointwise
  rw [dif_pos (by omega)]
  exact congrArg (fun z => (m ((c : Thread nD τ).loc main_arg2)) (ix2 (x 1) z)) (Fin.ext (congrArg (6144 + ·) hk'))

end Cert.ShiftSampleIdeal.Value

end
-- ==== Proof.ShiftSample.Value.lean ====
/-
  The time-shift columns of the projection: the kernel's result is the reference's.
-/
module

public import proofs.«01_k».proof.Proof.ShiftSample.Packed
public import proofs.«01_k».proof.Proof.Gen.ShiftSampleRefIdeal.Read
public import Idealize.ShloMosaic.Lib.StableHlo.ReadAt

@[expose] public section

set_option maxRecDepth 16384

noncomputable section

namespace Cert.ShiftSampleIdeal.Value

open Cert.ShiftSampleIdeal Cert.ShiftSampleIdeal.Gen Idealize.ShloMosaic Idealize.ShloMosaic.TcCoe Idealize.SL.Sem
open Idealize.ShloMosaic.Pipeline (Dat)
open Cert.ShiftSampleRefIdeal.Read

variable (m : (ℓ : Loc nD τ sig) → Buf (Elt Ideal) ℓ)

/-- The reference's result of the kernel's argument arrays. -/
abbrev result (c : Dev nD) : FVec Ideal S128x6592 .f32 :=
  val_main_v7 (F := Ideal) (m ((c : Thread nD τ).loc main_arg0)) (m ((c : Thread nD τ).loc main_arg1)) (m ((c : Thread nD τ).loc main_arg2))

/-- Column `j` of the reference's result: the modulated row against column `j` of the weights. -/
theorem result_at (c : Dev nD) (i : S128x6592.Idx) : result m c i
    = (∑ k : Fin 2048, (modAll m c (ix2 (i 0) k)
      * ((m ((c : Thread nD τ).loc main_arg2)) : FVec Ideal S2048x12736 .f32) (ix2 k ⟨(i 1).val, by have h := (i 1).isLt; change (i 1).val < 6592 at h; omega⟩) : EReal) : EReal) := by
  unfold modAll
  pointwise [result,     val_main_v7, val_main_v6, val_main_v5, val_main_v4, val_main_v3, val_main_v2, val_main_cst, val_main_v1, val_main_v0]

/-- Column `j < 6144` of the weights is the packed row that the closing layout step reads for it. -/
theorem heads_at (c : Dev nD) (j : Fin 6592) (hj : j.val < 6144) (k : Fin 2048) (p : Fin 12800)
    (hp : p.val = j.val / 2048 * 2048 + (j.val % 2048 % 64 * 32 + j.val % 2048 / 64)) :
    packed m c (ix2 p k) = (m ((c : Thread nD τ).loc main_arg2)) (ix2 k ⟨j.val, by omega⟩) := by
  have hx : ((ix2 p k : S12800x2048.Idx) 0).val = (⟨j.val / 2048, by omega⟩ : Fin 3).val * 2048
      + (⟨j.val % 2048 % 64, by omega⟩ : Fin 64).val * 32 + (⟨j.val % 2048 / 64, by omega⟩ : Fin 32).val := by
    change p.val = j.val / 2048 * 2048 + j.val % 2048 % 64 * 32 + j.val % 2048 / 64
    omega
  rw [packed_heads m c (ix2 p k) _ _ _ hx]
  have e : (⟨j.val / 2048 * 2048 + j.val % 2048 / 64 * 64 + j.val % 2048 % 64, by omega⟩ : Fin 12736) = ⟨j.val, by omega⟩ :=
    Fin.ext (by
      change j.val / 2048 * 2048 + j.val % 2048 / 64 * 64 + j.val % 2048 % 64 = j.val
      omega)
  exact congrArg (fun z => (m ((c : Thread nD τ).loc main_arg2)) (ix2 k z)) e

/-- Column `j ≥ 6144` of the weights is the packed row that the closing layout step reads for it. -/
theorem rest_at (c : Dev nD) (j : Fin 6592) (hj : ¬j.val < 6144) (k : Fin 2048) (p : Fin 12800)
    (hp : p.val = 12288 + (j.val - 6144)) : packed m c (ix2 p k) = (m ((c : Thread nD τ).loc main_arg2)) (ix2 k ⟨j.val, by omega⟩) := by
  rw [packed_rest m c (ix2 p k) ⟨j.val - 6144, by omega⟩ hp]
  have e : (⟨6144 + (j.val - 6144), by omega⟩ : Fin 12736) = ⟨j.val, by omega⟩ :=
    Fin.ext (by
      change 6144 + (j.val - 6144) = j.val
      omega)
  exact congrArg (fun z => (m ((c : Thread nD τ).loc main_arg2)) (ix2 k z)) e

/-- What the closing layout step leaves at an index, from any contents before it. -/
theorem layout_at (W : Valuation τ sig (Elt Ideal)) (A : FVec Ideal S128x12800 .f32) (hA : W (Proc.devRef .tc main_v15) = A)
    (i : S128x6592.Idx) : StableHlo.after hostOps1 W (Proc.devRef .tc main_v23) i
    = if h : (i 1).val < 6144 then
        A (ix2 (i 0) ⟨(i 1).val / 2048 * 2048 + ((i 1).val % 2048 % 64 * 32 + (i 1).val % 2048 / 64), by omega⟩)
      else A (ix2 (i 0) ⟨12288 + ((i 1).val - 6144), by have h := (i 1).isLt; change (i 1).val < 6592 at h; omega⟩) := by
  subst hA
  after_reads_at

/-- The projection read at the place of column `j` is the modulated row against column `j` of the weights. -/
theorem joined_at (c : Dev nD) (i : S128x6592.Idx) : (if h : (i 1).val < 6144 then
        product m c (ix2 (i 0) ⟨(i 1).val / 2048 * 2048 + ((i 1).val % 2048 % 64 * 32 + (i 1).val % 2048 / 64), by omega⟩)
      else product m c (ix2 (i 0) ⟨12288 + ((i 1).val - 6144), by have h := (i 1).isLt; change (i 1).val < 6592 at h; omega⟩))
    = (∑ k : Fin 2048, (modAll m c (ix2 (i 0) k)
      * (((m ((c : Thread nD τ).loc main_arg2))) : FVec Ideal S2048x12736 .f32) (ix2 k ⟨(i 1).val, by have h := (i 1).isLt; change (i 1).val < 6592 at h; omega⟩) : EReal) : EReal) := by
  split
  · rename_i h
    exact Finset.sum_congr rfl fun k _ => congrArg (fun z : EReal => (modAll m c (ix2 (i 0) k) * z : EReal)) (heads_at m c (i 1) h k _ rfl)
  · rename_i h
    exact Finset.sum_congr rfl fun k _ => congrArg (fun z : EReal => (modAll m c (ix2 (i 0) k) * z : EReal)) (rest_at m c (i 1) h k _ rfl)

/-- After the run the result array is the reference's result of the argument arrays. -/
theorem tail (c : Dev nD) :
    Idealize.ShloMosaic.Pipeline.afterTail₀ cfgs (dats m) 0 (V0 m) [hostOps1] c main_v23 = result m c := by
  have e : Idealize.ShloMosaic.Pipeline.withArrays (cfgs 0).spec c (V0 m c) (fun w => (dats m 0 c).arrAt w (cfgs 0).N) (Proc.devRef .tc main_v15) = product m c :=
    (Idealize.ShloMosaic.Pipeline.withArrays_arr_shared (cfgs 0).spec c (V0 m c) _
      (Dat.arrAt_sharedIn (dats m 0 c) sharedIn0 (V0 m c) (fun w => rfl) (cfgs 0).N) 4).trans (final m c)
  funext i
  refine (layout_at _ (product m c) e i).trans ((joined_at m c i).trans (result_at m c i).symm)

end Cert.ShiftSampleIdeal.Value

end
-- ==== Proof.ShiftSample.Algebraic.lean ====
/-
  The time-shift columns of the sample projection: the kernel and the plain reference leave the same arrays over the extended reals.
-/
module

public import proofs.«01_k».proof.Defs
public import proofs.«01_k».proof.Proof.ShiftSample.Value
public import proofs.«01_k».proof.Proof.Gen.ShiftSample
public import proofs.«01_k».proof.Proof.Gen.ShiftSampleIdeal
public import proofs.«01_k».proof.Proof.Gen.ShiftSampleRefIdeal
public import Idealize.ShloMosaic.Lib.Claim

@[expose] public section

set_option maxRecDepth 16384

noncomputable section

namespace Cert.Proof

open Idealize.ShloMosaic Idealize.SL.Sem

/-- From the same arguments the kernel's time-shift columns are the reference's. -/
theorem shiftSample_algebraic : Cert.algebraic_ShiftSampleIdeal_ShiftSampleRefIdeal := by
  pair_intro
  · run_from Cert.ShiftSampleIdeal.Gen.run_main m g
    exact Cert.ShiftSampleIdeal.Gen.W_main_arg2 m _ c
  · run_from Cert.ShiftSampleRefIdeal.Value.run m' g'
    exact (Cert.ShiftSampleIdeal.Value.tail m c).symm

end Cert.Proof

end
-- ==== Proof.Merge.Block.lean ====
/-
  The branch merge, block by block. The kernel walks a grid of 16 row blocks by 2 column blocks; the first column block of
  each row block gates the branch's rows into a scratch buffer, which the second one reuses.
-/
module

public import proofs.«01_k».proof.Proof.Gen.MergeIdeal.Frame
public import Idealize.ShloMosaic.Lib.Pipeline.ValueKit

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 2, 0] ∧ win0_1.index t = ![t.val / 2, 0]
    ∧ win0_2.index t = ![t.val / 2, 0] ∧ win0_3.index t = ![t.val / 2, 6 + t.val % 2] ∧ win0_4.index t = ![t.val / 2, 8 + t.val % 2]
    ∧ win0_5.index t = ![0, t.val % 2] ∧ win0_6.index t = ![0, t.val % 2] ∧ win0_7.index t = ![t.val / 2, t.val % 2] :=
  (by decide +kernel : ∀ t : Fin grid0.N, _)

/-- The gated rows of the row block of point `t`: `ya * g`. -/
def gated (c : Dev nD) (t : Fin cfg0.N) : FVec Ideal S512x2048 .bf16 :=
  k0_pay1 (F := Ideal) (iblk m c 0 t) (iblk m c 1 t)

/-- The gated rows depend on the row block only: two consecutive points of one row block have the same ones. -/
theorem gated_pred (c : Dev nD) (t t' : Fin cfg0.N) (h : t'.val + 1 = t.val) (h0 : ¬t.val % 2 = 0) :
    gated m c t' = gated m c t := by
  have e : t'.val / 2 = t.val / 2 := by omega
  funext y
  unfold gated
  pointwise [k0_pay1]
  blk_point [iblk, V, idx t, idx t', e]

/-- After every point the scratch buffer holds the gated rows of the point's row block. -/
theorem scratch (c : Dev nD) : ∀ (n : ℕ) (hn : n < cfg0.N), (outsAt0 m c n hn).2 = gated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 2 = 0
    · rw [outsAt0_A m c ⟨n + 1, hn⟩ h0]
      frame_out
      rfl
    · rw [outsAt0_B m c ⟨n + 1, hn⟩ h0]
      unfold sout0_B_0
      exact (ih (Nat.lt_of_succ_lt hn)).trans (gated_pred m c ⟨n + 1, hn⟩ ⟨n, Nat.lt_of_succ_lt hn⟩ rfl h0)

/-- After every point the output block is the two gated products of the point's row block and weight columns, added. -/
theorem out_block (c : Dev nD) (t : Fin cfg0.N) : (outsAt0 m c t.val t.isLt).1
    = k0_pay2 (gated m c t) (iblk m c 5 t) (iblk m c 2 t) (iblk m c 6 t) (X0_3 m c t) (X0_4 m c t) := by
  by_cases h0 : t.val % 2 = 0
  · rw [outsAt0_A m c t h0]
    frame_out
    rfl
  · have hp : t.val - 1 + 1 = t.val := by omega
    rw [outsAt0_B m c t h0, scratch m c (t.val - 1) _, gated_pred m c t ⟨t.val - 1, _⟩ hp h0]
    frame_out
    exact congrArg (fun s => k0_pay2 s (iblk m c 5 t) (iblk m c 2 t) (iblk m c 6 t) (X0_3 m c t) (X0_4 m c t))
      ((Memref.isWhole_whole cc0_scratch0).read_unread (Val := Elt Ideal) (gated m c t))

end Cert.MergeIdeal.Value

end
-- ==== Proof.Merge.Gate.lean ====
/-
  The branch merge's two gates: which elements of the projection the kernel's gate blocks hold. The projection's 12800 columns
  are no multiple of the 1024 columns of a block, but no block the grid reaches overhangs the array.
-/
module

public import proofs.«01_k».proof.Proof.Merge.Block

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The first gate's block at point `t`: columns 6144 to 8191 of the projection, half of them each. -/
theorem gate_a (c : Dev nD) (t : Fin cfg0.N) (y : S512x1024.Idx) (i : S8192x12800.Idx)
    (h0 : (i 0).val = t.val / 2 * 512 + (y 0).val) (h1 : (i 1).val = (6 + t.val % 2) * 1024 + (y 1).val) :
    X0_3 m c t y = m ((c : Thread nD τ).loc main_arg3) i := by
  unfold X0_3 Idealize.ShloMosaic.Pipeline.Window.fill
  rw [dif_pos (moved0_3 t y)]
  blk_simp [iblk, V, idx t]
  refine congrArg (m ((c : Thread nD τ).loc main_arg3)) (funext fun a => Fin.ext ?_)
  blk_simp [idx t]
  match a with
  | ⟨0, _⟩ => simpa using h0.symm
  | ⟨1, _⟩ => simpa using h1.symm

/-- The second gate's block at point `t`: columns 8192 to 10239 of the projection, half of them each. -/
theorem gate_b (c : Dev nD) (t : Fin cfg0.N) (y : S512x1024.Idx) (i : S8192x12800.Idx)
    (h0 : (i 0).val = t.val / 2 * 512 + (y 0).val) (h1 : (i 1).val = (8 + t.val % 2) * 1024 + (y 1).val) :
    X0_4 m c t y = m ((c : Thread nD τ).loc main_arg3) i := by
  unfold X0_4 Idealize.ShloMosaic.Pipeline.Window.fill
  rw [dif_pos (moved0_4 t y)]
  blk_simp [iblk, V, idx t]
  refine congrArg (m ((c : Thread nD τ).loc main_arg3)) (funext fun a => Fin.ext ?_)
  blk_simp [idx t]
  match a with
  | ⟨0, _⟩ => simpa using h0.symm
  | ⟨1, _⟩ => simpa using h1.symm

end Cert.MergeIdeal.Value

end
-- ==== Proof.Merge.Value.lean ====
/-
  The branch merge: the array the kernel leaves is the reference's array, element by element over the extended reals.
-/
module

public import proofs.«01_k».proof.Proof.Merge.Gate
public import proofs.«01_k».proof.Proof.Gen.MergeRefIdeal.Read

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- The reference's result of the kernel's argument arrays. -/
abbrev merged (c : Dev nD) : FVec Ideal S8192x2048 .bf16 :=
  val_main_v23 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` stores at place `y` of its block is the reference's element there. -/
theorem point (c : Dev nD) (t : Fin cfg0.N) (y : S512x1024.Idx) :
    k0_pay2 (gated m c t) (iblk m c 5 t) (iblk m c 2 t) (iblk m c 6 t) (X0_3 m c t) (X0_4 m c t) y
      = merged m c (((cfg0.win 7).blk t).view.emb y) := by
  unfold gated
  pointwise [k0_pay1, k0_pay2, merged, val_main_v23, val_main_v22, val_main_v21, val_main_v20, val_main_v19, val_main_v18, val_main_v17, val_main_v16,
    val_main_cst_2, val_main_v15, val_main_v14, val_main_cst_1, val_main_v13, val_main_v12, val_main_v11, val_main_v10,
    val_main_v9, val_main_v8, val_main_v7, val_main_v6, val_main_cst_0, val_main_v5, val_main_v4, val_main_cst, val_main_v3,
    val_main_v2, val_main_v1, val_main_v0]
  have hl : ∀ x : EReal, Ideal.logistic x = Ideal.div 1 (1 + Ideal.exp (-x)) := fun _ => rfl
  have h7 : ((((cfg0.win 7).blk t).view.emb y) 0).val = t.val / 2 * 512 + (y 0).val
      ∧ ((((cfg0.win 7).blk t).view.emb y) 1).val = t.val % 2 * 1024 + (y 1).val := by blk_simp [idx t]; simp
  rw [hl, hl]
  refine congrArg₂ (· + ·) (congrArg₂ (· * ·) (congrArg (fun z => Ideal.div 1 (1 + Ideal.exp (-z)))
      (gate_a m c t y _ h7.1 ?_)) ?_) (congrArg₂ (· * ·) (congrArg (fun z => Ideal.div 1 (1 + Ideal.exp (-z)))
      (gate_b m c t y _ h7.1 ?_)) ?_)
  · exact (congrArg (6144 + ·) h7.2).trans (by omega)
  · blk_point [iblk, V, idx t]
  · exact (congrArg (8192 + ·) h7.2).trans (by omega)
  · blk_point [iblk, V, idx t]

/-- After the run the result array is the reference's result of the argument arrays. -/
theorem final (c : Dev nD) : (dats m 0 c).arrAt 7 cfg0.N = merged m c := by
  refine (dats m 0 c).arrAt_eq_of_covers 7 _ (by decide +kernel) fun t _ y => ?_
  blk_simp
  rw [after0_7, out_block]
  exact point m c t y

end Cert.MergeIdeal.Value

end
-- ==== Proof.Merge.Algebraic.lean ====
/-
  The branch merge: the kernel and the plain reference leave the same arrays over the extended reals.
-/
module

public import proofs.«01_k».proof.Defs
public import proofs.«01_k».proof.Proof.Merge.Value
public import proofs.«01_k».proof.Proof.Gen.Merge
public import proofs.«01_k».proof.Proof.Gen.MergeIdeal
public import proofs.«01_k».proof.Proof.Gen.MergeRefIdeal
public import Idealize.ShloMosaic.Lib.Claim

@[expose] public section

set_option maxRecDepth 16384

noncomputable section

namespace Cert.Proof

open Idealize.ShloMosaic Idealize.SL.Sem

/-- From the same arguments the kernel's merged rows are the reference's. -/
theorem merge_algebraic : Cert.algebraic_MergeIdeal_MergeRefIdeal := by
  pair_intro
  · run_from Cert.MergeIdeal.Gen.run_main m g
  · run_from Cert.MergeRefIdeal.Value.run m' g'
    exact (Cert.MergeIdeal.Value.final m c).symm

end Cert.Proof

end
-- ==== Proof.MergeSample.Block.lean ====
/-
  The branch merge of the sample rows, block by block. The kernel walks a grid of 16 row blocks by 2 column blocks; the first column block of
  each row block gates the branch's rows into a scratch buffer, which the second one reuses.
-/
module

public import proofs.«01_k».proof.Proof.Gen.MergeSampleIdeal.Frame
public import Idealize.ShloMosaic.Lib.Pipeline.ValueKit

@[expose] public section

set_option maxRecDepth 16384

noncomputable section

namespace Cert.MergeSampleIdeal.Value

open Cert.MergeSampleIdeal Cert.MergeSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![t.val / 2, 0] ∧ win0_1.index t = ![t.val / 2, 0]
    ∧ win0_2.index t = ![t.val / 2, 0] ∧ win0_3.index t = ![t.val / 2, 6 + t.val % 2] ∧ win0_4.index t = ![t.val / 2, 8 + t.val % 2]
    ∧ win0_5.index t = ![0, t.val % 2] ∧ win0_6.index t = ![0, t.val % 2] ∧ win0_7.index t = ![t.val / 2, t.val % 2] :=
  (by decide +kernel : ∀ t : Fin grid0.N, _)

/-- The gated rows of the row block of point `t`: `ya * g`. -/
def gated (c : Dev nD) (t : Fin cfg0.N) : FVec Ideal S128x2048 .bf16 :=
  k0_pay1 (F := Ideal) (iblk m c 0 t) (iblk m c 1 t)

/-- The gated rows depend on the row block only: two consecutive points of one row block have the same ones. -/
theorem gated_pred (c : Dev nD) (t t' : Fin cfg0.N) (h : t'.val + 1 = t.val) (h0 : ¬t.val % 2 = 0) :
    gated m c t' = gated m c t := by
  have e : t'.val / 2 = t.val / 2 := by omega
  funext y
  unfold gated
  pointwise [k0_pay1]
  blk_point [iblk, V, idx t, idx t', e]

/-- After every point the scratch buffer holds the gated rows of the point's row block. -/
theorem scratch (c : Dev nD) : ∀ (n : ℕ) (hn : n < cfg0.N), (outsAt0 m c n hn).2 = gated m c ⟨n, hn⟩ := by
  intro n
  induction n with
  | zero =>
    intro hn
    rw [outsAt0_A m c ⟨0, hn⟩ (Nat.zero_mod _)]
    frame_out
    rfl
  | succ n ih =>
    intro hn
    by_cases h0 : (n + 1) % 2 = 0
    · rw [outsAt0_A m c ⟨n + 1, hn⟩ h0]
      frame_out
      rfl
    · rw [outsAt0_B m c ⟨n + 1, hn⟩ h0]
      unfold sout0_B_0
      exact (ih (Nat.lt_of_succ_lt hn)).trans (gated_pred m c ⟨n + 1, hn⟩ ⟨n, Nat.lt_of_succ_lt hn⟩ rfl h0)

/-- After every point the output block is the two gated products of the point's row block and weight columns, added. -/
theorem out_block (c : Dev nD) (t : Fin cfg0.N) : (outsAt0 m c t.val t.isLt).1
    = k0_pay2 (gated m c t) (iblk m c 5 t) (iblk m c 2 t) (iblk m c 6 t) (X0_3 m c t) (X0_4 m c t) := by
  by_cases h0 : t.val % 2 = 0
  · rw [outsAt0_A m c t h0]
    frame_out
    rfl
  · have hp : t.val - 1 + 1 = t.val := by omega
    rw [outsAt0_B m c t h0, scratch m c (t.val - 1) _, gated_pred m c t ⟨t.val - 1, _⟩ hp h0]
    frame_out
    exact congrArg (fun s => k0_pay2 s (iblk m c 5 t) (iblk m c 2 t) (iblk m c 6 t) (X0_3 m c t) (X0_4 m c t))
      ((Memref.isWhole_whole cc0_scratch0).read_unread (Val := Elt Ideal) (gated m c t))

end Cert.MergeSampleIdeal.Value

end
-- ==== Proof.MergeSample.Gate.lean ====
/-
  The branch merge of the sample rows's two gates: which elements of the projection the kernel's gate blocks hold. The projection's 12800 columns
  are no multiple of the 1024 columns of a block, but no block the grid reaches overhangs the array.
-/
module

public import proofs.«01_k».proof.Proof.MergeSample.Block

@[expose] public section

set_option maxRecDepth 16384

noncomputable section

namespace Cert.MergeSampleIdeal.Value

open Cert.MergeSampleIdeal Cert.MergeSampleIdeal.Gen Idealize.ShloMosaic Idealize.ShloMosaic.TcCoe Idealize.SL.Sem
open Idealize.ShloMosaic.Pipeline (Dat)

variable (m : (ℓ : Loc nD τ sig) → Buf (Elt Ideal) ℓ)

/-- The first gate's block at point `t`: columns 6144 to 8191 of the projection, half of them each. -/
theorem gate_a (c : Dev nD) (t : Fin cfg0.N) (y : S128x1024.Idx) (i : S128x12800.Idx)
    (h0 : (i 0).val = t.val / 2 * 128 + (y 0).val) (h1 : (i 1).val = (6 + t.val % 2) * 1024 + (y 1).val) :
    X0_3 m c t y = m ((c : Thread nD τ).loc main_arg3) i := by
  unfold X0_3 Idealize.ShloMosaic.Pipeline.Window.fill
  rw [dif_pos (moved0_3 t y)]
  blk_simp [iblk, V, idx t]
  refine congrArg (m ((c : Thread nD τ).loc main_arg3)) (funext fun a => Fin.ext ?_)
  blk_simp [idx t]
  match a with
  | ⟨0, _⟩ => simpa using h0.symm
  | ⟨1, _⟩ => simpa using h1.symm

/-- The second gate's block at point `t`: columns 8192 to 10239 of the projection, half of them each. -/
theorem gate_b (c : Dev nD) (t : Fin cfg0.N) (y : S128x1024.Idx) (i : S128x12800.Idx)
    (h0 : (i 0).val = t.val / 2 * 128 + (y 0).val) (h1 : (i 1).val = (8 + t.val % 2) * 1024 + (y 1).val) :
    X0_4 m c t y = m ((c : Thread nD τ).loc main_arg3) i := by
  unfold X0_4 Idealize.ShloMosaic.Pipeline.Window.fill
  rw [dif_pos (moved0_4 t y)]
  blk_simp [iblk, V, idx t]
  refine congrArg (m ((c : Thread nD τ).loc main_arg3)) (funext fun a => Fin.ext ?_)
  blk_simp [idx t]
  match a with
  | ⟨0, _⟩ => simpa using h0.symm
  | ⟨1, _⟩ => simpa using h1.symm

end Cert.MergeSampleIdeal.Value

end
-- ==== Proof.MergeSample.Value.lean ====
/-
  The branch merge of the sample rows: the array the kernel leaves is the reference's array, element by element over the extended reals.
-/
module

public import proofs.«01_k».proof.Proof.MergeSample.Gate
public import proofs.«01_k».proof.Proof.Gen.MergeSampleRefIdeal.Read

@[expose] public section

set_option maxRecDepth 16384

noncomputable section

namespace Cert.MergeSampleIdeal.Value

open Cert.MergeSampleIdeal Cert.MergeSampleIdeal.Gen Idealize.ShloMosaic Idealize.ShloMosaic.TcCoe Idealize.SL.Sem
open Idealize.ShloMosaic.Pipeline (Dat)
open Cert.MergeSampleRefIdeal.Read

variable (m : (ℓ : Loc nD τ sig) → Buf (Elt Ideal) ℓ)

/-- The reference's result of the kernel's argument arrays. -/
abbrev merged (c : Dev nD) : FVec Ideal S128x2048 .bf16 :=
  val_main_v23 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` stores at place `y` of its block is the reference's element there. -/
theorem point (c : Dev nD) (t : Fin cfg0.N) (y : S128x1024.Idx) :
    k0_pay2 (gated m c t) (iblk m c 5 t) (iblk m c 2 t) (iblk m c 6 t) (X0_3 m c t) (X0_4 m c t) y
      = merged m c (((cfg0.win 7).blk t).view.emb y) := by
  unfold gated
  pointwise [k0_pay1, k0_pay2, merged, val_main_v23, val_main_v22, val_main_v21, val_main_v20, val_main_v19, val_main_v18, val_main_v17, val_main_v16,
    val_main_cst_2, val_main_v15, val_main_v14, val_main_cst_1, val_main_v13, val_main_v12, val_main_v11, val_main_v10,
    val_main_v9, val_main_v8, val_main_v7, val_main_v6, val_main_cst_0, val_main_v5, val_main_v4, val_main_cst, val_main_v3,
    val_main_v2, val_main_v1, val_main_v0]
  have hl : ∀ x : EReal, Ideal.logistic x = Ideal.div 1 (1 + Ideal.exp (-x)) := fun _ => rfl
  have h7 : ((((cfg0.win 7).blk t).view.emb y) 0).val = t.val / 2 * 128 + (y 0).val
      ∧ ((((cfg0.win 7).blk t).view.emb y) 1).val = t.val % 2 * 1024 + (y 1).val := by blk_simp [idx t]; simp
  rw [hl, hl]
  refine congrArg₂ (· + ·) (congrArg₂ (· * ·) (congrArg (fun z => Ideal.div 1 (1 + Ideal.exp (-z)))
      (gate_a m c t y _ h7.1 ?_)) ?_) (congrArg₂ (· * ·) (congrArg (fun z => Ideal.div 1 (1 + Ideal.exp (-z)))
      (gate_b m c t y _ h7.1 ?_)) ?_)
  · exact (congrArg (6144 + ·) h7.2).trans (by omega)
  · blk_point [iblk, V, idx t]
  · exact (congrArg (8192 + ·) h7.2).trans (by omega)
  · blk_point [iblk, V, idx t]

/-- After the run the result array is the reference's result of the argument arrays. -/
theorem final (c : Dev nD) : (dats m 0 c).arrAt 7 cfg0.N = merged m c := by
  refine (dats m 0 c).arrAt_eq_of_covers 7 _ (by decide +kernel) fun t _ y => ?_
  blk_simp
  rw [after0_7, out_block]
  exact point m c t y

end Cert.MergeSampleIdeal.Value

end
-- ==== Proof.MergeSample.Algebraic.lean ====
/-
  The branch merge of the sample rows: the kernel and the plain reference leave the same arrays over the extended reals.
-/
module

public import proofs.«01_k».proof.Defs
public import proofs.«01_k».proof.Proof.MergeSample.Value
public import proofs.«01_k».proof.Proof.Gen.MergeSample
public import proofs.«01_k».proof.Proof.Gen.MergeSampleIdeal
public import proofs.«01_k».proof.Proof.Gen.MergeSampleRefIdeal
public import Idealize.ShloMosaic.Lib.Claim

@[expose] public section

set_option maxRecDepth 16384

noncomputable section

namespace Cert.Proof

open Idealize.ShloMosaic Idealize.SL.Sem

/-- From the same arguments the kernel's merged rows are the reference's. -/
theorem mergeSample_algebraic : Cert.algebraic_MergeSampleIdeal_MergeSampleRefIdeal := by
  pair_intro
  · run_from Cert.MergeSampleIdeal.Gen.run_main m g
  · run_from Cert.MergeSampleRefIdeal.Value.run m' g'
    exact (Cert.MergeSampleIdeal.Value.final m c).symm

end Cert.Proof

end
-- ==== Proof.OutLn.Rows.lean ====
/-
  The output projection with its layer norm: what the first result array (the normalised rows) holds after the run.
-/
module

public import proofs.«01_k».proof.Proof.Gen.OutLnIdeal.Frame
public import proofs.«01_k».proof.Proof.Gen.OutLnRefIdeal.Read
public import Idealize.ShloMosaic.Lib.Pipeline.ValueKit

@[expose] public section

set_option maxRecDepth 16384

noncomputable section

namespace Cert.OutLnIdeal.Value

open Cert.OutLnIdeal Cert.OutLnIdeal.Gen Idealize.ShloMosaic Idealize.ShloMosaic.TcCoe Idealize.SL.Sem
open Idealize.ShloMosaic.Pipeline (Dat)
open Cert.OutLnRefIdeal.Read

variable (m : (ℓ : Loc nD τ sig) → Buf (Elt Ideal) ℓ)

/-- Which block of each array the grid point `t` works on. -/
theorem idx : ∀ t : Fin cfg0.N, win0_0.index t = ![t.val, 0] ∧ win0_1.index t = ![t.val, 0]
    ∧ win0_2.index t = ![t.val / 8, 0, 2] ∧ win0_3.index t = ![t.val / 8, 0, 3] ∧ win0_4.index t = ![t.val / 8, 0, 4]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

/-- The rows point `t` stores: the scaled residual plus the gated projection, normalised. -/
def rows (c : Dev nD) (t : Fin cfg0.N) : FVec Ideal S256x2048 .f32 :=
  k0_pay3 (F := Ideal) (iblk m c 0 t) (iblk m c 5 t) (iblk m c 1 t) (iblk m c 2 t) (iblk m c 7 t) (iblk m c 8 t)

/-- The reference's normalised rows of the kernel's argument arrays. -/
abbrev normed (c : Dev nD) : FVec Ideal S8192x2048 .f32 :=
  val_main_v48 (F := Ideal) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))

/-- What point `t` stores at place `y` of its block of rows is the reference's element there. -/
theorem point_rows (c : Dev nD) (t : Fin cfg0.N) (y : S256x2048.Idx) :
    rows m c t y = normed m c (((cfg0.win 9).blk t).view.emb y) := by
  unfold rows
  pointwise [k0_pay3, normed, val_main_v48, val_main_v40, val_main_v39, val_main_cst_5, val_main_v38, val_main_v37, val_main_v36,
    val_main_v35, val_main_v34, val_main_v33, val_main_v32, val_main_v31, val_main_v30, val_main_v29, val_main_v28,
    val_main_cst_4, val_main_v27, val_main_v26, val_main_v25, val_main_v24, val_main_cst_3, val_main_v23, val_main_v22,
    val_main_cst_2, val_main_v21, val_main_v20, val_main_v19, val_main_v18, val_main_v17, val_main_cst_1, val_main_v16,
    val_main_v15, val_main_cst_0, val_main_v14, val_main_v13, val_main_v12, val_main_v11, val_main_v10, val_main_v9,
    val_main_v8, val_main_cst, val_main_v7, val_main_v6, val_main_v5, val_main_v4, val_main_v3, val_main_v2, val_main_v1,
    val_main_v0]
  blk_point [iblk, V, idx t]

/-- After the run the first result array is the reference's normalised rows. -/
theorem final_rows (c : Dev nD) : (dats m 0 c).arrAt 9 cfg0.N = normed m c := by
  refine (dats m 0 c).arrAt_eq_of_covers 9 _ (by decide +kernel) fun t _ y => ?_
  blk_simp
  rw [after0_9]
  frame_out
  exact point_rows m c t y

end Cert.OutLnIdeal.Value

end
-- ==== Proof.OutLn.Query.lean ====
/-
  The output projection with its layer norm: the modulated rows and the queries projected from them.
-/
module

public import proofs.«01_k».proof.Proof.OutLn.Rows

@[expose] public section

set_option maxRecDepth 16384

noncomputable section

namespace Cert.OutLnIdeal.Value

open Cert.OutLnIdeal Cert.OutLnIdeal.Gen Idealize.ShloMosaic Idealize.ShloMosaic.TcCoe Idealize.SL.Sem
open Idealize.ShloMosaic.Pipeline (Dat)
open Cert.OutLnRefIdeal.Read

variable (m : (ℓ : Loc nD τ sig) → Buf (Elt Ideal) ℓ)

/-- The reference's modulated rows of the kernel's argument arrays. -/
abbrev modRows (c : Dev nD) : FVec Ideal S8192x2048 .bf16 :=
  val_main_v49 (F := Ideal) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))

/-- The reference's queries of the kernel's argument arrays. -/
abbrev queries (c : Dev nD) : FVec Ideal S8192x2048 .bf16 :=
  val_main_v50 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The rows the two later results are computed from are the stored ones. -/
theorem rows_eq (c : Dev nD) (t : Fin cfg0.N) :
    k0_pay4 (iblk m c 0 t) (iblk m c 1 t) (iblk m c 2 t) (iblk m c 3 t) (iblk m c 4 t) (iblk m c 5 t) (iblk m c 6 t) (iblk m c 7 t)
      (iblk m c 8 t) = rows m c t := by
  unfold k0_pay4 rows
  have h2 : ∀ a : Fin 2, (![0, 0] : Fin 2 → ℕ) a = 0 := by decide
  have h3 : ∀ a : Fin 3, (![0, 0, 0] : Fin 3 → ℕ) a = 0 := by decide
  congr 1
  · exact View.ld_unit_lit _ _ h2
  · exact View.ld_unit_lit _ _ h2
  · exact View.ld_unit_lit _ _ h2
  · exact View.ld_unit_lit _ _ h3
  · exact View.ld_unit_lit _ _ h2
  · exact View.ld_unit_lit _ _ h2

/-- What point `t` stores at place `y` of its block of modulated rows is the reference's element there. -/
theorem point_mod (c : Dev nD) (t : Fin cfg0.N) (y : S256x2048.Idx) :
    k0_pay1 (rows m c t) (iblk m c 4 t) (iblk m c 3 t) y = modRows m c (((cfg0.win 10).blk t).view.emb y) := by
  have h := point_rows m c t y
  pointwise [normed, val_main_v48] at h
  pointwise [k0_pay1, modRows, val_main_v49, val_main_v45, val_main_v44, val_main_v43, val_main_v42, val_main_v41, val_main_v40,
    val_main_v39, val_main_cst_5, val_main_v2, val_main_v1]
  refine congrArg₂ (· + ·) (congrArg₂ (· * ·) (h.trans ?_) ?_) ?_
  · blk_point [iblk, V, idx t]
  · clear h
    blk_point [iblk, V, idx t]
  · clear h
    blk_point [iblk, V, idx t]

/-- What point `t` stores at place `y` of its block of queries is the reference's element there. -/
theorem point_query (c : Dev nD) (t : Fin cfg0.N) (y : S256x2048.Idx) :
    k0_pay2 (rows m c t) (iblk m c 4 t) (iblk m c 3 t) (iblk m c 6 t) y = queries m c (((cfg0.win 11).blk t).view.emb y) := by
  pointwise [k0_pay2, queries, val_main_v50, val_main_v47]
  refine Finset.sum_congr rfl fun k _ => ?_
  have h := point_mod m c t (ix2 (y 0) k)
  pointwise [modRows, val_main_v49] at h
  refine congrArg₂ (· * ·) (h.trans ?_) ?_
  · blk_point [iblk, V, idx t]
  · clear h
    pointwise [val_main_v46]
    blk_point [iblk, V, idx t]

/-- After the run the second result array is the reference's modulated rows. -/
theorem final_mod (c : Dev nD) : (dats m 0 c).arrAt 10 cfg0.N = modRows m c := by
  refine (dats m 0 c).arrAt_eq_of_covers 10 _ (by decide +kernel) fun t _ y => ?_
  blk_simp
  rw [after0_10]
  frame_out
  rw [rows_eq]
  exact point_mod m c t y

/-- After the run the third result array is the reference's queries. -/
theorem final_query (c : Dev nD) : (dats m 0 c).arrAt 11 cfg0.N = queries m c := by
  refine (dats m 0 c).arrAt_eq_of_covers 11 _ (by decide +kernel) fun t _ y => ?_
  blk_simp
  rw [after0_11]
  frame_out
  rw [rows_eq]
  exact point_query m c t y

end Cert.OutLnIdeal.Value

end
-- ==== Proof.OutLn.Algebraic.lean ====
/-
  The output projection with its layer norm: the kernel and the plain reference leave the same arrays over the extended reals.
-/
module

public import proofs.«01_k».proof.Defs
public import proofs.«01_k».proof.Proof.OutLn.Query
public import proofs.«01_k».proof.Proof.Gen.OutLn
public import proofs.«01_k».proof.Proof.Gen.OutLnIdeal
public import proofs.«01_k».proof.Proof.Gen.OutLnRefIdeal
public import Idealize.ShloMosaic.Lib.Claim

@[expose] public section

set_option maxRecDepth 16384

noncomputable section

namespace Cert.Proof

open Idealize.ShloMosaic Idealize.SL.Sem

set_option maxHeartbeats 1600000 in
/-- From the same arguments the kernel's normalised rows, modulated rows and queries are the reference's. -/
theorem outLn_algebraic : Cert.algebraic_OutLnIdeal_OutLnRefIdeal := by
  pair_intro
  · run_from Cert.OutLnIdeal.Gen.run_main m g
  · refine (θ_run _ _ _).mono (fun r h c => ?_) (Cert.OutLnRefIdeal.Value.run m' g')
    obtain ⟨h48, h49, h50, ha⟩ := h c
    obtain ⟨e0, e1, e2, e3, e4, e5, e6⟩ := hagree c
    refine ⟨h48.trans ?_, h49.trans ?_, h50.trans ?_, ha⟩
    · rw [Cert.OutLnRefIdeal.Read.val_main_v48_eq, e0, e1, e2, e3, e5, e6]
      exact (Cert.OutLnIdeal.Value.final_rows m c).symm
    · rw [Cert.OutLnRefIdeal.Read.val_main_v49_eq, e0, e1, e2, e3, e5, e6]
      exact (Cert.OutLnIdeal.Value.final_mod m c).symm
    · rw [Cert.OutLnRefIdeal.Read.val_main_v50_eq, e0, e1, e2, e3, e4, e5, e6]
      exact (Cert.OutLnIdeal.Value.final_query m c).symm

end Cert.Proof

end
-- ==== Proof.OutLnSample.Rows.lean ====
/-
  The output projection of the sample rows with its layer norm: what the first result array (the normalised rows) holds after the run.
-/
module

public import proofs.«01_k».proof.Proof.Gen.OutLnSampleIdeal.Frame
public import proofs.«01_k».proof.Proof.Gen.OutLnSampleRefIdeal.Read
public import Idealize.ShloMosaic.Lib.Pipeline.ValueKit

@[expose] public section

set_option maxRecDepth 16384

noncomputable section

namespace Cert.OutLnSampleIdeal.Value

open Cert.OutLnSampleIdeal Cert.OutLnSampleIdeal.Gen Idealize.ShloMosaic Idealize.ShloMosaic.TcCoe Idealize.SL.Sem
open Idealize.ShloMosaic.Pipeline (Dat)
open Cert.OutLnSampleRefIdeal.Read

variable (m : (ℓ : Loc nD τ sig) → Buf (Elt Ideal) ℓ)

/-- Which block of each array the grid point `t` works on. -/
theorem idx : ∀ t : Fin cfg0.N, win0_0.index t = ![t.val, 0] ∧ win0_1.index t = ![t.val, 0]
    ∧ win0_2.index t = ![t.val, 2] ∧ win0_3.index t = ![t.val, 3] ∧ win0_4.index t = ![t.val, 4]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

/-- The rows point `t` stores: the scaled residual plus the gated projection, normalised. -/
def rows (c : Dev nD) (t : Fin cfg0.N) : FVec Ideal S128x2048 .f32 :=
  k0_pay3 (F := Ideal) (iblk m c 0 t) (iblk m c 5 t) (iblk m c 1 t) (iblk m c 2 t) (iblk m c 7 t) (iblk m c 8 t)

/-- The reference's normalised rows of the kernel's argument arrays. -/
abbrev normed (c : Dev nD) : FVec Ideal S128x2048 .f32 :=
  val_main_v35 (F := Ideal) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))

/-- What point `t` stores at place `y` of its block of rows is the reference's element there. -/
theorem point_rows (c : Dev nD) (t : Fin cfg0.N) (y : S128x2048.Idx) :
    rows m c t y = normed m c (((cfg0.win 9).blk t).view.emb y) := by
  unfold rows
  pointwise [k0_pay3, normed, val_main_v35, val_main_v34, val_main_v33, val_main_v32, val_main_v31, val_main_v30, val_main_v29,
    val_main_v28, val_main_v27, val_main_v26, val_main_v25, val_main_cst_4, val_main_v24, val_main_v23, val_main_v22,
    val_main_v21, val_main_cst_3, val_main_v20, val_main_v19, val_main_cst_2, val_main_v18, val_main_v17, val_main_v16,
    val_main_v15, val_main_v14, val_main_cst_1, val_main_v13, val_main_v12, val_main_cst_0, val_main_v11, val_main_v10,
    val_main_v9, val_main_v8, val_main_v7, val_main_v6, val_main_v5, val_main_v4, val_main_v3, val_main_cst, val_main_v2,
    val_main_v1, val_main_v0]
  blk_point [iblk, V, idx t]

/-- After the run the first result array is the reference's normalised rows. -/
theorem final_rows (c : Dev nD) : (dats m 0 c).arrAt 9 cfg0.N = normed m c := by
  refine (dats m 0 c).arrAt_eq_of_covers 9 _ (by decide +kernel) fun t _ y => ?_
  blk_simp
  rw [after0_9]
  frame_out
  exact point_rows m c t y

end Cert.OutLnSampleIdeal.Value

end
-- ==== Proof.OutLnSample.Query.lean ====
/-
  The output projection of the sample rows with its layer norm: the modulated rows and the queries projected from them.
-/
module

public import proofs.«01_k».proof.Proof.OutLnSample.Rows

@[expose] public section

set_option maxRecDepth 16384

noncomputable section

namespace Cert.OutLnSampleIdeal.Value

open Cert.OutLnSampleIdeal Cert.OutLnSampleIdeal.Gen Idealize.ShloMosaic Idealize.ShloMosaic.TcCoe Idealize.SL.Sem
open Idealize.ShloMosaic.Pipeline (Dat)
open Cert.OutLnSampleRefIdeal.Read

variable (m : (ℓ : Loc nD τ sig) → Buf (Elt Ideal) ℓ)

/-- The reference's modulated rows of the kernel's argument arrays. -/
abbrev modRows (c : Dev nD) : FVec Ideal S128x2048 .bf16 :=
  val_main_v42 (F := Ideal) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))

/-- The reference's queries of the kernel's argument arrays. -/
abbrev queries (c : Dev nD) : FVec Ideal S128x2048 .bf16 :=
  val_main_v43 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The rows the two later results are computed from are the stored ones. -/
theorem rows_eq (c : Dev nD) (t : Fin cfg0.N) :
    k0_pay5 (iblk m c 0 t) (iblk m c 1 t) (iblk m c 2 t) (iblk m c 3 t) (iblk m c 4 t) (iblk m c 5 t) (iblk m c 6 t) (iblk m c 7 t)
      (iblk m c 8 t) = rows m c t := by
  unfold k0_pay5 rows
  have h2 : ∀ a : Fin 2, (![0, 0] : Fin 2 → ℕ) a = 0 := by decide
  congr 1
  · exact View.ld_unit_lit _ _ h2
  · exact View.ld_unit_lit _ _ h2
  · exact View.ld_unit_lit _ _ h2
  · exact View.ld_unit_lit _ _ h2
  · exact View.ld_unit_lit _ _ h2
  · exact View.ld_unit_lit _ _ h2

/-- What point `t` stores at place `y` of its block of modulated rows is the reference's element there. -/
theorem point_mod (c : Dev nD) (t : Fin cfg0.N) (y : S128x2048.Idx) :
    k0_pay1 (rows m c t) (iblk m c 4 t) k0_pay4 (iblk m c 3 t) y = modRows m c (((cfg0.win 10).blk t).view.emb y) := by
  have h := point_rows m c t y
  pointwise [normed] at h
  pointwise [k0_pay1, k0_pay4, modRows, val_main_v42, val_main_v39, val_main_v38, val_main_v37, val_main_v36,
    val_main_cst_5, val_main_v2, val_main_v1]
  refine congrArg₂ (· + ·) (congrArg₂ (· * ·) (h.trans ?_) ?_) ?_
  · blk_point [iblk, V, idx t]
  · clear h
    blk_point [iblk, V, idx t]
  · clear h
    blk_point [iblk, V, idx t]

/-- What point `t` stores at place `y` of its block of queries is the reference's element there. -/
theorem point_query (c : Dev nD) (t : Fin cfg0.N) (y : S128x2048.Idx) :
    k0_pay2 (rows m c t) (iblk m c 4 t) k0_pay4 (iblk m c 3 t) (iblk m c 6 t) y = queries m c (((cfg0.win 11).blk t).view.emb y) := by
  pointwise [k0_pay2, k0_pay4, queries, val_main_v43, val_main_v41]
  refine Finset.sum_congr rfl fun k _ => ?_
  have h := point_mod m c t (ix2 (y 0) k)
  pointwise [modRows, val_main_v42, k0_pay4] at h
  refine congrArg₂ (· * ·) (h.trans ?_) ?_
  · blk_point [iblk, V, idx t]
  · clear h
    pointwise [val_main_v40]
    blk_point [iblk, V, idx t]

/-- After the run the second result array is the reference's modulated rows. -/
theorem final_mod (c : Dev nD) : (dats m 0 c).arrAt 10 cfg0.N = modRows m c := by
  refine (dats m 0 c).arrAt_eq_of_covers 10 _ (by decide +kernel) fun t _ y => ?_
  blk_simp
  rw [after0_10]
  frame_out
  rw [rows_eq]
  exact point_mod m c t y

/-- After the run the third result array is the reference's queries. -/
theorem final_query (c : Dev nD) : (dats m 0 c).arrAt 11 cfg0.N = queries m c := by
  refine (dats m 0 c).arrAt_eq_of_covers 11 _ (by decide +kernel) fun t _ y => ?_
  blk_simp
  rw [after0_11]
  frame_out
  rw [rows_eq]
  exact point_query m c t y

end Cert.OutLnSampleIdeal.Value

end
-- ==== Proof.OutLnSample.Algebraic.lean ====
/-
  The output projection of the sample rows with its layer norm: the kernel and the plain reference leave the same arrays over the extended reals.
-/
module

public import proofs.«01_k».proof.Defs
public import proofs.«01_k».proof.Proof.OutLnSample.Query
public import proofs.«01_k».proof.Proof.Gen.OutLnSample
public import proofs.«01_k».proof.Proof.Gen.OutLnSampleIdeal
public import proofs.«01_k».proof.Proof.Gen.OutLnSampleRefIdeal
public import Idealize.ShloMosaic.Lib.Claim

@[expose] public section

set_option maxRecDepth 16384

noncomputable section

namespace Cert.Proof

open Idealize.ShloMosaic Idealize.SL.Sem

set_option maxHeartbeats 1600000 in
/-- From the same arguments the kernel's normalised rows, modulated rows and queries are the reference's. -/
theorem outLnSample_algebraic : Cert.algebraic_OutLnSampleIdeal_OutLnSampleRefIdeal := by
  pair_intro
  · run_from Cert.OutLnSampleIdeal.Gen.run_main m g
  · refine (θ_run _ _ _).mono (fun r h c => ?_) (Cert.OutLnSampleRefIdeal.Value.run m' g')
    obtain ⟨hr, hm, hq, ha⟩ := h c
    obtain ⟨e0, e1, e2, e3, e4, e5, e6⟩ := hagree c
    refine ⟨hr.trans ?_, hm.trans ?_, hq.trans ?_, ha⟩
    · rw [Cert.OutLnSampleRefIdeal.Read.val_main_v35_eq, e0, e1, e2, e3, e5, e6]
      exact (Cert.OutLnSampleIdeal.Value.final_rows m c).symm
    · rw [Cert.OutLnSampleRefIdeal.Read.val_main_v42_eq, e0, e1, e2, e3, e5, e6]
      exact (Cert.OutLnSampleIdeal.Value.final_mod m c).symm
    · rw [Cert.OutLnSampleRefIdeal.Read.val_main_v43_eq, e0, e1, e2, e3, e4, e5, e6]
      exact (Cert.OutLnSampleIdeal.Value.final_query m c).symm

end Cert.Proof

end
-- ==== Proof.ScanSample.Layout.lean ====
/-
  The scan of the sample rows, before the region: which element of an argument array each of the kernel's blocks holds. The kernel keeps
  a head's channels one below the other, and the 128 rows in the lanes; block `t` is head `t`.
-/
module

public import proofs.«01_k».proof.Proof.Gen.ScanSampleIdeal.Frame
public import Idealize.ShloMosaic.Lib.Pipeline.ValueKit
public import Idealize.ShloMosaic.Lib.StableHlo.ReadAt

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the grid point `t` works on. -/
theorem idx : ∀ t : Fin cfg0.N, win0_0.index t = ![0, 0, t.val] ∧ win0_1.index t = ![0, 0, t.val] ∧ win0_2.index t = ![0, 0, t.val]
    ∧ win0_3.index t = ![0, 0, t.val] ∧ win0_4.index t = ![0, 0, t.val] ∧ win0_5.index t = ![t.val, 0, 0, 0]
    ∧ win0_6.index t = ![0, 0, t.val] ∧ win0_7.index t = ![0, 0, t.val] ∧ win0_8.index t = ![0, 0, t.val] ∧ win0_9.index t = ![0, 0, t.val]
    ∧ win0_10.index t = ![0, 0, t.val] ∧ win0_11.index t = ![0, 0, t.val] ∧ win0_12.index t = ![t.val, 0, 0, 0] :=
  (by decide +kernel : ∀ t : Fin grid0.N, _)

/-- Where channel `j` of head `h` is in a row of 2048. -/
abbrev place (h : Fin 32) (j : Fin 64) : Fin 2048 := ⟨j.val * 32 + h.val, by omega⟩

/-- Where channel `j` of head `h` is in a parameter of 2048. -/
abbrev param (h : Fin 32) (j : Fin 64) : Fin 2048 := ⟨h.val * 64 + j.val, by omega⟩

/-- The head a point works on. -/
abbrev head (t : Fin cfg0.N) : Fin 32 := ⟨t.val, t.isLt⟩

/-- The lane of the kernel's arrays that holds row `l` of head `h`. -/
abbrev lane (h : Fin 32) (l : Fin 128) : Fin 4096 := ⟨h.val * 128 + l.val, by omega⟩

/-- The row that lane `lane h l` holds. -/
theorem lane_row (h : Fin 32) (l : Fin 128) (p : (h.val * 128 + l.val) % 128 < 128) : (⟨(h.val * 128 + l.val) % 128, p⟩ : Fin 128) = l :=
  Fin.ext (by
    change (h.val * 128 + l.val) % 128 = l.val
    omega)

/-- The place in that row that channel `j` of the lane comes from. -/
theorem lane_place (h : Fin 32) (j : Fin 64) (l : Fin 128) (p : j.val * 32 + (h.val * 128 + l.val) / 128 < 2048) :
    (⟨j.val * 32 + (h.val * 128 + l.val) / 128, p⟩ : Fin 2048) = place h j :=
  Fin.ext (by
    change j.val * 32 + (h.val * 128 + l.val) / 128 = j.val * 32 + h.val
    omega)

/-- The place in a parameter that channel `j` of the lane comes from. -/
theorem lane_param (h : Fin 32) (j : Fin 64) (l : Fin 128) (p : (h.val * 128 + l.val) / 128 * 64 + j.val < 2048) :
    (⟨(h.val * 128 + l.val) / 128 * 64 + j.val, p⟩ : Fin 2048) = param h j :=
  Fin.ext (by
    change (h.val * 128 + l.val) / 128 * 64 + j.val = h.val * 64 + j.val
    omega)

/-- The head that lane `lane h l` belongs to. -/
theorem lane_head (h : Fin 32) (l : Fin 128) (p : (h.val * 128 + l.val) / 128 < 32) : (⟨(h.val * 128 + l.val) / 128, p⟩ : Fin 32) = h :=
  Fin.ext (by
    change (h.val * 128 + l.val) / 128 = h.val
    omega)

/-- The receptance in the kernel's layout. -/
theorem r_array (c : Dev nD) (h : Fin 32) (j : Fin 64) (l : Fin 128) : V m c main_v3 (ix3 j 0 (lane h l))
    = (m ((c : Thread nD τ).loc main_arg0)) (ix2 l (place h j)) := by
  unfold V V0
  simp only [hostOps0, List.flatten_cons, List.flatten_nil, List.append_nil, List.cons_append, List.nil_append]
  after_reads_at
  exact congrArg₂ (fun x y => (m ((c : Thread nD τ).loc main_arg0)) (ix2 x y)) (lane_row h l _) (lane_place h j l _)

/-- The norm's scale in the kernel's layout. -/
theorem g_array (c : Dev nD) (h : Fin 32) (j : Fin 64) (l : Fin 128) : V m c main_v20 (ix3 j 0 (lane h l))
    = (m ((c : Thread nD τ).loc main_arg6)) (ix1 (param h j)) := by
  unfold V V0
  simp only [hostOps0, List.flatten_cons, List.flatten_nil, List.append_nil, List.cons_append, List.nil_append]
  after_reads_at
  exact congrArg (fun x => (m ((c : Thread nD τ).loc main_arg6)) (ix1 x)) (lane_param h j l _)

/-- The norm's shift in the kernel's layout. -/
theorem b_array (c : Dev nD) (h : Fin 32) (j : Fin 64) (l : Fin 128) : V m c main_v25 (ix3 j 0 (lane h l))
    = (m ((c : Thread nD τ).loc main_arg7)) (ix1 (param h j)) := by
  unfold V V0
  simp only [hostOps0, List.flatten_cons, List.flatten_nil, List.append_nil, List.cons_append, List.nil_append]
  after_reads_at
  exact congrArg (fun x => (m ((c : Thread nD τ).loc main_arg7)) (ix1 x)) (lane_param h j l _)

/-- The bonus parameter in the kernel's layout. -/
theorem q_array (c : Dev nD) (h : Fin 32) (j : Fin 64) (l : Fin 128) : V m c main_v29 (ix3 j 0 (lane h l))
    = (m ((c : Thread nD τ).loc main_arg8)) (ix2 h j) := by
  unfold V V0
  simp only [hostOps0, List.flatten_cons, List.flatten_nil, List.append_nil, List.cons_append, List.nil_append]
  after_reads_at
  exact congrArg (fun x => (m ((c : Thread nD τ).loc main_arg8)) (ix2 x j)) (lane_head h l _)

/-- The decay in the kernel's layout. -/
theorem w_array (c : Dev nD) (h : Fin 32) (j : Fin 64) (l : Fin 128) : V m c main_v6 (ix3 j 0 (lane h l))
    = (m ((c : Thread nD τ).loc main_arg1)) (ix2 l (place h j)) := by
  unfold V V0
  simp only [hostOps0, List.flatten_cons, List.flatten_nil, List.append_nil, List.cons_append, List.nil_append]
  after_reads_at
  exact congrArg₂ (fun x y => (m ((c : Thread nD τ).loc main_arg1)) (ix2 x y)) (lane_row h l _) (lane_place h j l _)

/-- The key in the kernel's layout. -/
theorem k_array (c : Dev nD) (h : Fin 32) (j : Fin 64) (l : Fin 128) : V m c main_v9 (ix3 j 0 (lane h l))
    = (m ((c : Thread nD τ).loc main_arg2)) (ix2 l (place h j)) := by
  unfold V V0
  simp only [hostOps0, List.flatten_cons, List.flatten_nil, List.append_nil, List.cons_append, List.nil_append]
  after_reads_at
  exact congrArg₂ (fun x y => (m ((c : Thread nD τ).loc main_arg2)) (ix2 x y)) (lane_row h l _) (lane_place h j l _)

/-- The value in the kernel's layout. -/
theorem v_array (c : Dev nD) (h : Fin 32) (j : Fin 64) (l : Fin 128) : V m c main_v12 (ix3 j 0 (lane h l))
    = (m ((c : Thread nD τ).loc main_arg3)) (ix2 l (place h j)) := by
  unfold V V0
  simp only [hostOps0, List.flatten_cons, List.flatten_nil, List.append_nil, List.cons_append, List.nil_append]
  after_reads_at
  exact congrArg₂ (fun x y => (m ((c : Thread nD τ).loc main_arg3)) (ix2 x y)) (lane_row h l _) (lane_place h j l _)

/-- The rate in the kernel's layout. -/
theorem a_array (c : Dev nD) (h : Fin 32) (j : Fin 64) (l : Fin 128) : V m c main_v15 (ix3 j 0 (lane h l))
    = (m ((c : Thread nD τ).loc main_arg4)) (ix2 l (place h j)) := by
  unfold V V0
  simp only [hostOps0, List.flatten_cons, List.flatten_nil, List.append_nil, List.cons_append, List.nil_append]
  after_reads_at
  exact congrArg₂ (fun x y => (m ((c : Thread nD τ).loc main_arg4)) (ix2 x y)) (lane_row h l _) (lane_place h j l _)

/-- The key's scale in the kernel's layout. -/
theorem kk_array (c : Dev nD) (h : Fin 32) (j : Fin 64) (l : Fin 128) : V m c main_v34 (ix3 j 0 (lane h l))
    = (m ((c : Thread nD τ).loc main_arg9)) (ix1 (param h j)) := by
  unfold V V0
  simp only [hostOps0, List.flatten_cons, List.flatten_nil, List.append_nil, List.cons_append, List.nil_append]
  after_reads_at
  exact congrArg (fun x => (m ((c : Thread nD τ).loc main_arg9)) (ix1 x)) (lane_param h j l _)

/-- The rate's scale in the kernel's layout. -/
theorem ka_array (c : Dev nD) (h : Fin 32) (j : Fin 64) (l : Fin 128) : V m c main_v39 (ix3 j 0 (lane h l))
    = (m ((c : Thread nD τ).loc main_arg10)) (ix1 (param h j)) := by
  unfold V V0
  simp only [hostOps0, List.flatten_cons, List.flatten_nil, List.append_nil, List.cons_append, List.nil_append]
  after_reads_at
  exact congrArg (fun x => (m ((c : Thread nD τ).loc main_arg10)) (ix1 x)) (lane_param h j l _)

/-- The state in the kernel's layout. -/
theorem s_array (c : Dev nD) (y : S32x64x64x128.Idx) : V m c main_v0 y
    = (m ((c : Thread nD τ).loc main_arg5)) (ix4 (y 3) (y 0) (y 2) (y 1)) := by
  unfold V V0
  simp only [hostOps0, List.flatten_cons, List.flatten_nil, List.append_nil, List.cons_append, List.nil_append]
  after_reads_at

/-- The block of the receptance. -/
theorem r_block (c : Dev nD) (t : Fin cfg0.N) (j : Fin 64) (l : Fin 128) : iblk m c 0 t (ix3 j 0 l)
    = (m ((c : Thread nD τ).loc main_arg0)) (ix2 l (place (head t) j)) := by
  have e : iblk m c 0 t (ix3 j 0 l) = V m c main_v3 (ix3 j 0 (lane (head t) l)) := by blk_point [iblk, idx t]
  exact e.trans (r_array m c (head t) j l)

/-- The block of the norm's scale. -/
theorem g_block (c : Dev nD) (t : Fin cfg0.N) (j : Fin 64) (l : Fin 128) : iblk m c 6 t (ix3 j 0 l)
    = (m ((c : Thread nD τ).loc main_arg6)) (ix1 (param (head t) j)) := by
  have e : iblk m c 6 t (ix3 j 0 l) = V m c main_v20 (ix3 j 0 (lane (head t) l)) := by blk_point [iblk, idx t]
  exact e.trans (g_array m c (head t) j l)

/-- The block of the norm's shift. -/
theorem b_block (c : Dev nD) (t : Fin cfg0.N) (j : Fin 64) (l : Fin 128) : iblk m c 7 t (ix3 j 0 l)
    = (m ((c : Thread nD τ).loc main_arg7)) (ix1 (param (head t) j)) := by
  have e : iblk m c 7 t (ix3 j 0 l) = V m c main_v25 (ix3 j 0 (lane (head t) l)) := by blk_point [iblk, idx t]
  exact e.trans (b_array m c (head t) j l)

/-- The block of the bonus parameter. -/
theorem q_block (c : Dev nD) (t : Fin cfg0.N) (j : Fin 64) (l : Fin 128) : iblk m c 8 t (ix3 j 0 l)
    = (m ((c : Thread nD τ).loc main_arg8)) (ix2 (head t) j) := by
  have e : iblk m c 8 t (ix3 j 0 l) = V m c main_v29 (ix3 j 0 (lane (head t) l)) := by blk_point [iblk, idx t]
  exact e.trans (q_array m c (head t) j l)

/-- The block of the decay. -/
theorem w_block (c : Dev nD) (t : Fin cfg0.N) (j : Fin 64) (l : Fin 128) : iblk m c 1 t (ix3 j 0 l)
    = (m ((c : Thread nD τ).loc main_arg1)) (ix2 l (place (head t) j)) := by
  have e : iblk m c 1 t (ix3 j 0 l) = V m c main_v6 (ix3 j 0 (lane (head t) l)) := by blk_point [iblk, idx t]
  exact e.trans (w_array m c (head t) j l)

/-- The block of the key. -/
theorem k_block (c : Dev nD) (t : Fin cfg0.N) (j : Fin 64) (l : Fin 128) : iblk m c 2 t (ix3 j 0 l)
    = (m ((c : Thread nD τ).loc main_arg2)) (ix2 l (place (head t) j)) := by
  have e : iblk m c 2 t (ix3 j 0 l) = V m c main_v9 (ix3 j 0 (lane (head t) l)) := by blk_point [iblk, idx t]
  exact e.trans (k_array m c (head t) j l)

/-- The block of the value. -/
theorem v_block (c : Dev nD) (t : Fin cfg0.N) (j : Fin 64) (l : Fin 128) : iblk m c 3 t (ix3 j 0 l)
    = (m ((c : Thread nD τ).loc main_arg3)) (ix2 l (place (head t) j)) := by
  have e : iblk m c 3 t (ix3 j 0 l) = V m c main_v12 (ix3 j 0 (lane (head t) l)) := by blk_point [iblk, idx t]
  exact e.trans (v_array m c (head t) j l)

/-- The block of the rate. -/
theorem a_block (c : Dev nD) (t : Fin cfg0.N) (j : Fin 64) (l : Fin 128) : iblk m c 4 t (ix3 j 0 l)
    = (m ((c : Thread nD τ).loc main_arg4)) (ix2 l (place (head t) j)) := by
  have e : iblk m c 4 t (ix3 j 0 l) = V m c main_v15 (ix3 j 0 (lane (head t) l)) := by blk_point [iblk, idx t]
  exact e.trans (a_array m c (head t) j l)

/-- The block of the key's scale. -/
theorem kk_block (c : Dev nD) (t : Fin cfg0.N) (j : Fin 64) (l : Fin 128) : iblk m c 9 t (ix3 j 0 l)
    = (m ((c : Thread nD τ).loc main_arg9)) (ix1 (param (head t) j)) := by
  have e : iblk m c 9 t (ix3 j 0 l) = V m c main_v34 (ix3 j 0 (lane (head t) l)) := by blk_point [iblk, idx t]
  exact e.trans (kk_array m c (head t) j l)

/-- The block of the rate's scale. -/
theorem ka_block (c : Dev nD) (t : Fin cfg0.N) (j : Fin 64) (l : Fin 128) : iblk m c 10 t (ix3 j 0 l)
    = (m ((c : Thread nD τ).loc main_arg10)) (ix1 (param (head t) j)) := by
  have e : iblk m c 10 t (ix3 j 0 l) = V m c main_v39 (ix3 j 0 (lane (head t) l)) := by blk_point [iblk, idx t]
  exact e.trans (ka_array m c (head t) j l)

/-- The block of the state. -/
theorem s_block (c : Dev nD) (t : Fin cfg0.N) (j r : Fin 64) (l : Fin 128) : iblk m c 5 t (ix4 0 j r l)
    = (m ((c : Thread nD τ).loc main_arg5)) (ix4 l (head t) r j) := by
  have e : iblk m c 5 t (ix4 0 j r l) = V m c main_v0 (ix4 (head t) j r l) := by blk_point [iblk, idx t]
  exact e.trans (s_array m c _)

end Cert.ScanSampleIdeal.Value

end
-- ==== Proof.ScanSample.Norm.lean ====
/-
  The scan of the sample rows, its first loops: what a counted loop that adds one term per step ends at, the squared norm of a
  key over the 64 channels, and the product of the old state with the negated unit key.
-/
module

public import proofs.«01_k».proof.Proof.Gen.ScanSampleIdeal.Loops
public import Idealize.ShloMosaic.Lib.Pipeline.ValueKit
public import Idealize.ShloMosaic.Lib.WritesUnit

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- A value that grows by one term per step ends at its start plus the sum of the terms. -/
theorem sum_steps : ∀ {n : ℕ} (g : ℕ → EReal) (f : Fin n → EReal), (∀ k : Fin n, g (k.val + 1) = g k.val + f k) → g n = g 0 + ∑ k, f k
  | 0, g, f, h => by simp
  | n + 1, g, f, h => by
    rw [Fin.sum_univ_castSucc, ← add_assoc, ← sum_steps g (fun k => f k.castSucc) fun k => h k.castSucc]
    exact h (Fin.last n)

/-- Eight sums of eight consecutive terms are the sum of the sixty-four. -/
theorem sum_blocks (f : Fin 64 → EReal) :
    ∑ k : Fin 8, ∑ r : Fin 8, f ⟨8 * k.val + r.val, by omega⟩ = ∑ i, f i := by
  rw [← Fintype.sum_prod_type' (f := fun (k r : Fin 8) => f ⟨8 * k.val + r.val, by omega⟩),
    ← Equiv.sum_comp (finProdFinEquiv (m := 8) (n := 8)) f]
  refine Finset.sum_congr rfl fun x _ => congrArg f (Fin.ext ?_)
  exact Nat.add_comm _ _

/-- A plane of one channel, loaded from a stack of sixty-four. -/
theorem load_plane (X : Vec Ideal S64x1x128 .f32) (off : Fin 3 → ℕ) (n : Fin 64) (h : off = ![n.val, 0, 0])
    (inb : ∀ a, off a + (![1, 1, 128] : Fin 3 → ℕ) a ≤ S64x1x128.size a) (l : Fin 128) :
    View.ld X (Rect.unit (s := S64x1x128) off ![1, 1, 128] inb) (ix3 0 0 l) = X (ix3 n 0 l) := by
  subst h
  refine View.ld_unit_apply_of X _ _ _ _ _ fun a => ?_
  fin_cases a <;> simp

/-- A slab of one channel, loaded from a stack of sixty-four. -/
theorem load_slab (X : Vec Ideal S64x64x128 .f32) (off : Fin 3 → ℕ) (n : Fin 64) (h : off = ![n.val, 0, 0])
    (inb : ∀ a, off a + (![1, 64, 128] : Fin 3 → ℕ) a ≤ S64x64x128.size a) (v : Fin 64) (l : Fin 128) :
    View.ld X (Rect.unit (s := S64x64x128) off ![1, 64, 128] inb) (ix3 0 v l) = X (ix3 n v l) := by
  subst h
  refine View.ld_unit_apply_of X _ _ _ _ _ fun a => ?_
  fin_cases a <;> simp

/-- Planes stored one after another, read back: plane `j` holds what step `j` stored. -/
theorem read_planes {κ : Kind} {sp : Space} {T : ℕ} (v : View sig κ sp S64x1x128 .f32) (f : v.ty.Contents (Elt Ideal))
    (L : ℕ → List (View.Piece (Elt Ideal) S64x1x128 .f32)) (off : Fin T → Fin 3 → ℕ)
    (inb : ∀ k a, off k a + (![1, 1, 128] : Fin 3 → ℕ) a ≤ S64x1x128.size a) (p : Fin T → Vec Ideal S1x1x128 .f32)
    (hoff : ∀ k, off k = ![k.val, 0, 0])
    (hL : ∀ k : Fin T, L (k.val + 1) = ⟨Rect.unit (s := S64x1x128) (off k) ![1, 1, 128] (inb k), p k⟩ :: L k.val)
    (j : Fin T) (hj : j.val < 64) (l : Fin 128) : ∀ n, j.val < n → n ≤ T →
    v.read (Elt Ideal) (v.writes (Elt Ideal) f (L n)) (ix3 ⟨j.val, hj⟩ 0 l) = p j (ix3 0 0 l)
  | 0, h, _ => absurd h (Nat.not_lt_zero _)
  | n + 1, h, hn => by
    rw [hL ⟨n, hn⟩]
    by_cases e : j.val = n
    · obtain rfl : j = ⟨n, hn⟩ := Fin.ext e
      refine View.read_writes_cons_unit_of_mem v f (inb _) _ _ _ (ix3 0 0 l) (hoff _) fun a => ?_
      fin_cases a <;> simp
    · rw [View.read_writes_cons_unit_of_not_mem v f (inb _) _ _ _ (hoff _) (0 : Fin 3) (Or.inl (by simp; omega))]
      exact read_planes v f L off inb p hoff hL j hj l n (by omega) (by omega)

/-- One step of the squared norm, read at a lane. -/
theorem norm_step (acc : FVec Ideal S1x128 .f32) (a b : Vec Ideal S1x1x128 .f32) (l : Fin 128) :
    k0_pay14 acc a b (ix2 0 l) = acc (ix2 0 l) + a (ix3 0 0 l) * b (ix3 0 0 l) * (a (ix3 0 0 l) * b (ix3 0 0 l)) := by
  pointwise [k0_pay14]

/-- The squared norm the first loop accumulates. -/
theorem norm_loop (X4 : BufTy.Contents (Elt Ideal) arg4.view.ty) (X11 : BufTy.Contents (Elt Ideal) arg11.view.ty)
    (init : FVec Ideal S1x128 .f32) (l : Fin 128) :
    st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X11 init k0_t1_loop.trips (ix2 0 l) = init (ix2 0 l)
      + ∑ j : Fin 64, arg4.view.read (Elt Ideal) X4 (ix3 j 0 l) * arg11.view.read (Elt Ideal) X11 (ix3 j 0 l)
        * (arg4.view.read (Elt Ideal) X4 (ix3 j 0 l) * arg11.view.read (Elt Ideal) X11 (ix3 j 0 l)) := by
  have hT : k0_t1_loop.trips = 64 := by decide +kernel
  rw [show k0_t1_loop.trips = 64 from hT]
  refine sum_steps (fun n => st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X11 init n (ix2 0 l)) _ fun k => ?_
  have hk : k.val < k0_t1_loop.trips := by rw [hT]; exact k.isLt
  have h := congrFun (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X4 X11 init ⟨k.val, hk⟩) (ix2 0 l)
  refine h.trans ?_
  unfold tripR_k0_t1 trip_k0_t1
  dsimp only
  simp only [View.readAt_eq_ld]
  rw [norm_step, load_plane _ _ k (k0_off1_eq ⟨k.val, hk⟩), load_plane _ _ k (k0_off1_eq ⟨k.val, hk⟩)]

/-- The product with the state the third loop accumulates. -/
theorem first_loop (v24 : FVec Ideal S1x128 .f32) (X15 : BufTy.Contents (Elt Ideal) arg15.view.ty)
    (X16 : BufTy.Contents (Elt Ideal) arg16.view.ty) (init : FVec Ideal S64x128 .f32) (v : Fin 64) (l : Fin 128) :
    st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 X15 X16 init k0_t3_loop.trips (ix2 v l) = init (ix2 v l)
      + ∑ j : Fin 64, arg15.view.read (Elt Ideal) X15 (ix3 j v l) * arg16.view.read (Elt Ideal) X16 (ix3 j 0 l) := by
  have hT : k0_t3_loop.trips = 8 := by decide +kernel
  rw [show k0_t3_loop.trips = 8 from hT, ← sum_blocks]
  refine sum_steps (fun n => st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 X15 X16 init n (ix2 v l)) _ fun k => ?_
  have hk : k.val < k0_t3_loop.trips := by rw [hT]; exact k.isLt
  have h := congrFun (st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 X15 X16 init ⟨k.val, hk⟩) (ix2 v l)
  refine h.trans ?_
  generalize st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 X15 X16 init k.val = acc
  unfold tripR_k0_t3 trip_k0_t3
  dsimp only
  sl_unfold_words
  simp only [View.readAt_eq_ld]
  pointwise [k0_pay22, k0_pay10, k0_pay11]
  simp only [Fin.sum_univ_eight, ← add_assoc]
  clear h
  fin_cases k <;> rfl

end Cert.ScanSampleIdeal.Value
end
-- ==== Proof.ScanSample.State.lean ====
/-
  The scan of the sample rows, the stored state: after the 64 stores of one step, channel `j` of the state scratch buffer holds
  the old channel decayed, plus the rank-one correction, plus the new value times the key.
-/
module

public import proofs.«01_k».proof.Proof.Gen.ScanSampleIdeal.Frame
public import proofs.«01_k».proof.Proof.ScanSample.Norm

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- A plane of one channel, loaded from a stack of sixty-four that was stored before. -/
theorem load_stored_plane (m : Memref sig .tc .vmem S64x1x128 .f32) (L : List (View.Piece (Elt Ideal) S64x1x128 .f32))
    (off : Fin 3 → ℕ) (n : Fin 64) (h : off = ![n.val, 0, 0])
    (inb : ∀ a, off a + (![1, 1, 128] : Fin 3 → ℕ) a ≤ S64x1x128.size a) (l : Fin 128) :
    m.view.readCov L (Rect.unit (s := S64x1x128) off ![1, 1, 128] inb).toLoadRect (ix3 0 0 l) = View.canon L (ix3 n 0 l) := by
  unfold View.readCov
  rw [View.readAt_eq_ld, load_plane _ _ n h, View.read_writes_junk_eq_canon]

/-- A slab of one channel, loaded from a stack of sixty-four that was stored before. -/
theorem load_stored_slab (m : Memref sig .tc .vmem S64x64x128 .f32) (L : List (View.Piece (Elt Ideal) S64x64x128 .f32))
    (off : Fin 3 → ℕ) (n : Fin 64) (h : off = ![n.val, 0, 0])
    (inb : ∀ a, off a + (![1, 64, 128] : Fin 3 → ℕ) a ≤ S64x64x128.size a) (v : Fin 64) (l : Fin 128) :
    m.view.readCov L (Rect.unit (s := S64x64x128) off ![1, 64, 128] inb).toLoadRect (ix3 0 v l) = View.canon L (ix3 n v l) := by
  unfold View.readCov
  rw [View.readAt_eq_ld, load_slab _ _ n h, View.read_writes_junk_eq_canon]

/-- The new state of one channel, read at a row and a lane. -/
theorem new_row (sa vt : FVec Ideal S64x128 .f32) (s : Vec Ideal S1x64x128 .f32) (w b k : Vec Ideal S1x1x128 .f32)
    (v : Fin 64) (l : Fin 128) :
    k0_pay65 (k0_pay64 sa vt s w b k) (ix3 0 v l)
      = s (ix3 0 v l) * w (ix3 0 0 l) + sa (ix2 v l) * b (ix3 0 0 l) + vt (ix2 v l) * k (ix3 0 0 l) := by
  pointwise [k0_pay64, k0_pay65]

/-- The stored state when its first `n` channels are updated and the others are as they came. -/
def Rows (sa vt : FVec Ideal S64x128 .f32) (s : Vec Ideal S1x64x64x128 .f32) (w : Vec Ideal S64x1x128 .f32)
    (B K : List (View.Piece (Elt Ideal) S64x1x128 .f32)) (n : ℕ) (L : List (View.Piece (Elt Ideal) S64x64x128 .f32)) : Prop :=
  ∀ (j v : Fin 64) (l : Fin 128), View.canon L (ix3 j v l) =
    if j.val < n then s (ix4 0 j v l) * w (ix3 j 0 l) + sa (ix2 v l) * View.canon B (ix3 j 0 l) + vt (ix2 v l) * View.canon K (ix3 j 0 l)
    else s (ix4 0 j v l)

/-- One more channel is updated. -/
theorem rows_step {sa vt : FVec Ideal S64x128 .f32} {s : Vec Ideal S1x64x64x128 .f32} {w : Vec Ideal S64x1x128 .f32}
    {B K : List (View.Piece (Elt Ideal) S64x1x128 .f32)} {n : ℕ} {L : List (View.Piece (Elt Ideal) S64x64x128 .f32)} (hn : n < 64)
    (inb : ∀ a, (![n, 0, 0] : Fin 3 → ℕ) a + S1x64x128.size a ≤ S64x64x128.size a)
    (inb' : ∀ a, (![n, 0, 0] : Fin 3 → ℕ) a + S1x1x128.size a ≤ S64x1x128.size a) (h : Rows sa vt s w B K n L) :
    Rows sa vt s w B K (n + 1) (⟨Rect.unit (s := S64x64x128) ![n, 0, 0] S1x64x128.size inb, k0_pay65 (k0_pay64 sa vt
      (arg15.view.readCov L (Rect.unit (s := S64x64x128) ![n, 0, 0] S1x64x128.size inb).toLoadRect)
      (View.readAt (Elt Ideal) arg3.view (Rect.unit (s := S64x1x128) ![n, 0, 0] S1x1x128.size inb').toLoadRect (harg3.unread w))
      (arg17.view.readCov B (Rect.unit (s := S64x1x128) ![n, 0, 0] S1x1x128.size inb').toLoadRect)
      (arg18.view.readCov K (Rect.unit (s := S64x1x128) ![n, 0, 0] S1x1x128.size inb').toLoadRect))⟩ :: L) := by
  intro j v l
  rw [← View.read_writes_junk_eq_canon arg15.view]
  by_cases e : j.val = n
  · obtain rfl : j = ⟨n, hn⟩ := Fin.ext e
    rw [if_pos (Nat.lt_succ_self _), View.read_writes_cons_unit_of_mem arg15.view _ inb _ L (ix3 ⟨n, hn⟩ v l) (ix3 0 v l) rfl
      (fun a => by fin_cases a <;> simp)]
    refine (new_row _ _ _ _ _ _ v l).trans ?_
    have h1 := (load_stored_slab arg15 L _ ⟨n, hn⟩ rfl inb v l).trans ((h ⟨n, hn⟩ v l).trans (if_neg (Nat.lt_irrefl _)))
    have h2 := load_plane w _ ⟨n, hn⟩ rfl inb' l
    have h3 := load_stored_plane arg17 B _ ⟨n, hn⟩ rfl inb' l
    have h4 := load_stored_plane arg18 K _ ⟨n, hn⟩ rfl inb' l
    rw [View.readAt_eq_ld, harg3.read_unread]
    exact congrArg₂ (· + ·) (congrArg₂ (· + ·) (congrArg₂ (· * ·) h1 h2) (congrArg (_ * ·) h3)) (congrArg (_ * ·) h4)
  · rw [View.read_writes_cons_unit_of_not_mem arg15.view _ inb _ L _ rfl (0 : Fin 3)
      (show j.val < n ∨ n + 1 ≤ j.val by omega), View.read_writes_junk_eq_canon, h j v l]
    exact if_congr (by omega) rfl rfl

/-- After the sixty-four stores every channel is updated. -/
theorem rows_end (x0 : Vec Ideal S64x1x128 .f32) (x1 : Vec Ideal S64x1x128 .f32) (x2 : Vec Ideal S64x1x128 .f32) (x3 : Vec Ideal S64x1x128 .f32) (x4 : Vec Ideal S64x1x128 .f32) (x5 : Vec Ideal S1x64x64x128 .f32) (x6 : Vec Ideal S64x1x128 .f32) (x7 : Vec Ideal S64x1x128 .f32) (x8 : Vec Ideal S64x1x128 .f32) (x9 : Vec Ideal S64x1x128 .f32) (x10 : Vec Ideal S64x1x128 .f32) (B K : List (View.Piece (Elt Ideal) S64x1x128 .f32))
    (hB : B = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread x2) (harg11.unread x9) k0_pay13 (Scf.trips k0_t1_loop.lb k0_t1_loop.ub k0_t1_loop.st)) (harg2.unread x0) (harg4.unread x2) (harg6.unread x4) (harg10.unread x8) (harg11.unread x9) (harg12.unread x10) k0_pay13 (Scf.trips k0_t2_loop.lb k0_t2_loop.ub k0_t2_loop.st)).2.2.1 ++ kernelRun0_A.sl.HS2_1)
    (hK : K = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread x2) (harg11.unread x9) k0_pay13 (Scf.trips k0_t1_loop.lb k0_t1_loop.ub k0_t1_loop.st)) (harg2.unread x0) (harg4.unread x2) (harg6.unread x4) (harg10.unread x8) (harg11.unread x9) (harg12.unread x10) k0_pay13 (Scf.trips k0_t2_loop.lb k0_t2_loop.ub k0_t2_loop.st)).2.2.2 ++ kernelRun0_A.sl.HS3_1) :
    Rows (kernelRun0_A.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x5 x8 x9 x10) (kernelRun0_A.sl.r_4 (F := Ideal) c arg5 harg5 x3) x5 x1 B K 64
      (kernelRun0_A.sl.HS0_65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) := by
  subst hB hK
  iterate 64 refine rows_step arg3 harg3 arg15 arg17 arg18 (by decide) _ _ ?_
  intro j v l
  rw [if_neg (Nat.not_lt_zero _)]
  unfold kernelRun0_A.sl.HS0_1
  rw [View.canon_cons_unit_zero (by funext a; fin_cases a <;> rfl), View.readAt_eq_ld, harg7.read_unread]
  pointwise [k0_pay12]

end Cert.ScanSampleIdeal.Value
end
-- ==== Proof.ScanSample.Fill.lean ====
/-
  The scan of the sample rows, the loop that fills three scratch buffers with one plane per channel: the negated unit key, the
  unit key times the rate, and the key of the update.
-/
module

public import proofs.«01_k».proof.Proof.ScanSample.Norm

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- The reciprocal of the clipped norm, at a lane. -/
def inv (v5 : FVec Ideal S1x128 .f32) (l : Fin 128) : EReal :=
  Ideal.div 1 (max (Ideal.sqrt (v5 (ix2 0 l))) (Ideal.ofBits .f32 730643660#32))

/-- One plane of the negated unit key, at a lane. -/
theorem a_plane (v5 : FVec Ideal S1x128 .f32) (x y : Vec Ideal S1x1x128 .f32) (l : Fin 128) :
    k0_pay6 (k0_pay15 v5) x y (ix3 0 0 l) = 0 - x (ix3 0 0 l) * y (ix3 0 0 l) * inv v5 l := by
  unfold inv
  pointwise [k0_pay6, k0_pay3, k0_pay5, k0_pay15]

/-- One plane of the unit key times the rate, at a lane. -/
theorem b_plane (v5 : FVec Ideal S1x128 .f32) (x z y : Vec Ideal S1x1x128 .f32) (l : Fin 128) :
    k0_pay7 (k0_pay15 v5) x z y (ix3 0 0 l) = x (ix3 0 0 l) * y (ix3 0 0 l) * inv v5 l * z (ix3 0 0 l) := by
  unfold inv
  pointwise [k0_pay7, k0_pay3, k0_pay4, k0_pay5, k0_pay15]

/-- One plane of the update's key, at a lane. -/
theorem k_plane (x z y : Vec Ideal S1x1x128 .f32) (l : Fin 128) :
    k0_pay9 x z y (ix3 0 0 l) = x (ix3 0 0 l) * (1 + (z (ix3 0 0 l) - 1) * y (ix3 0 0 l)) := by
  pointwise [k0_pay9, k0_pay8, k0_pay3, k0_pay4]

/-- The first stack the second loop fills: the negated unit key. -/
theorem a_fill (v5 : FVec Ideal S1x128 .f32) (X2 : BufTy.Contents (Elt Ideal) arg2.view.ty) (X4 : BufTy.Contents (Elt Ideal) arg4.view.ty) (X6 : BufTy.Contents (Elt Ideal) arg6.view.ty) (X10 : BufTy.Contents (Elt Ideal) arg10.view.ty) (X11 : BufTy.Contents (Elt Ideal) arg11.view.ty) (X12 : BufTy.Contents (Elt Ideal) arg12.view.ty) (init : FVec Ideal S1x128 .f32) (L : List (View.Piece (Elt Ideal) S64x1x128 .f32)) (j : Fin 64) (l : Fin 128) :
    View.canon ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init (Scf.trips k0_t2_loop.lb k0_t2_loop.ub k0_t2_loop.st)).2.1 ++ L) (ix3 j 0 l) = 0 - arg4.view.read (Elt Ideal) X4 (ix3 j 0 l) * arg11.view.read (Elt Ideal) X11 (ix3 j 0 l) * inv v5 l := by
  have hT : k0_t2_loop.trips = 64 := by decide +kernel
  have hj : j.val < k0_t2_loop.trips := by rw [hT]; exact j.isLt
  rw [← View.read_writes_junk_eq_canon arg16.view]
  refine (read_planes arg16.view arg16.view.junk (fun n => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init n).2.1 ++ L) k0_off2 k0_off2_inb (fun k => k0_pay6 (k0_pay15 v5) (View.readAt (Elt Ideal) arg4.view (Rect.unit (s := S64x1x128) (k0_off2 k) S1x1x128.size (k0_off2_inb k)).toLoadRect X4) (View.readAt (Elt Ideal) arg11.view (Rect.unit (s := S64x1x128) (k0_off2 k) S1x1x128.size (k0_off2_inb k)).toLoadRect X11)) k0_off2_eq
    (fun k => ?_) ⟨j.val, hj⟩ j.isLt l _ (by exact hj) (Nat.le_refl _)).trans ?_
  · dsimp only
    rw [st_k0_t2_succ]
    unfold tripL_k0_t2 trip_k0_t2
    rfl
  · refine (a_plane _ _ _ l).trans ?_
    simp only [View.readAt_eq_ld]
    rw [load_plane (arg4.view.read (Elt Ideal) X4) _ j (k0_off2_eq ⟨j.val, hj⟩), load_plane (arg11.view.read (Elt Ideal) X11) _ j (k0_off2_eq ⟨j.val, hj⟩)]

/-- The second: the unit key times the rate. -/
theorem b_fill (v5 : FVec Ideal S1x128 .f32) (X2 : BufTy.Contents (Elt Ideal) arg2.view.ty) (X4 : BufTy.Contents (Elt Ideal) arg4.view.ty) (X6 : BufTy.Contents (Elt Ideal) arg6.view.ty) (X10 : BufTy.Contents (Elt Ideal) arg10.view.ty) (X11 : BufTy.Contents (Elt Ideal) arg11.view.ty) (X12 : BufTy.Contents (Elt Ideal) arg12.view.ty) (init : FVec Ideal S1x128 .f32) (L : List (View.Piece (Elt Ideal) S64x1x128 .f32)) (j : Fin 64) (l : Fin 128) :
    View.canon ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init (Scf.trips k0_t2_loop.lb k0_t2_loop.ub k0_t2_loop.st)).2.2.1 ++ L) (ix3 j 0 l) = arg4.view.read (Elt Ideal) X4 (ix3 j 0 l) * arg11.view.read (Elt Ideal) X11 (ix3 j 0 l) * inv v5 l * arg6.view.read (Elt Ideal) X6 (ix3 j 0 l) := by
  have hT : k0_t2_loop.trips = 64 := by decide +kernel
  have hj : j.val < k0_t2_loop.trips := by rw [hT]; exact j.isLt
  rw [← View.read_writes_junk_eq_canon arg17.view]
  refine (read_planes arg17.view arg17.view.junk (fun n => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init n).2.2.1 ++ L) k0_off2 k0_off2_inb (fun k => k0_pay7 (k0_pay15 v5) (View.readAt (Elt Ideal) arg4.view (Rect.unit (s := S64x1x128) (k0_off2 k) S1x1x128.size (k0_off2_inb k)).toLoadRect X4) (View.readAt (Elt Ideal) arg6.view (Rect.unit (s := S64x1x128) (k0_off2 k) S1x1x128.size (k0_off2_inb k)).toLoadRect X6) (View.readAt (Elt Ideal) arg11.view (Rect.unit (s := S64x1x128) (k0_off2 k) S1x1x128.size (k0_off2_inb k)).toLoadRect X11)) k0_off2_eq
    (fun k => ?_) ⟨j.val, hj⟩ j.isLt l _ (by exact hj) (Nat.le_refl _)).trans ?_
  · dsimp only
    rw [st_k0_t2_succ]
    unfold tripL_k0_t2 trip_k0_t2
    rfl
  · refine (b_plane _ _ _ _ l).trans ?_
    simp only [View.readAt_eq_ld]
    rw [load_plane (arg4.view.read (Elt Ideal) X4) _ j (k0_off2_eq ⟨j.val, hj⟩), load_plane (arg6.view.read (Elt Ideal) X6) _ j (k0_off2_eq ⟨j.val, hj⟩), load_plane (arg11.view.read (Elt Ideal) X11) _ j (k0_off2_eq ⟨j.val, hj⟩)]

/-- The third: the key of the update. -/
theorem k_fill (v5 : FVec Ideal S1x128 .f32) (X2 : BufTy.Contents (Elt Ideal) arg2.view.ty) (X4 : BufTy.Contents (Elt Ideal) arg4.view.ty) (X6 : BufTy.Contents (Elt Ideal) arg6.view.ty) (X10 : BufTy.Contents (Elt Ideal) arg10.view.ty) (X11 : BufTy.Contents (Elt Ideal) arg11.view.ty) (X12 : BufTy.Contents (Elt Ideal) arg12.view.ty) (init : FVec Ideal S1x128 .f32) (L : List (View.Piece (Elt Ideal) S64x1x128 .f32)) (j : Fin 64) (l : Fin 128) :
    View.canon ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init (Scf.trips k0_t2_loop.lb k0_t2_loop.ub k0_t2_loop.st)).2.2.2 ++ L) (ix3 j 0 l) = arg4.view.read (Elt Ideal) X4 (ix3 j 0 l) * (1 + (arg6.view.read (Elt Ideal) X6 (ix3 j 0 l) - 1) * arg12.view.read (Elt Ideal) X12 (ix3 j 0 l)) := by
  have hT : k0_t2_loop.trips = 64 := by decide +kernel
  have hj : j.val < k0_t2_loop.trips := by rw [hT]; exact j.isLt
  rw [← View.read_writes_junk_eq_canon arg18.view]
  refine (read_planes arg18.view arg18.view.junk (fun n => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init n).2.2.2 ++ L) k0_off2 k0_off2_inb (fun k => k0_pay9 (View.readAt (Elt Ideal) arg4.view (Rect.unit (s := S64x1x128) (k0_off2 k) S1x1x128.size (k0_off2_inb k)).toLoadRect X4) (View.readAt (Elt Ideal) arg6.view (Rect.unit (s := S64x1x128) (k0_off2 k) S1x1x128.size (k0_off2_inb k)).toLoadRect X6) (View.readAt (Elt Ideal) arg12.view (Rect.unit (s := S64x1x128) (k0_off2 k) S1x1x128.size (k0_off2_inb k)).toLoadRect X12)) k0_off2_eq
    (fun k => ?_) ⟨j.val, hj⟩ j.isLt l _ (by exact hj) (Nat.le_refl _)).trans ?_
  · dsimp only
    rw [st_k0_t2_succ]
    unfold tripL_k0_t2 trip_k0_t2
    rfl
  · refine (k_plane _ _ _ l).trans ?_
    simp only [View.readAt_eq_ld]
    rw [load_plane (arg4.view.read (Elt Ideal) X4) _ j (k0_off2_eq ⟨j.val, hj⟩), load_plane (arg6.view.read (Elt Ideal) X6) _ j (k0_off2_eq ⟨j.val, hj⟩), load_plane (arg12.view.read (Elt Ideal) X12) _ j (k0_off2_eq ⟨j.val, hj⟩)]

end Cert.ScanSampleIdeal.Value
end
-- ==== Proof.ScanSample.Tile.lean ====
/-
  The scan of the sample rows, the tile of the value: the kernel builds the 64 by 128 tile from single planes by selecting on the
  row number, and joins eight such tiles. Its row `v` is channel `v` of the value.
-/
module

public import proofs.«01_k».proof.Proof.Gen.ScanSampleIdeal.Frame
public import proofs.«01_k».proof.Proof.ScanSample.Norm

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- One plane spread over the eight rows of a tile. -/
def spread (x : Vec Ideal S1x1x128 .f32) : FVec Ideal S8x128 .f32 :=
  broadcastTo S8x128 (shapeCast S1x128 (shapeCast S1x128 x shapeCasts_S1x1x128_S1x128) shapeCasts_S1x128_S1x128) broadcasts_S1x128_S8x128

/-- A tile whose row `n` is the plane `x` and whose other rows are those of `t`. -/
def put (n : BitVec 32) (x : Vec Ideal S1x1x128 .f32) (t : FVec Ideal S8x128 .f32) : FVec Ideal S8x128 .f32 :=
  select (cmpi .eq (iota .tc S8x128 32 [0] iota_S8x128_d0_w32) (broadcast S8x128 n)) (spread x) t

/-- Eight planes as the rows of a tile. -/
def tile8 (p : Fin 8 → Vec Ideal S1x1x128 .f32) : FVec Ideal S8x128 .f32 :=
  put 7#32 (p 7) (put 6#32 (p 6) (put 5#32 (p 5) (put 4#32 (p 4) (put 3#32 (p 3) (put 2#32 (p 2) (put 1#32 (p 1) (spread (p 0))))))))

/-- Row `s` of a tile of eight planes is plane `s`. -/
theorem tile8_apply (p : Fin 8 → Vec Ideal S1x1x128 .f32) (s : Fin 8) (l : Fin 128) : tile8 p (ix2 s l) = p s (ix3 0 0 l) := by
  fin_cases s <;> pointwise [tile8, put, spread] <;> rfl

/-- A plane of any channel lies within the stack. -/
theorem plane_inb (n : ℕ) (hn : n < 64) : ∀ a, (![n, 0, 0] : Fin 3 → ℕ) a + S1x1x128.size a ≤ S64x1x128.size a := by
  intro a
  fin_cases a <;> simp <;> omega

/-- The tile of the value's rows, built by selects: row `v` is the plane of channel `v`. -/
theorem value_tile (x3 : Vec Ideal S64x1x128 .f32) (v : Fin 64) (l : Fin 128) :
    kernelRun0_A.sl.r_4 (F := Ideal) c arg5 harg5 x3 (ix2 v l) = x3 (ix3 v 0 l) := by
  have e : kernelRun0_A.sl.r_4 (F := Ideal) c arg5 harg5 x3
      = concatenate S64x128 0 (List.ofFn fun m : Fin 8 => (⟨S8x128, tile8 fun s => View.readAt (Elt Ideal) arg5.view
        (Rect.unit (s := S64x1x128) ![8 * m.val + s.val, 0, 0] S1x1x128.size (plane_inb _ (by omega))).toLoadRect (harg5.unread x3)⟩ : (s : Shape) × (s.Idx → Ideal .f32)))
        concatenates_S8x128_S8x128_S8x128_S8x128_S8x128_S8x128_S8x128_S8x128_S64x128_d0 := by
    rfl
  rw [e]
  refine (concatenate_ofFn_apply (t := S64x128) (s₁ := S8x128) (0 : Fin 2) (fun m : Fin 8 => tile8 fun s => View.readAt (Elt Ideal) arg5.view
    (Rect.unit (s := S64x1x128) ![8 * m.val + s.val, 0, 0] S1x1x128.size (plane_inb _ (by omega))).toLoadRect (harg5.unread x3))
    _ rfl 8 rfl (ix2 v l) ⟨v.val / 8, by omega⟩ rfl (ix2 ⟨v.val % 8, by omega⟩ l) rfl ?_).trans ?_
  · intro b hb
    fin_cases b
    · exact absurd rfl hb
    · rfl
  · rw [tile8_apply, View.readAt_eq_ld, harg5.read_unread]
    exact load_plane x3 _ v (by simp only [Nat.div_add_mod]) _ l

end Cert.ScanSampleIdeal.Value
end
-- ==== Proof.ScanSample.Block.lean ====
/-
  The scan of the sample rows, one point of the grid: the block of the new state in terms of the point's input blocks.
-/
module

public import proofs.«01_k».proof.Proof.ScanSample.State
public import proofs.«01_k».proof.Proof.ScanSample.Fill
public import proofs.«01_k».proof.Proof.ScanSample.Tile

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- The reciprocal of the clipped norm of a key over its channels. -/
def unit (k kk : Vec Ideal S64x1x128 .f32) (l : Fin 128) : EReal :=
  Ideal.div 1 (max (Ideal.sqrt (∑ m : Fin 64, k (ix3 m 0 l) * kk (ix3 m 0 l) * (k (ix3 m 0 l) * kk (ix3 m 0 l)))) (Ideal.ofBits .f32 730643660#32))

/-- The state one step later, at a channel, a row and a lane. -/
def next (w k v a kk ka : Vec Ideal S64x1x128 .f32) (s : Vec Ideal S1x64x64x128 .f32) (j r : Fin 64) (l : Fin 128) : EReal :=
  s (ix4 0 j r l) * w (ix3 j 0 l)
    + (∑ m : Fin 64, s (ix4 0 m r l) * (0 - k (ix3 m 0 l) * kk (ix3 m 0 l) * unit k kk l))
      * (k (ix3 j 0 l) * kk (ix3 j 0 l) * unit k kk l * a (ix3 j 0 l))
    + v (ix3 r 0 l) * (k (ix3 j 0 l) * (1 + (a (ix3 j 0 l) - 1) * ka (ix3 j 0 l)))

/-- The first loop leaves the squared norm, so its clipped reciprocal is that of the key. -/
theorem norm_value (x2 x9 : Vec Ideal S64x1x128 .f32) (l : Fin 128) : inv (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread x2) (harg11.unread x9) k0_pay13 (Scf.trips k0_t1_loop.lb k0_t1_loop.ub k0_t1_loop.st)) l = unit x2 x9 l := by
  unfold inv unit
  rw [norm_loop, harg4.read_unread, harg11.read_unread, show k0_pay13 (F := Ideal) (ix2 0 l) = 0 by pointwise [k0_pay13], zero_add]

/-- The product of the state with the negated unit key. -/
theorem first_value (x0 : Vec Ideal S64x1x128 .f32) (x1 : Vec Ideal S64x1x128 .f32) (x2 : Vec Ideal S64x1x128 .f32) (x3 : Vec Ideal S64x1x128 .f32) (x4 : Vec Ideal S64x1x128 .f32) (x5 : Vec Ideal S1x64x64x128 .f32) (x6 : Vec Ideal S64x1x128 .f32) (x7 : Vec Ideal S64x1x128 .f32) (x8 : Vec Ideal S64x1x128 .f32) (x9 : Vec Ideal S64x1x128 .f32) (x10 : Vec Ideal S64x1x128 .f32) (v : Fin 64) (l : Fin 128) :
    (kernelRun0_A.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x5 x8 x9 x10) (ix2 v l)
      = ∑ m : Fin 64, x5 (ix4 0 m v l) * (0 - x2 (ix3 m 0 l) * x9 (ix3 m 0 l) * unit x2 x9 l) := by
  have hs : ∀ (m r : Fin 64), arg15.view.read (Elt Ideal) (arg15.view.writes (Elt Ideal) arg15.view.junk
      (kernelRun0_A.sl.HS0_1 (F := Ideal) c arg7 harg7 x5)) (ix3 m r l) = x5 (ix4 0 m r l) := by
    intro m r
    unfold kernelRun0_A.sl.HS0_1
    rw [View.read_writes_junk_eq_canon, View.canon_cons_unit_zero (by funext a; fin_cases a <;> rfl), View.readAt_eq_ld, harg7.read_unread]
    pointwise [k0_pay12]
  unfold kernelRun0_A.sl.r_1
  refine (first_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ v l).trans ?_
  rw [show k0_pay21 (F := Ideal) (ix2 v l) = 0 by pointwise [k0_pay21], zero_add]
  refine Finset.sum_congr rfl fun m _ => congrArg₂ (· * ·) (hs m v) ?_
  rw [View.read_writes_junk_eq_canon, a_fill, norm_value, harg4.read_unread, harg11.read_unread]

/-- The state written out, before it is reshaped. -/
theorem state_value (x0 : Vec Ideal S64x1x128 .f32) (x1 : Vec Ideal S64x1x128 .f32) (x2 : Vec Ideal S64x1x128 .f32) (x3 : Vec Ideal S64x1x128 .f32) (x4 : Vec Ideal S64x1x128 .f32) (x5 : Vec Ideal S1x64x64x128 .f32) (x6 : Vec Ideal S64x1x128 .f32) (x7 : Vec Ideal S64x1x128 .f32) (x8 : Vec Ideal S64x1x128 .f32) (x9 : Vec Ideal S64x1x128 .f32) (x10 : Vec Ideal S64x1x128 .f32) (j v : Fin 64) (l : Fin 128) :
    View.canon (kernelRun0_A.sl.HS0_65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix3 j v l) = next x1 x2 x3 x4 x9 x10 x5 j v l := by
  refine (rows_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 _ _ rfl rfl j v l).trans ?_
  rw [if_pos j.isLt, first_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 v l, value_tile, b_fill, k_fill, norm_value]
  simp only [harg4.read_unread, harg6.read_unread, harg11.read_unread, harg12.read_unread]
  rfl

/-- One point's block of the new state, at an index. -/
theorem out_value (hc0 : cond0_0 i) (hc1 : cond0_1 i) (x0 : Vec Ideal S64x1x128 .f32) (x1 : Vec Ideal S64x1x128 .f32) (x2 : Vec Ideal S64x1x128 .f32) (x3 : Vec Ideal S64x1x128 .f32) (x4 : Vec Ideal S64x1x128 .f32) (x5 : Vec Ideal S1x64x64x128 .f32) (x6 : Vec Ideal S64x1x128 .f32) (x7 : Vec Ideal S64x1x128 .f32) (x8 : Vec Ideal S64x1x128 .f32) (x9 : Vec Ideal S64x1x128 .f32) (x10 : Vec Ideal S64x1x128 .f32) (j v : Fin 64) (l : Fin 128) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix4 0 j v l) = next x1 x2 x3 x4 x9 x10 x5 j v l := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  rw [View.canon_cons_unit_zero (by funext a; fin_cases a <;> rfl)]
  refine Eq.trans ?_ (state_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 j v l)
  unfold kernelRun0_A.sl.v4768 View.readCov
  rw [View.readAt_eq_ld, View.ld_unit_zero (by funext a; fin_cases a <;> rfl), View.read_writes_junk_eq_canon]
  generalize View.canon (kernelRun0_A.sl.HS0_65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) = S
  pointwise [k0_pay2]

end Cert.ScanSampleIdeal.Value
end
-- ==== Proof.ScanSample.Read.lean ====
/-
  The scan of the sample rows, the receptance read of the new state: while the sixty-four channels are updated the kernel adds each
  channel's new rows, times its receptance, into one tile. The tile is the new state times the receptance, summed over the channels.
-/
module

public import proofs.«01_k».proof.Proof.ScanSample.Block

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- What the kernel adds to the tile for channel `n`: the channel's new rows times its receptance. -/
def part (sa vt : FVec Ideal S64x128 .f32) (s : Vec Ideal S1x64x64x128 .f32) (w r : Vec Ideal S64x1x128 .f32)
    (B K : List (View.Piece (Elt Ideal) S64x1x128 .f32)) (v : Fin 64) (l : Fin 128) (n : ℕ) : EReal :=
  if h : n < 64 then
    (s (ix4 0 ⟨n, h⟩ v l) * w (ix3 ⟨n, h⟩ 0 l) + sa (ix2 v l) * View.canon B (ix3 ⟨n, h⟩ 0 l) + vt (ix2 v l) * View.canon K (ix3 ⟨n, h⟩ 0 l))
      * r (ix3 ⟨n, h⟩ 0 l)
  else 0

/-- The stored state and the tile when `n` channels are done. -/
def Reads (sa vt : FVec Ideal S64x128 .f32) (s : Vec Ideal S1x64x64x128 .f32) (w r : Vec Ideal S64x1x128 .f32)
    (B K : List (View.Piece (Elt Ideal) S64x1x128 .f32)) (n : ℕ) (L : List (View.Piece (Elt Ideal) S64x64x128 .f32))
    (t : FVec Ideal S64x128 .f32) : Prop :=
  Rows sa vt s w B K n L ∧ ∀ (v : Fin 64) (l : Fin 128), t (ix2 v l) = ∑ k ∈ Finset.range n, part sa vt s w r B K v l k

/-- A channel's new rows as they are added to the tile. -/
theorem read_row (t sa vt : FVec Ideal S64x128 .f32) (s : Vec Ideal S1x64x128 .f32) (w b k r : Vec Ideal S1x1x128 .f32)
    (v : Fin 64) (l : Fin 128) :
    addf t (mulf (k0_pay64 sa vt s w b k) (broadcastTo S64x128 (shapeCast S1x128 r shapeCasts_S1x1x128_S1x128) broadcasts_S1x128_S64x128)) (ix2 v l)
      = t (ix2 v l) + (s (ix3 0 v l) * w (ix3 0 0 l) + sa (ix2 v l) * b (ix3 0 0 l) + vt (ix2 v l) * k (ix3 0 0 l)) * r (ix3 0 0 l) := by
  pointwise [k0_pay64]

/-- One more channel is updated and read. -/
theorem reads_step {sa vt : FVec Ideal S64x128 .f32} {s : Vec Ideal S1x64x64x128 .f32} {w r : Vec Ideal S64x1x128 .f32}
    {B K : List (View.Piece (Elt Ideal) S64x1x128 .f32)} {n : ℕ} {L : List (View.Piece (Elt Ideal) S64x64x128 .f32)}
    {t : FVec Ideal S64x128 .f32} (hn : n < 64)
    (inb : ∀ a, (![n, 0, 0] : Fin 3 → ℕ) a + S1x64x128.size a ≤ S64x64x128.size a)
    (inb' : ∀ a, (![n, 0, 0] : Fin 3 → ℕ) a + S1x1x128.size a ≤ S64x1x128.size a) (h : Reads sa vt s w r B K n L t) :
    Reads sa vt s w r B K (n + 1) (⟨Rect.unit (s := S64x64x128) ![n, 0, 0] S1x64x128.size inb, k0_pay65 (k0_pay64 sa vt
      (arg15.view.readCov L (Rect.unit (s := S64x64x128) ![n, 0, 0] S1x64x128.size inb).toLoadRect)
      (View.readAt (Elt Ideal) arg3.view (Rect.unit (s := S64x1x128) ![n, 0, 0] S1x1x128.size inb').toLoadRect (harg3.unread w))
      (arg17.view.readCov B (Rect.unit (s := S64x1x128) ![n, 0, 0] S1x1x128.size inb').toLoadRect)
      (arg18.view.readCov K (Rect.unit (s := S64x1x128) ![n, 0, 0] S1x1x128.size inb').toLoadRect))⟩ :: L)
      (addf t (mulf (k0_pay64 sa vt
      (arg15.view.readCov L (Rect.unit (s := S64x64x128) ![n, 0, 0] S1x64x128.size inb).toLoadRect)
      (View.readAt (Elt Ideal) arg3.view (Rect.unit (s := S64x1x128) ![n, 0, 0] S1x1x128.size inb').toLoadRect (harg3.unread w))
      (arg17.view.readCov B (Rect.unit (s := S64x1x128) ![n, 0, 0] S1x1x128.size inb').toLoadRect)
      (arg18.view.readCov K (Rect.unit (s := S64x1x128) ![n, 0, 0] S1x1x128.size inb').toLoadRect))
      (broadcastTo S64x128 (shapeCast S1x128 (View.readAt (Elt Ideal) arg2.view (Rect.unit (s := S64x1x128) ![n, 0, 0] S1x1x128.size inb').toLoadRect
        (harg2.unread r)) shapeCasts_S1x1x128_S1x128) broadcasts_S1x128_S64x128))) := by
  refine ⟨rows_step arg3 harg3 arg15 arg17 arg18 hn inb inb' h.1, fun v l => ?_⟩
  refine (read_row _ _ _ _ _ _ _ _ v l).trans ?_
  rw [Finset.sum_range_succ, h.2 v l, part, dif_pos hn]
  have h1 := (load_stored_slab arg15 L _ ⟨n, hn⟩ rfl inb v l).trans ((h.1 ⟨n, hn⟩ v l).trans (if_neg (Nat.lt_irrefl _)))
  have h2 := load_plane w _ ⟨n, hn⟩ rfl inb' l
  have h3 := load_stored_plane arg17 B _ ⟨n, hn⟩ rfl inb' l
  have h4 := load_stored_plane arg18 K _ ⟨n, hn⟩ rfl inb' l
  have h5 := load_plane r _ ⟨n, hn⟩ rfl inb' l
  rw [View.readAt_eq_ld, View.readAt_eq_ld, harg3.read_unread, harg2.read_unread]
  exact congrArg (_ + ·) (congrArg₂ (· * ·) (congrArg₂ (· + ·) (congrArg₂ (· + ·) (congrArg₂ (· * ·) h1 h2) (congrArg (_ * ·) h3)) (congrArg (_ * ·) h4)) h5)

/-- The tile stored in one piece is the sum over all channels. -/
theorem reads_stored {sa vt : FVec Ideal S64x128 .f32} {s : Vec Ideal S1x64x64x128 .f32} {w r : Vec Ideal S64x1x128 .f32}
    {B K : List (View.Piece (Elt Ideal) S64x1x128 .f32)} {L : List (View.Piece (Elt Ideal) S64x64x128 .f32)}
    {t : FVec Ideal S64x128 .f32} (h : Reads sa vt s w r B K 64 L t) (v : Fin 64) (l : Fin 128) :
    shapeCast S1x64x128 t shapeCasts_S64x128_S1x64x128 (ix3 0 v l) = ∑ k ∈ Finset.range 64, part sa vt s w r B K v l k := by
  refine Eq.trans ?_ (h.2 v l)
  pointwise []

/-- The tile after the sixty-four channels. -/
theorem reads_end (x0 : Vec Ideal S64x1x128 .f32) (x1 : Vec Ideal S64x1x128 .f32) (x2 : Vec Ideal S64x1x128 .f32) (x3 : Vec Ideal S64x1x128 .f32) (x4 : Vec Ideal S64x1x128 .f32) (x5 : Vec Ideal S1x64x64x128 .f32) (x6 : Vec Ideal S64x1x128 .f32) (x7 : Vec Ideal S64x1x128 .f32) (x8 : Vec Ideal S64x1x128 .f32) (x9 : Vec Ideal S64x1x128 .f32) (x10 : Vec Ideal S64x1x128 .f32) (B K : List (View.Piece (Elt Ideal) S64x1x128 .f32))
    (hB : B = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread x2) (harg11.unread x9) k0_pay13 (Scf.trips k0_t1_loop.lb k0_t1_loop.ub k0_t1_loop.st)) (harg2.unread x0) (harg4.unread x2) (harg6.unread x4) (harg10.unread x8) (harg11.unread x9) (harg12.unread x10) k0_pay13 (Scf.trips k0_t2_loop.lb k0_t2_loop.ub k0_t2_loop.st)).2.2.1 ++ kernelRun0_A.sl.HS2_1)
    (hK : K = (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread x2) (harg11.unread x9) k0_pay13 (Scf.trips k0_t1_loop.lb k0_t1_loop.ub k0_t1_loop.st)) (harg2.unread x0) (harg4.unread x2) (harg6.unread x4) (harg10.unread x8) (harg11.unread x9) (harg12.unread x10) k0_pay13 (Scf.trips k0_t2_loop.lb k0_t2_loop.ub k0_t2_loop.st)).2.2.2 ++ kernelRun0_A.sl.HS3_1)
    (v : Fin 64) (l : Fin 128) :
    View.canon (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix3 0 v l)
      = ∑ k ∈ Finset.range 64, part (kernelRun0_A.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x5 x8 x9 x10) (kernelRun0_A.sl.r_4 (F := Ideal) c arg5 harg5 x3) x5 x1 x0 B K v l k := by
  subst hB hK
  unfold kernelRun0_A.sl.HS5_1
  rw [View.canon_cons_unit_zero (by funext a; fin_cases a <;> rfl)]
  unfold k0_pay337
  dsimp only
  refine reads_stored (L := (kernelRun0_A.sl.HS0_65 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10)) ?_ v l
  iterate 64 refine reads_step arg2 harg2 arg3 harg3 arg15 arg17 arg18 (by decide) _ _ ?_
  refine ⟨fun j v l => ?_, fun v l => ?_⟩
  · rw [if_neg (Nat.not_lt_zero _)]
    unfold kernelRun0_A.sl.HS0_1
    rw [View.canon_cons_unit_zero (by funext a; fin_cases a <;> rfl), View.readAt_eq_ld, harg7.read_unread]
    pointwise [k0_pay12]
  · rw [Finset.range_zero, Finset.sum_empty]
    pointwise [k0_pay21]

end Cert.ScanSampleIdeal.Value
end
-- ==== Proof.ScanSample.Moments.lean ====
/-
  The scan of the sample rows, the two moments: the kernel adds the sixty-four channels of its tile one after another, and then the
  squares of their distances from the mean.
-/
module

public import proofs.«01_k».proof.Proof.ScanSample.Read

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- Row `n` of a stored tile, at a lane. -/
def rowAt (H : List (View.Piece (Elt Ideal) S1x64x128 .f32)) (l : Fin 128) (n : ℕ) : EReal :=
  if h : n < 64 then View.canon H (ix3 0 ⟨n, h⟩ l) else 0

/-- One row loaded back from a stored tile. -/
theorem load_stored_row (H : List (View.Piece (Elt Ideal) S1x64x128 .f32)) {n : ℕ} (hn : n < 64)
    (inb : ∀ a, (![0, n, 0] : Fin 3 → ℕ) a + S1x1x128.size a ≤ S1x64x128.size a) (l : Fin 128) :
    arg20.view.readCov H (Rect.unit (s := S1x64x128) ![0, n, 0] S1x1x128.size inb).toLoadRect (ix3 0 0 l) = rowAt H l n := by
  unfold View.readCov rowAt
  rw [View.readAt_eq_ld, View.read_writes_junk_eq_canon, dif_pos hn]
  refine View.ld_unit_apply_of _ _ _ _ _ _ fun a => ?_
  fin_cases a <;> simp

/-- The sum when `n` rows are added. -/
def Sums (H : List (View.Piece (Elt Ideal) S1x64x128 .f32)) (n : ℕ) (t : FVec Ideal S1x128 .f32) : Prop :=
  ∀ l : Fin 128, t (ix2 0 l) = ∑ k ∈ Finset.range n, rowAt H l k

/-- One more row is added. -/
theorem sums_step {H : List (View.Piece (Elt Ideal) S1x64x128 .f32)} {n : ℕ} {t : FVec Ideal S1x128 .f32} (hn : n < 64)
    (inb : ∀ a, (![0, n, 0] : Fin 3 → ℕ) a + S1x1x128.size a ≤ S1x64x128.size a) (h : Sums H n t) :
    Sums H (n + 1) (addf t (shapeCast S1x128 (arg20.view.readCov H (Rect.unit (s := S1x64x128) ![0, n, 0] S1x1x128.size inb).toLoadRect) shapeCasts_S1x1x128_S1x128)) := by
  intro l
  rw [Finset.sum_range_succ, ← h l, ← load_stored_row arg20 H hn inb l]
  generalize arg20.view.readCov H (Rect.unit (s := S1x64x128) ![0, n, 0] S1x1x128.size inb).toLoadRect = x
  pointwise []

/-- The mean of the rows. -/
theorem sums_mean {H : List (View.Piece (Elt Ideal) S1x64x128 .f32)} {t : FVec Ideal S1x128 .f32} (h : Sums H 64 t) (l : Fin 128) :
    mulf t (broadcast S1x128 (Scalar.ofBits .f32 0x3C800000#32)) (ix2 0 l)
      = (∑ k ∈ Finset.range 64, rowAt H l k) * Ideal.ofBits .f32 0x3C800000#32 := by
  rw [← h l]
  pointwise []

/-- The sum of the squared distances when `n` rows are added. -/
def Squares (H : List (View.Piece (Elt Ideal) S1x64x128 .f32)) (mu : FVec Ideal S1x128 .f32) (n : ℕ) (t : FVec Ideal S1x128 .f32) : Prop :=
  ∀ l : Fin 128, t (ix2 0 l) = ∑ k ∈ Finset.range n, (rowAt H l k - mu (ix2 0 l)) * (rowAt H l k - mu (ix2 0 l))

/-- One more squared distance is added. -/
theorem squares_step {H : List (View.Piece (Elt Ideal) S1x64x128 .f32)} {mu : FVec Ideal S1x128 .f32} {n : ℕ} {t : FVec Ideal S1x128 .f32}
    (hn : n < 64) (inb : ∀ a, (![0, n, 0] : Fin 3 → ℕ) a + S1x1x128.size a ≤ S1x64x128.size a) (h : Squares H mu n t) :
    Squares H mu (n + 1) (addf t (mulf
      (subf (shapeCast S1x128 (arg20.view.readCov H (Rect.unit (s := S1x64x128) ![0, n, 0] S1x1x128.size inb).toLoadRect) shapeCasts_S1x1x128_S1x128) mu)
      (subf (shapeCast S1x128 (arg20.view.readCov H (Rect.unit (s := S1x64x128) ![0, n, 0] S1x1x128.size inb).toLoadRect) shapeCasts_S1x1x128_S1x128) mu))) := by
  intro l
  rw [Finset.sum_range_succ, ← h l, ← load_stored_row arg20 H hn inb l]
  generalize arg20.view.readCov H (Rect.unit (s := S1x64x128) ![0, n, 0] S1x1x128.size inb).toLoadRect = x
  pointwise []

/-- The reciprocal of the root of the mean squared distance. -/
theorem squares_root {H : List (View.Piece (Elt Ideal) S1x64x128 .f32)} {mu t : FVec Ideal S1x128 .f32} (h : Squares H mu 64 t) (l : Fin 128) :
    rsqrt (addf (mulf t (broadcast S1x128 (Scalar.ofBits .f32 0x3C800000#32))) (broadcast S1x128 (Scalar.ofBits .f32 0x3A27C5AC#32))) (ix2 0 l)
      = Ideal.rsqrt ((∑ k ∈ Finset.range 64, (rowAt H l k - mu (ix2 0 l)) * (rowAt H l k - mu (ix2 0 l))) * Ideal.ofBits .f32 0x3C800000#32
        + Ideal.ofBits .f32 0x3A27C5AC#32) := by
  rw [← h l]
  pointwise []

set_option maxHeartbeats 2000000 in
/-- The mean the kernel takes from the tile's rows. -/
theorem mean_value (x0 x1 x2 x3 x4 : Vec Ideal S64x1x128 .f32) (x5 : Vec Ideal S1x64x64x128 .f32) (x8 x9 x10 : Vec Ideal S64x1x128 .f32) (l : Fin 128) :
    (kernelRun0_A.sl.r_257 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix2 0 l)
      = (∑ k ∈ Finset.range 64, rowAt (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) l k) * Ideal.ofBits .f32 0x3C800000#32 := by
  unfold kernelRun0_A.sl.r_257 k0_pay408
  refine sums_mean ?_ l
  iterate 64 refine sums_step arg20 (by decide) _ ?_
  intro l
  rw [Finset.range_zero, Finset.sum_empty]
  pointwise []

set_option maxHeartbeats 2000000 in
/-- The reciprocal root the kernel takes from the tile's rows. -/
theorem root_value (x0 x1 x2 x3 x4 : Vec Ideal S64x1x128 .f32) (x5 : Vec Ideal S1x64x64x128 .f32) (x8 x9 x10 : Vec Ideal S64x1x128 .f32) (l : Fin 128) :
    (kernelRun0_A.sl.r_264 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix2 0 l)
      = Ideal.rsqrt ((∑ k ∈ Finset.range 64, (rowAt (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) l k - (kernelRun0_A.sl.r_257 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix2 0 l))
          * (rowAt (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) l k - (kernelRun0_A.sl.r_257 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (ix2 0 l))) * Ideal.ofBits .f32 0x3C800000#32
        + Ideal.ofBits .f32 0x3A27C5AC#32) := by
  unfold kernelRun0_A.sl.r_264 k0_pay415
  refine squares_root ?_ l
  iterate 64 refine squares_step arg20 (by decide) _ ?_
  intro l
  rw [Finset.range_zero, Finset.sum_empty]
  pointwise []

end Cert.ScanSampleIdeal.Value
end
-- ==== Proof.ScanSample.Bonus.lean ====
/-
  The scan of the sample rows, the bonus: while the second loop fills its buffers it adds up the receptance times the update's key times
  the bonus parameter.
-/
module

public import proofs.«01_k».proof.Proof.ScanSample.Norm

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- One step of the bonus, read at a lane. -/
theorem bonus_step (acc : FVec Ideal S1x128 .f32) (k a p r q : Vec Ideal S1x1x128 .f32) (l : Fin 128) :
    k0_pay19 acc (k0_pay8 k a p) r q (ix2 0 l)
      = acc (ix2 0 l) + r (ix3 0 0 l) * (k (ix3 0 0 l) * (1 + (a (ix3 0 0 l) - 1) * p (ix3 0 0 l))) * q (ix3 0 0 l) := by
  pointwise [k0_pay19, k0_pay8, k0_pay3, k0_pay4]

/-- The bonus the second loop accumulates. -/
theorem bonus_loop (v5 : FVec Ideal S1x128 .f32) (X2 : BufTy.Contents (Elt Ideal) arg2.view.ty) (X4 : BufTy.Contents (Elt Ideal) arg4.view.ty) (X6 : BufTy.Contents (Elt Ideal) arg6.view.ty) (X10 : BufTy.Contents (Elt Ideal) arg10.view.ty) (X11 : BufTy.Contents (Elt Ideal) arg11.view.ty) (X12 : BufTy.Contents (Elt Ideal) arg12.view.ty) (init : FVec Ideal S1x128 .f32) (l : Fin 128) :
    (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init k0_t2_loop.trips).1 (ix2 0 l)
      = init (ix2 0 l) + ∑ j : Fin 64, arg2.view.read (Elt Ideal) X2 (ix3 j 0 l) * (arg4.view.read (Elt Ideal) X4 (ix3 j 0 l) * (1 + (arg6.view.read (Elt Ideal) X6 (ix3 j 0 l) - 1) * arg12.view.read (Elt Ideal) X12 (ix3 j 0 l))) * arg10.view.read (Elt Ideal) X10 (ix3 j 0 l) := by
  have hT : k0_t2_loop.trips = 64 := by decide +kernel
  rw [show k0_t2_loop.trips = 64 from hT]
  refine sum_steps (fun n => (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init n).1 (ix2 0 l)) _ fun k => ?_
  have hk : k.val < k0_t2_loop.trips := by rw [hT]; exact k.isLt
  have h := congrFun (congrArg Prod.fst (st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 X2 X4 X6 X10 X11 X12 init ⟨k.val, hk⟩)) (ix2 0 l)
  refine h.trans ?_
  unfold tripR_k0_t2 trip_k0_t2
  dsimp only
  refine (bonus_step _ _ _ _ _ _ l).trans ?_
  unfold trip_k0_t2.sl.r_1
  simp only [View.readAt_eq_ld]
  rw [load_plane _ _ k (k0_off2_eq ⟨k.val, hk⟩), load_plane _ _ k (k0_off2_eq ⟨k.val, hk⟩), load_plane _ _ k (k0_off2_eq ⟨k.val, hk⟩), load_plane _ _ k (k0_off2_eq ⟨k.val, hk⟩), load_plane _ _ k (k0_off2_eq ⟨k.val, hk⟩)]

end Cert.ScanSampleIdeal.Value
end
-- ==== Proof.ScanSample.Output.lean ====
/-
  The scan of the sample rows, the output block: each row of the read tile less the mean, times the reciprocal root, scaled and shifted,
  plus the bonus times the value, stored channel by channel.
-/
module

public import proofs.«01_k».proof.Proof.ScanSample.Moments
public import proofs.«01_k».proof.Proof.ScanSample.Bonus

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- What the kernel stores for a channel, at a lane. -/
def scaled (H : List (View.Piece (Elt Ideal) S1x64x128 .f32)) (mu rs bon : FVec Ideal S1x128 .f32) (g b v : Vec Ideal S64x1x128 .f32)
    (j : Fin 64) (l : Fin 128) : EReal :=
  (rowAt H l j.val - mu (ix2 0 l)) * rs (ix2 0 l) * g (ix3 j 0 l) + b (ix3 j 0 l) + bon (ix2 0 l) * v (ix3 j 0 l)

/-- One channel's plane, at a lane. -/
theorem scaled_plane (y g b v : Vec Ideal S1x1x128 .f32) (mu rs bon : FVec Ideal S1x128 .f32) (l : Fin 128) :
    shapeCast S1x1x128 (addf (addf (mulf (mulf (subf (shapeCast S1x128 y shapeCasts_S1x1x128_S1x128) mu) rs)
      (shapeCast S1x128 g shapeCasts_S1x1x128_S1x128)) (shapeCast S1x128 b shapeCasts_S1x1x128_S1x128))
      (mulf bon (shapeCast S1x128 v shapeCasts_S1x1x128_S1x128))) shapeCasts_S1x128_S1x1x128 (ix3 0 0 l)
      = (y (ix3 0 0 l) - mu (ix2 0 l)) * rs (ix2 0 l) * g (ix3 0 0 l) + b (ix3 0 0 l) + bon (ix2 0 l) * v (ix3 0 0 l) := by
  pointwise []

/-- The first `n` channels of the output are stored. -/
def Outs (H : List (View.Piece (Elt Ideal) S1x64x128 .f32)) (mu rs bon : FVec Ideal S1x128 .f32) (g b v : Vec Ideal S64x1x128 .f32)
    (n : ℕ) (L : List (View.Piece (Elt Ideal) S64x1x128 .f32)) : Prop :=
  ∀ (j : Fin 64) (l : Fin 128), j.val < n → View.canon L (ix3 j 0 l) = scaled H mu rs bon g b v j l

/-- One more channel is stored. -/
theorem outs_step {H : List (View.Piece (Elt Ideal) S1x64x128 .f32)} {mu rs bon : FVec Ideal S1x128 .f32} {g b v : Vec Ideal S64x1x128 .f32}
    {n : ℕ} {L : List (View.Piece (Elt Ideal) S64x1x128 .f32)} {off off' : Fin 3 → ℕ} (hn : n < 64)
    (hoff : off = ![n, 0, 0]) (hoff' : off' = ![n, 0, 0])
    (inb0 : ∀ a, (![0, n, 0] : Fin 3 → ℕ) a + S1x1x128.size a ≤ S1x64x128.size a)
    (inb1 : ∀ a, (![n, 0, 0] : Fin 3 → ℕ) a + S1x1x128.size a ≤ S64x1x128.size a)
    (inb : ∀ a, off a + S1x1x128.size a ≤ S64x1x128.size a) (inb' : ∀ a, off' a + S1x1x128.size a ≤ S64x1x128.size a)
    (h : Outs H mu rs bon g b v n L) :
    Outs H mu rs bon g b v (n + 1) (⟨Rect.unit (s := S64x1x128) off S1x1x128.size inb, shapeCast S1x1x128 (addf (addf (mulf (mulf (subf
      (shapeCast S1x128 (arg20.view.readCov H (Rect.unit (s := S1x64x128) ![0, n, 0] S1x1x128.size inb0).toLoadRect) shapeCasts_S1x1x128_S1x128) mu) rs)
      (shapeCast S1x128 (View.readAt (Elt Ideal) arg8.view (Rect.unit (s := S64x1x128) ![n, 0, 0] S1x1x128.size inb1).toLoadRect (harg8.unread g)) shapeCasts_S1x1x128_S1x128))
      (shapeCast S1x128 (View.readAt (Elt Ideal) arg9.view (Rect.unit (s := S64x1x128) ![n, 0, 0] S1x1x128.size inb1).toLoadRect (harg9.unread b)) shapeCasts_S1x1x128_S1x128))
      (mulf bon (shapeCast S1x128 (View.readAt (Elt Ideal) arg5.view (Rect.unit (s := S64x1x128) off' S1x1x128.size inb').toLoadRect (harg5.unread v)) shapeCasts_S1x1x128_S1x128)))
      shapeCasts_S1x128_S1x1x128⟩ :: L) := by
  subst hoff hoff'
  intro j l hj
  rw [← View.read_writes_junk_eq_canon arg5.view]
  by_cases e : j.val = n
  · obtain rfl : j = ⟨n, hn⟩ := Fin.ext e
    rw [View.read_writes_cons_unit_of_mem arg5.view _ inb _ L (ix3 ⟨n, hn⟩ 0 l) (ix3 0 0 l) rfl (fun a => by fin_cases a <;> simp)]
    refine (scaled_plane _ _ _ _ _ _ _ l).trans ?_
    rw [load_stored_row arg20 H hn inb0 l, View.readAt_eq_ld, View.readAt_eq_ld, View.readAt_eq_ld, harg8.read_unread, harg9.read_unread,
      harg5.read_unread, load_plane g _ ⟨n, hn⟩ rfl, load_plane b _ ⟨n, hn⟩ rfl, load_plane v _ ⟨n, hn⟩ rfl]
    rfl
  · rw [View.read_writes_cons_unit_of_not_mem arg5.view _ inb _ L _ rfl (0 : Fin 3)
      (show j.val < n ∨ n + 1 ≤ j.val by omega), View.read_writes_junk_eq_canon]
    exact h j l (by omega)

set_option maxHeartbeats 4000000 in
/-- One point's block of the output, at an index, in terms of the tile, its two moments and the bonus. -/
theorem y_form (hc0 : cond0_0 i) (hc1 : cond0_1 i) (x0 x1 x2 x3 x4 : Vec Ideal S64x1x128 .f32) (x5 : Vec Ideal S1x64x64x128 .f32) (x6 x7 x8 x9 x10 : Vec Ideal S64x1x128 .f32) (j : Fin 64) (l : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix3 j 0 l)
      = scaled (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (kernelRun0_A.sl.r_257 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (kernelRun0_A.sl.r_264 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10)
        (kernelRun0_A.sl.v3676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x8 x9 x10) x6 x7 x3 j l := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  suffices h : Outs (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (kernelRun0_A.sl.r_257 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) (kernelRun0_A.sl.r_264 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10)
        (kernelRun0_A.sl.v3676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x8 x9 x10) x6 x7 x3 64 _ from h j l j.isLt
  iterate 64 refine outs_step arg5 harg5 arg8 harg8 arg9 harg9 arg20 (by decide) (by decide +kernel) (by decide +kernel) _ _ _ _ ?_
  exact fun j l h => absurd h (Nat.not_lt_zero _)

end Cert.ScanSampleIdeal.Value
end
-- ==== Proof.ScanSample.Channels.lean ====
/-
  The scan of the sample rows, one point of the grid: the block of the output in terms of the point's input blocks.
-/
module

public import proofs.«01_k».proof.Proof.ScanSample.Output

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem

variable (c : Dev nD) (i : grid0.Coords)
variable (arg2 : Memref sig .tc .vmem S64x1x128 .f32) (harg2 : arg2.IsWhole)
  (arg3 : Memref sig .tc .vmem S64x1x128 .f32) (harg3 : arg3.IsWhole)
  (arg4 : Memref sig .tc .vmem S64x1x128 .f32) (harg4 : arg4.IsWhole)
  (arg5 : Memref sig .tc .vmem S64x1x128 .f32) (harg5 : arg5.IsWhole)
  (arg6 : Memref sig .tc .vmem S64x1x128 .f32) (harg6 : arg6.IsWhole)
  (arg7 : Memref sig .tc .vmem S1x64x64x128 .f32) (harg7 : arg7.IsWhole)
  (arg8 : Memref sig .tc .vmem S64x1x128 .f32) (harg8 : arg8.IsWhole)
  (arg9 : Memref sig .tc .vmem S64x1x128 .f32) (harg9 : arg9.IsWhole)
  (arg10 : Memref sig .tc .vmem S64x1x128 .f32) (harg10 : arg10.IsWhole)
  (arg11 : Memref sig .tc .vmem S64x1x128 .f32) (harg11 : arg11.IsWhole)
  (arg12 : Memref sig .tc .vmem S64x1x128 .f32) (harg12 : arg12.IsWhole)
  (arg13 : Memref sig .tc .vmem S64x1x128 .f32) (harg13 : arg13.IsWhole)
  (arg14 : Memref sig .tc .vmem S1x64x64x128 .f32) (harg14 : arg14.IsWhole)
  (arg15 : Memref sig .tc .vmem S64x64x128 .f32) (harg15 : arg15.IsWhole)
  (arg16 : Memref sig .tc .vmem S64x1x128 .f32) (harg16 : arg16.IsWhole)
  (arg17 : Memref sig .tc .vmem S64x1x128 .f32) (harg17 : arg17.IsWhole)
  (arg18 : Memref sig .tc .vmem S64x1x128 .f32) (harg18 : arg18.IsWhole)
  (arg19 : Memref sig .tc .vmem S1x128 .f32) (harg19 : arg19.IsWhole)
  (arg20 : Memref sig .tc .vmem S1x64x128 .f32) (harg20 : arg20.IsWhole)

/-- The new state times the receptance, at a channel and a lane. -/
def tile (r w k v a kk ka : Vec Ideal S64x1x128 .f32) (s : Vec Ideal S1x64x64x128 .f32) (l : Fin 128) (j : Fin 64) : EReal :=
  ∑ m : Fin 64, next w k v a kk ka s m j l * r (ix3 m 0 l)

/-- The mean of a tile's channels. -/
def mean (f : Fin 64 → EReal) : EReal := (∑ j, f j) * Ideal.ofBits .f32 0x3C800000#32

/-- The reciprocal of the root of the mean squared distance of a tile's channels from their mean. -/
def root (f : Fin 64 → EReal) : EReal :=
  Ideal.rsqrt (mean (fun j => (f j - mean f) * (f j - mean f)) + Ideal.ofBits .f32 0x3A27C5AC#32)

/-- The receptance times the update's key times the bonus parameter. -/
def bonus (r k a q ka : Vec Ideal S64x1x128 .f32) (l : Fin 128) : EReal :=
  ∑ j : Fin 64, r (ix3 j 0 l) * (k (ix3 j 0 l) * (1 + (a (ix3 j 0 l) - 1) * ka (ix3 j 0 l))) * q (ix3 j 0 l)

/-- A row of the tile the kernel stores. -/
theorem row_value (x0 x1 x2 x3 x4 : Vec Ideal S64x1x128 .f32) (x5 : Vec Ideal S1x64x64x128 .f32) (x6 x7 x8 x9 x10 : Vec Ideal S64x1x128 .f32)
    (l : Fin 128) (j : Fin 64) : rowAt (kernelRun0_A.sl.HS5_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x8 x9 x10) l j.val = tile x0 x1 x2 x3 x4 x9 x10 x5 l j := by
  rw [rowAt, dif_pos j.isLt]
  refine (reads_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 _ _ rfl rfl j l).trans ?_
  rw [Finset.sum_range]
  refine Finset.sum_congr rfl fun m _ => ?_
  rw [part, dif_pos m.isLt, first_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 j l, value_tile, b_fill, k_fill, norm_value]
  simp only [harg4.read_unread, harg6.read_unread, harg11.read_unread, harg12.read_unread]
  rfl

/-- The whole bonus buffer is loaded. -/
theorem k0_off72_zero : k0_off72 = 0 := by decide +kernel

/-- The bonus the kernel stores. -/
theorem bonus_value (x0 x2 x4 x8 x9 x10 : Vec Ideal S64x1x128 .f32) (l : Fin 128) :
    (kernelRun0_A.sl.v3676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x8 x9 x10) (ix2 0 l) = bonus x0 x2 x4 x8 x10 l := by
  unfold kernelRun0_A.sl.v3676 View.readCov kernelRun0_A.sl.HS4_1
  rw [View.readAt_eq_ld, View.ld_unit_zero k0_off72_zero, View.read_writes_junk_eq_canon,
    View.canon_cons_unit_zero (by funext a; fin_cases a <;> rfl)]
  refine Eq.trans (b := (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x2 x4 x8 x9 x10) (ix2 0 l)) ?_ ?_
  · pointwise [k0_pay20]
  unfold kernelRun0_A.sl.r
  refine (bonus_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ l).trans ?_
  rw [show k0_pay13 (F := Ideal) (ix2 0 l) = 0 by pointwise [k0_pay13], zero_add, harg2.read_unread, harg4.read_unread, harg6.read_unread,
    harg10.read_unread, harg12.read_unread]
  rfl

/-- One point's block of the output, at an index. -/
theorem y_value (hc0 : cond0_0 i) (hc1 : cond0_1 i) (x0 x1 x2 x3 x4 : Vec Ideal S64x1x128 .f32) (x5 : Vec Ideal S1x64x64x128 .f32) (x6 x7 x8 x9 x10 : Vec Ideal S64x1x128 .f32)
    (j : Fin 64) (l : Fin 128) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 (ix3 j 0 l)
      = (tile x0 x1 x2 x3 x4 x9 x10 x5 l j - mean (tile x0 x1 x2 x3 x4 x9 x10 x5 l)) * root (tile x0 x1 x2 x3 x4 x9 x10 x5 l) * x6 (ix3 j 0 l)
        + x7 (ix3 j 0 l) + bonus x0 x2 x4 x8 x10 l * x3 (ix3 j 0 l) := by
  rw [y_form, scaled, root_value, mean_value, bonus_value]
  simp only [Finset.sum_range, row_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10]
  rfl

end Cert.ScanSampleIdeal.Value
end
-- ==== Proof.ScanSample.Reference.lean ====
/-
  The scan of the sample rows: the reference's results are the kernel's formulas of the argument arrays.
-/
module

public import proofs.«01_k».proof.Proof.ScanSample.Layout
public import proofs.«01_k».proof.Proof.ScanSample.Channels
public import proofs.«01_k».proof.Proof.Gen.ScanSampleRefIdeal.Read
public import Idealize.ShloMosaic.Lib.IdealHost

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem
open Cert.ScanSampleRefIdeal.Read

variable (m : (ℓ : Loc nD τ sig) → Buf (Elt Ideal) ℓ)

/-- The reference's new state of the kernel's argument arrays. -/
abbrev result (c : Dev nD) : FVec Ideal S128x32x64x64 .f32 :=
  val_main_v48 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))

/-- The bound that clips a key's norm is positive. -/
theorem bound_pos : 0 < Ideal.ofBits .f32 730643660#32 := by
  simp [Ideal.ofBits, Ideal.ieee, -EReal.coe_mul]

/-- Times the reciprocal of a clipped norm is divided by it: the clipped norm is not zero. -/
theorem times_unit (x n : EReal) : x * Ideal.div 1 (max n (Ideal.ofBits .f32 730643660#32)) = Ideal.div x (max n (Ideal.ofBits .f32 730643660#32)) :=
  Ideal.mul_one_div (lt_of_lt_of_le bound_pos (le_max_right _ _)).ne'

/-- The kernel's new state at a channel, a row and a lane of head `t` is the reference's. -/
theorem point (c : Dev nD) (t : Fin cfg0.N) (j r : Fin 64) (l : Fin 128) :
    next (iblk m c 1 t) (iblk m c 2 t) (iblk m c 3 t) (iblk m c 4 t) (iblk m c 9 t) (iblk m c 10 t) (iblk m c 5 t) j r l
      = result m c (ix4 l (head t) r j) := by
  unfold next unit
  simp only [w_block, k_block, v_block, a_block, kk_block, ka_block, s_block]
  pointwise [result, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_cst_2, val_main_v27, val_main_v26, val_main_v25, val_main_v24, val_main_v23, val_main_v22, val_main_cst_1,
    val_main_v21, val_main_v20, val_main_v19, val_main_v18, val_main_cst_0, val_main_v17, val_main_v16, val_main_v15, val_main_cst, val_main_v14,
    val_main_v13, val_main_v12, val_main_v11, val_main_v10, val_main_v9, val_main_v8, val_main_v7, val_main_v6, val_main_v5, val_main_v4,
    val_main_v3, val_main_v2]
  simp only [times_unit, zero_sub]
  rfl

/-- The reference's new state times the receptance, of the kernel's argument arrays. -/
abbrev mixed (c : Dev nD) : FVec Ideal Cert.ScanSampleRefIdeal.S128x32x64 .f32 :=
  val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))

/-- The reference's output of the kernel's argument arrays. -/
abbrev resultY (c : Dev nD) : FVec Ideal S128x2048 .f32 :=
  val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The kernel's tile is the reference's state times receptance. -/
theorem point_tile (c : Dev nD) (t : Fin cfg0.N) (l : Fin 128) :
    tile (iblk m c 0 t) (iblk m c 1 t) (iblk m c 2 t) (iblk m c 3 t) (iblk m c 4 t) (iblk m c 9 t) (iblk m c 10 t) (iblk m c 5 t) l
      = fun j => mixed m c (ix3 l (head t) j) := by
  funext j
  unfold tile
  simp only [point, r_block]
  pointwise [mixed, val_main_v49, val_main_v1, val_main_v0]

/-- The mean divides by sixty-four, the kernel multiplies by its reciprocal. -/
theorem sixtyfourth (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee, -EReal.coe_mul]; norm_num
  have h' : Ideal.ofBits .f32 0x3C800000#32 = (((64 : ℝ)⁻¹ : ℝ) : EReal) := by simp [Ideal.ofBits, Ideal.ieee, -EReal.coe_mul]; norm_num
  have n : ((64 : ℝ) : EReal) ≠ 0 := by norm_num
  rw [h, h', Ideal.div, if_neg n]
  rfl

/-- The reference's last layout step at a row and a channel of a head. -/
theorem row_major (c : Dev nD) (h : Fin 32) (j : Fin 64) (l : Fin 128) : resultY m c (ix2 l (place h j))
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 l h j) := by
  rw [resultY, val_main_v86_apply, val_main_v85_apply]
  exact congrArg _ (funext fun a => Fin.ext (by
    match a with
    | ⟨0, _⟩ => change (l.val * 2048 + (j.val * 32 + h.val)) / 2048 = l.val; omega
    | ⟨1, _⟩ => change (l.val * 2048 + (j.val * 32 + h.val)) % 32 = h.val; omega
    | ⟨2, _⟩ => change (l.val * 2048 + (j.val * 32 + h.val)) / 32 % 64 = j.val; omega))

/-- The kernel's output at a channel and a lane of head `t` is the reference's. -/
theorem point_y (c : Dev nD) (t : Fin cfg0.N) (j : Fin 64) (l : Fin 128) :
    (tile (iblk m c 0 t) (iblk m c 1 t) (iblk m c 2 t) (iblk m c 3 t) (iblk m c 4 t) (iblk m c 9 t) (iblk m c 10 t) (iblk m c 5 t) l j
        - mean (tile (iblk m c 0 t) (iblk m c 1 t) (iblk m c 2 t) (iblk m c 3 t) (iblk m c 4 t) (iblk m c 9 t) (iblk m c 10 t) (iblk m c 5 t) l))
          * root (tile (iblk m c 0 t) (iblk m c 1 t) (iblk m c 2 t) (iblk m c 3 t) (iblk m c 4 t) (iblk m c 9 t) (iblk m c 10 t) (iblk m c 5 t) l)
          * iblk m c 6 t (ix3 j 0 l) + iblk m c 7 t (ix3 j 0 l)
        + bonus (iblk m c 0 t) (iblk m c 2 t) (iblk m c 4 t) (iblk m c 8 t) (iblk m c 10 t) l * iblk m c 3 t (ix3 j 0 l)
      = resultY m c (ix2 l (place (head t) j)) := by
  rw [row_major]
  simp only [point_tile, root, mean, bonus, r_block, k_block, v_block, a_block, g_block, b_block, q_block, ka_block]
  pointwise [val_main_v84, val_main_v83, val_main_v82, val_main_v81, val_main_v80, val_main_cst_8, val_main_v79, val_main_v78, val_main_v77,
    val_main_v76, val_main_v75, val_main_v74, val_main_v73, val_main_v72, val_main_v71, val_main_v70, val_main_v69, val_main_v68, val_main_v67,
    val_main_v66, val_main_v65, val_main_v64, val_main_v63, val_main_cst_7, val_main_v62, val_main_v61, val_main_v60, val_main_v59, val_main_cst_6,
    val_main_v58, val_main_v57, val_main_cst_5, val_main_v56, val_main_v55, val_main_v54, val_main_v53, val_main_v52, val_main_cst_4, val_main_v51,
    val_main_v50, val_main_cst_3, val_main_v30, val_main_v29, val_main_v28, val_main_cst_2, val_main_v27, val_main_v26, val_main_v25, val_main_v24,
    val_main_v23, val_main_v22, val_main_cst_1, val_main_v9, val_main_v8, val_main_v7, val_main_v6, val_main_v5, val_main_v4, val_main_v1,
    val_main_v0]
  simp only [sixtyfourth]
  rfl

end Cert.ScanSampleIdeal.Value

end
-- ==== Proof.ScanSample.Value.lean ====
/-
  The scan of the sample rows: after the run the result arrays are the reference's output and new state.
-/
module

public import proofs.«01_k».proof.Proof.ScanSample.Reference

@[expose] public section

set_option maxRecDepth 16384

noncomputable section

namespace Cert.ScanSampleIdeal.Value

open Cert.ScanSampleIdeal Cert.ScanSampleIdeal.Gen Idealize.ShloMosaic Idealize.ShloMosaic.TcCoe Idealize.SL.Sem
open Idealize.ShloMosaic.Pipeline (Dat)

variable (m : (ℓ : Loc nD τ sig) → Buf (Elt Ideal) ℓ)

/-- The new state in the kernel's layout. -/
def planes (c : Dev nD) : FVec Ideal S32x64x64x128 .f32 := fun y => result m c (ix4 (y 3) (y 0) (y 2) (y 1))

/-- What point `t` stores at place `y` of its block is the new state there. -/
theorem stored (c : Dev nD) (t : Fin cfg0.N) (y : S1x64x64x128.Idx) :
    (outsAt0 m c t).2 y = planes m c (((cfg0.win 12).blk t).view.emb y) := by
  have e : y = ix4 0 (y 1) (y 2) (y 3) := funext fun a => by
    match a with
    | ⟨0, _⟩ => exact Fin.ext (by have h := (y 0).isLt; change (y 0).val < 1 at h; change (y 0).val = 0; omega)
    | ⟨1, _⟩ => rfl
    | ⟨2, _⟩ => rfl
    | ⟨3, _⟩ => rfl
  have q : ((cfg0.win 12).blk t).view.emb y = ix4 (head t) (y 1) (y 2) (y 3) := funext fun a => Fin.ext (by
    have h := (y 0).isLt
    change (y 0).val < 1 at h
    match a with
    | ⟨0, _⟩ => blk_simp [idx t]
    | ⟨1, _⟩ => blk_simp [idx t]; rfl
    | ⟨2, _⟩ => blk_simp [idx t]; rfl
    | ⟨3, _⟩ => blk_simp [idx t]; rfl)
  rw [q]
  refine Eq.trans ?_ (point m c t (y 1) (y 2) (y 3))
  refine (congrArg (outsAt0 m c t).2 e).trans ?_
  unfold outsAt0
  dsimp only
  exact out_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (y 1) (y 2) (y 3)

/-- After the run the kernel's array is the new state in its layout. -/
theorem final (c : Dev nD) : (dats m 0 c).arrAt 12 cfg0.N = planes m c := by
  refine (dats m 0 c).arrAt_eq_of_covers 12 _ (by decide +kernel) fun t _ y => ?_
  blk_simp
  rw [after0_12]
  exact stored m c t y

/-- The closing layout step puts rows first, then heads, rows of the state and channels. -/
theorem layout_at (W : Valuation τ sig (Elt Ideal)) (A : FVec Ideal S32x64x64x128 .f32) (hA : W (Proc.devRef .tc main_v40_1) = A)
    (i : S128x32x64x64.Idx) : StableHlo.after hostOps1 W (Proc.devRef .tc main_v44) i = A (ix4 (i 1) (i 3) (i 2) (i 0)) := by
  subst hA
  simp only [hostOps1]
  after_reads_at

/-- After the run the result array is the reference's result of the argument arrays. -/
theorem tail (c : Dev nD) :
    Idealize.ShloMosaic.Pipeline.afterTail₀ cfgs (dats m) 0 (V0 m) [hostOps1] c main_v44 = result m c := by
  have e : Idealize.ShloMosaic.Pipeline.withArrays (cfgs 0).spec c (V0 m c) (fun w => (dats m 0 c).arrAt w (cfgs 0).N) (Proc.devRef .tc main_v40_1) = planes m c :=
    (Idealize.ShloMosaic.Pipeline.withArrays_arr (cfgs 0).spec (by decide) c (V0 m c) _ 12).trans (final m c)
  funext i
  refine (layout_at _ (planes m c) e i).trans ?_
  unfold planes
  exact congrArg (result m c) (funext fun a => by
    match a with
    | ⟨0, _⟩ => rfl
    | ⟨1, _⟩ => rfl
    | ⟨2, _⟩ => rfl
    | ⟨3, _⟩ => rfl)

/-- The output in the kernel's layout. -/
def planesY (c : Dev nD) : FVec Ideal S64x1x4096 .f32 :=
  fun y => resultY m c (ix2 ⟨(y 2).val % 128, by omega⟩ ⟨(y 0).val * 32 + (y 2).val / 128, by have h := (y 0).isLt; change (y 0).val < 64 at h; have h' := (y 2).isLt; change (y 2).val < 4096 at h'; omega⟩)

/-- The output in the kernel's layout at a lane of head `h`. -/
theorem planesY_lane (c : Dev nD) (h : Fin 32) (j : Fin 64) (l : Fin 128) : planesY m c (ix3 j 0 (lane h l)) = resultY m c (ix2 l (place h j)) := by
  unfold planesY
  exact congrArg₂ (fun x y => resultY m c (ix2 x y)) (lane_row h l _) (lane_place h j l _)

/-- What point `t` stores at place `y` of its block of the output is the output there. -/
theorem storedY (c : Dev nD) (t : Fin cfg0.N) (y : S64x1x128.Idx) :
    (outsAt0 m c t).1 y = planesY m c (((cfg0.win 11).blk t).view.emb y) := by
  have h : (y 1).val < 1 := (y 1).isLt
  have e : y = ix3 (y 0) 0 (y 2) := funext fun a => by
    match a with
    | ⟨0, _⟩ => rfl
    | ⟨1, _⟩ => exact Fin.ext (by change (y 1).val = 0; omega)
    | ⟨2, _⟩ => rfl
  have q : ((cfg0.win 11).blk t).view.emb y = (ix3 (y 0 : Fin 64) (0 : Fin 1) (lane (head t) (y 2)) : S64x1x4096.Idx) := funext fun a => Fin.ext (by
    match a with
    | ⟨0, _⟩ => blk_simp [idx t]; rfl
    | ⟨1, _⟩ => blk_simp [idx t]; rfl
    | ⟨2, _⟩ => blk_simp [idx t]; rfl)
  rw [q]
  refine Eq.trans ?_ ((point_y m c t (y 0) (y 2)).trans (planesY_lane m c (head t) (y 0) (y 2)).symm)
  refine (congrArg (outsAt0 m c t).1 e).trans ?_
  unfold outsAt0
  dsimp only
  exact y_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 2)

/-- After the run the kernel's array of outputs is the output in its layout. -/
theorem finalY (c : Dev nD) : (dats m 0 c).arrAt 11 cfg0.N = planesY m c := by
  refine (dats m 0 c).arrAt_eq_of_covers 11 _ (by decide +kernel) fun t _ y => ?_
  blk_simp
  rw [after0_11]
  exact storedY m c t y

/-- The closing layout step of the output puts rows first, then channels and heads. -/
theorem layoutY_at (W : Valuation τ sig (Elt Ideal)) (A : FVec Ideal S64x1x4096 .f32) (hA : W (Proc.devRef .tc main_v40_0) = A)
    (l : Fin 128) (p : Fin 2048) : StableHlo.after hostOps1 W (Proc.devRef .tc main_v43) (ix2 l p)
      = A (ix3 ⟨p.val / 32, by omega⟩ 0 (lane ⟨p.val % 32, by omega⟩ l)) := by
  subst hA
  simp only [hostOps1]
  after_reads_at

/-- After the run the first result array is the reference's output of the argument arrays. -/
theorem tailY (c : Dev nD) :
    Idealize.ShloMosaic.Pipeline.afterTail₀ cfgs (dats m) 0 (V0 m) [hostOps1] c main_v43 = resultY m c := by
  have e : Idealize.ShloMosaic.Pipeline.withArrays (cfgs 0).spec c (V0 m c) (fun w => (dats m 0 c).arrAt w (cfgs 0).N) (Proc.devRef .tc main_v40_0) = planesY m c :=
    (Idealize.ShloMosaic.Pipeline.withArrays_arr (cfgs 0).spec (by decide) c (V0 m c) _ 11).trans (finalY m c)
  funext i
  have hi : i = ix2 (i 0) (i 1) := funext fun a => by
    match a with
    | ⟨0, _⟩ => rfl
    | ⟨1, _⟩ => rfl
  rw [hi]
  refine (layoutY_at _ (planesY m c) e (i 0) (i 1)).trans ((planesY_lane m c _ _ _).trans ?_)
  exact congrArg (fun x => resultY m c (ix2 (i 0) x)) (Fin.ext (by
    change (i 1).val / 32 * 32 + (i 1).val % 32 = (i 1).val
    omega))

end Cert.ScanSampleIdeal.Value

end
-- ==== Proof.ScanSample.Algebraic.lean ====
/-
  The scan of the sample rows: the kernel and the plain reference leave the same output and new state over the extended reals.
-/
module

public import proofs.«01_k».proof.Defs
public import proofs.«01_k».proof.Proof.ScanSample.Value
public import proofs.«01_k».proof.Proof.Gen.ScanSample
public import proofs.«01_k».proof.Proof.Gen.ScanSampleIdeal
public import proofs.«01_k».proof.Proof.Gen.ScanSampleRefIdeal
public import Idealize.ShloMosaic.Lib.Claim

@[expose] public section

set_option maxRecDepth 16384

noncomputable section

namespace Cert.Proof

open Idealize.ShloMosaic Idealize.SL.Sem

/-- From the same arguments the kernel's output and new state are the reference's. -/
theorem scanSample_algebraic : Cert.algebraic_ScanSampleIdeal_ScanSampleRefIdeal := by
  pair_intro
  · run_from Cert.ScanSampleIdeal.Gen.run_main m g
    exact Cert.ScanSampleIdeal.Gen.W_main_arg0 m _ c
    exact Cert.ScanSampleIdeal.Gen.W_main_arg1 m _ c
    exact Cert.ScanSampleIdeal.Gen.W_main_arg2 m _ c
    exact Cert.ScanSampleIdeal.Gen.W_main_arg3 m _ c
    exact Cert.ScanSampleIdeal.Gen.W_main_arg4 m _ c
    exact Cert.ScanSampleIdeal.Gen.W_main_arg5 m _ c
    exact Cert.ScanSampleIdeal.Gen.W_main_arg6 m _ c
    exact Cert.ScanSampleIdeal.Gen.W_main_arg7 m _ c
    exact Cert.ScanSampleIdeal.Gen.W_main_arg8 m _ c
    exact Cert.ScanSampleIdeal.Gen.W_main_arg9 m _ c
    exact Cert.ScanSampleIdeal.Gen.W_main_arg10 m _ c
  · run_from Cert.ScanSampleRefIdeal.Value.run m' g'
    · obtain ⟨e0, e1, e2, e3, e4, e5, e6, e7, e8, e9, e10⟩ := hagree c
      rw [Cert.ScanSampleRefIdeal.Read.val_main_v86_eq, e0, e1, e2, e3, e4, e5, e6, e7, e8, e9, e10]
      exact (Cert.ScanSampleIdeal.Value.tailY m c).symm
    · obtain ⟨-, e1, e2, e3, e4, e5, -, -, -, e9, e10⟩ := hagree c
      rw [Cert.ScanSampleRefIdeal.Read.val_main_v48_eq, e1, e2, e3, e4, e5, e9, e10]
      exact (Cert.ScanSampleIdeal.Value.tail m c).symm

end Cert.Proof

end
-- ==== Proof.SguSample.Block.lean ====
/-
  The first position of the spatial gating: the blocks the one grid point works on, and what it stores.
-/
module

public import proofs.«01_k».proof.Proof.Gen.SguSampleIdeal.Frame
public import Idealize.ShloMosaic.Lib.Pipeline.ValueKit
public import Idealize.ShloMosaic.Lib.StableHlo.ReadAt

@[expose] public section

set_option maxRecDepth 16384

noncomputable section

namespace Cert.SguSampleIdeal.Value

open Cert.SguSampleIdeal Cert.SguSampleIdeal.Gen Idealize.ShloMosaic Idealize.ShloMosaic.TcCoe Idealize.SL.Sem
open Idealize.ShloMosaic.Pipeline (Dat)

variable (m : (ℓ : Loc nD τ sig) → Buf (Elt Ideal) ℓ)

/-- Which block of each array the one grid point works on. -/
theorem idx : ∀ t : Fin cfg0.N, win0_0.index t = ![0, 10] ∧ win0_1.index t = ![0, 11] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The first block holds columns 10240 to 11263 of the projection. -/
theorem u_block (c : Dev nD) (t : Fin cfg0.N) (y : S128x1024.Idx) :
    X0_0 m c t y = (m ((c : Thread nD τ).loc main_arg0)) (ix2 (y 0) ⟨10240 + (y 1).val, by have h := (y 1).isLt; change (y 1).val < 1024 at h; omega⟩) := by
  unfold X0_0 Idealize.ShloMosaic.Pipeline.Window.fill
  rw [dif_pos (moved0_0 t y)]
  blk_simp [iblk, V_main_arg0, idx t]
  refine congrArg (m ((c : Thread nD τ).loc main_arg0)) (funext fun a => Fin.ext ?_)
  blk_simp [idx t]
  match a with
  | ⟨0, _⟩ => simp
  | ⟨1, _⟩ => simp

/-- The second block holds columns 11264 to 12287 of the projection. -/
theorem v_block (c : Dev nD) (t : Fin cfg0.N) (y : S128x1024.Idx) :
    X0_1 m c t y = (m ((c : Thread nD τ).loc main_arg0)) (ix2 (y 0) ⟨11264 + (y 1).val, by have h := (y 1).isLt; change (y 1).val < 1024 at h; omega⟩) := by
  unfold X0_1 Idealize.ShloMosaic.Pipeline.Window.fill
  rw [dif_pos (moved0_1 t y)]
  blk_simp [iblk, V_main_arg0, idx t]
  refine congrArg (m ((c : Thread nD τ).loc main_arg0)) (funext fun a => Fin.ext ?_)
  blk_simp [idx t]
  match a with
  | ⟨0, _⟩ => simp
  | ⟨1, _⟩ => simp

/-- The kernel's gain row is the argument's gain vector. -/
theorem gain (c : Dev nD) (x : S1x1024.Idx) : V m c main_v0 x = (m ((c : Thread nD τ).loc main_arg1)) (ix1 (x 1)) := by
  unfold V
  after_reads_at

/-- The kernel's bias row is the argument's bias vector. -/
theorem bias (c : Dev nD) (x : S1x1024.Idx) : V m c main_v1 x = (m ((c : Thread nD τ).loc main_arg2)) (ix1 (x 1)) := by
  unfold V
  after_reads_at

/-- The kernel's weight row repeats each group's first weight over the group's 128 columns. -/
theorem weight (c : Dev nD) (x : S1x1024.Idx) : V m c main_v6 x
    = (m ((c : Thread nD τ).loc main_arg3)) (ix3 ⟨(x 1).val / 128, by have h := (x 1).isLt; change (x 1).val < 1024 at h; omega⟩ 0 0) := by
  unfold V
  after_reads_at

/-- The kernel's offset row repeats each group's first offset over the group's 128 columns. -/
theorem offset (c : Dev nD) (x : S1x1024.Idx) : V m c main_v11 x
    = (m ((c : Thread nD τ).loc main_arg4)) (ix2 ⟨(x 1).val / 128, by have h := (x 1).isLt; change (x 1).val < 1024 at h; omega⟩ 0) := by
  unfold V
  after_reads_at

/-- The normalised rows the point stores. -/
def rows (c : Dev nD) (t : Fin cfg0.N) : FVec Ideal S128x1024 .f32 :=
  k0_pay1 (F := Ideal) (k0_pay4 (iblk m c 2 t)) (k0_pay5 (iblk m c 3 t)) (k0_pay6 (X0_1 m c t)) (k0_pay7 (X0_1 m c t))

/-- The gated rows the point stores. -/
def mixed (c : Dev nD) (t : Fin cfg0.N) : FVec Ideal S128x1024 .bf16 :=
  k0_pay2 (F := Ideal) (k0_pay3 (X0_0 m c t)) (k0_pay4 (iblk m c 2 t)) (k0_pay5 (iblk m c 3 t)) (k0_pay6 (X0_1 m c t))
    (k0_pay7 (X0_1 m c t)) (iblk m c 4 t) (iblk m c 5 t)

/-- What the two result windows hold after the point. -/
theorem outs (c : Dev nD) (t : Fin cfg0.N) : outsAt0 m c t = (mixed m c t, rows m c t) := by
  unfold outsAt0
  refine Prod.ext ?_ ?_
  · frame_out
    rfl
  · frame_out
    rfl

end Cert.SguSampleIdeal.Value

end
-- ==== Proof.SguSample.Rows.lean ====
/-
  The first position of the spatial gating: what the array of normalised rows holds after the run.
-/
module

public import proofs.«01_k».proof.Proof.SguSample.Block
public import proofs.«01_k».proof.Proof.Gen.SguSampleRefIdeal.Read

@[expose] public section

set_option maxRecDepth 16384

noncomputable section

namespace Cert.SguSampleIdeal.Value

open Cert.SguSampleIdeal Cert.SguSampleIdeal.Gen Idealize.ShloMosaic Idealize.ShloMosaic.TcCoe Idealize.SL.Sem
open Idealize.ShloMosaic.Pipeline (Dat)
open Cert.SguSampleRefIdeal.Read

variable (m : (ℓ : Loc nD τ sig) → Buf (Elt Ideal) ℓ)

/-- The reference's normalised rows of the kernel's argument arrays. -/
abbrev normed (c : Dev nD) : FVec Ideal S128x1024 .f32 :=
  val_main_v72 (F := Ideal) (m ((c : Thread nD τ).loc main_arg0)) (m ((c : Thread nD τ).loc main_arg1)) (m ((c : Thread nD τ).loc main_arg2))

/-- What the point stores at place `y` of its block of rows is the reference's element there. -/
theorem point_rows (c : Dev nD) (t : Fin cfg0.N) (y : S128x1024.Idx) :
    rows m c t y = normed m c (((cfg0.win 7).blk t).view.emb y) := by
  unfold rows
  pointwise [k0_pay1, k0_pay4, k0_pay5, k0_pay6, k0_pay7, normed, val_main_v72, val_main_v53, val_main_v52, val_main_v51, val_main_v50, val_main_v49, val_main_v48, val_main_v47,
    val_main_v46, val_main_v45, val_main_v44, val_main_v43, val_main_cst_11, val_main_v42, val_main_v41, val_main_v40,
    val_main_v39, val_main_cst_10, val_main_v38, val_main_v37, val_main_cst_9, val_main_v36, val_main_v35, val_main_v34,
    val_main_v33, val_main_v32, val_main_cst_8, val_main_v31, val_main_v30, val_main_cst_7, val_main_v29, val_main_v28,
    val_main_v27, val_main_cst_6, val_main_v26, val_main_v25, val_main_cst_5, val_main_v24, val_main_v23, val_main_v22,
    val_main_cst_4, val_main_v21, val_main_v20, val_main_v19, val_main_cst_3, val_main_v18, val_main_v17, val_main_v16,
    val_main_v15, val_main_v14, val_main_cst_2, val_main_v13, val_main_v12, val_main_cst_1, val_main_v11, val_main_v10,
    val_main_v9, val_main_cst_0, val_main_v8, val_main_v7, val_main_v6, val_main_cst, val_main_v5, val_main_v4, val_main_v3,
    val_main_v2, val_main_v1, val_main_v0]
  simp only [v_block m c t]
  blk_point [iblk, idx t, gain, bias]

/-- After the run the second result array is the reference's normalised rows. -/
theorem final_rows (c : Dev nD) : (dats m 0 c).arrAt 7 cfg0.N = normed m c := by
  refine (dats m 0 c).arrAt_eq_of_covers 7 _ (by decide +kernel) fun t _ y => ?_
  blk_simp
  rw [after0_7, outs]
  exact point_rows m c t y

end Cert.SguSampleIdeal.Value

end
-- ==== Proof.SguSample.Value.lean ====
/-
  The first position of the spatial gating: what the array of gated rows holds after the run.
-/
module

public import proofs.«01_k».proof.Proof.SguSample.Rows

@[expose] public section

set_option maxRecDepth 16384

noncomputable section

namespace Cert.SguSampleIdeal.Value

open Cert.SguSampleIdeal Cert.SguSampleIdeal.Gen Idealize.ShloMosaic Idealize.ShloMosaic.TcCoe Idealize.SL.Sem
open Idealize.ShloMosaic.Pipeline (Dat)
open Cert.SguSampleRefIdeal.Read

variable (m : (ℓ : Loc nD τ sig) → Buf (Elt Ideal) ℓ)

/-- The reference's gated rows of the kernel's argument arrays. -/
abbrev gated (c : Dev nD) : FVec Ideal S128x1024 .bf16 :=
  val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's activated values: the kernel's formula of columns 10240 to 11263 of the projection. -/
theorem point_gelu (c : Dev nD) (y : S128x1024.Idx) (u : Ideal FTy.f32) (h : u = (m ((c : Thread nD τ).loc main_arg0)) (ix2 (y 0)
      ⟨10240 + (y 1).val, by have h := (y 1).isLt; change (y 1).val < 1024 at h; omega⟩)) :
    u * (Ideal.ofBits FTy.f32 1056964608#32 * (1 + Ideal.tanh (Ideal.ofBits FTy.f32 1061962282#32 *
      (u + Ideal.ofBits FTy.f32 1027024659#32 * (u * (u * u))))))
      = val_main_v16 (F := Ideal) (m ((c : Thread nD τ).loc main_arg0)) (ix3 (y 0) 0 (y 1)) := by
  pointwise [val_main_v16, val_main_v15, val_main_v14, val_main_cst_2, val_main_v13, val_main_v12, val_main_cst_1, val_main_v11,
    val_main_v10, val_main_v9, val_main_cst_0, val_main_v8, val_main_v7, val_main_v6, val_main_cst, val_main_v5, val_main_v4,
    val_main_v3, val_main_v2, val_main_v1, val_main_v0]
  rw [← h]
  refine congrArg (fun z => u * (Ideal.ofBits FTy.f32 1056964608#32 * (1 + Ideal.tanh (Ideal.ofBits FTy.f32 1061962282#32 *
    (u + Ideal.ofBits FTy.f32 1027024659#32 * z))))) ?_
  exact mul_comm (G := EReal) u (u * u)

/-- The block of weights. -/
theorem w_block (c : Dev nD) (t : Fin cfg0.N) (y : S1x1024.Idx) : iblk m c 4 t y
    = (m ((c : Thread nD τ).loc main_arg3)) (ix3 ⟨(y 1).val / 128, by have h := (y 1).isLt; change (y 1).val < 1024 at h; omega⟩ 0 0) := by
  have e : iblk m c 4 t y = V m c main_v6 y := by blk_point [iblk, idx t]
  exact e.trans (weight m c y)

/-- The block of offsets. -/
theorem o_block (c : Dev nD) (t : Fin cfg0.N) (y : S1x1024.Idx) : iblk m c 5 t y
    = (m ((c : Thread nD τ).loc main_arg4)) (ix2 ⟨(y 1).val / 128, by have h := (y 1).isLt; change (y 1).val < 1024 at h; omega⟩ 0) := by
  have e : iblk m c 5 t y = V m c main_v11 y := by blk_point [iblk, idx t]
  exact e.trans (offset m c y)

/-- Both result windows copy place `y` of the one point's block to place `y` of the array. -/
theorem place (c : Dev nD) (t : Fin cfg0.N) (y : S128x1024.Idx) :
    ((cfg0.win 6).blk t).view.emb y = y ∧ ((cfg0.win 7).blk t).view.emb y = y := by
  refine ⟨funext fun a => Fin.ext ?_, funext fun a => Fin.ext ?_⟩
  · match a with
    | ⟨0, _⟩ => blk_simp [idx t]
    | ⟨1, _⟩ => blk_simp [idx t]
  · match a with
    | ⟨0, _⟩ => blk_simp [idx t]
    | ⟨1, _⟩ => blk_simp [idx t]

/-- The normalised rows, padded to a chunk of 128 positions, are at the first position the rows themselves. -/
theorem first_row (c : Dev nD) (y : S128x1024.Idx) :
    val_main_v53 (F := Ideal) (m ((c : Thread nD τ).loc main_arg0)) (m ((c : Thread nD τ).loc main_arg1)) (m ((c : Thread nD τ).loc main_arg2)) (ix3 (y 0) 0 (y 1)) = normed m c y := by
  pointwise [normed, val_main_v72]

/-- What the point stores at place `y` of its block of gated rows is the reference's element there: of the reference's sum over
    the chunk's 128 positions only the first one is left. -/
theorem point_mixed (c : Dev nD) (t : Fin cfg0.N) (y : S128x1024.Idx) :
    mixed m c t y = gated m c (((cfg0.win 6).blk t).view.emb y) := by
  have e := point_rows m c t y
  unfold rows at e
  rw [(place c t y).2, ← first_row] at e
  rw [(place c t y).1]
  unfold mixed
  pointwise [k0_pay2, k0_pay3, gated, val_main_v71, val_main_v70, val_main_v69, val_main_v68, val_main_v67, val_main_v66, val_main_v65, val_main_v64,
    val_main_v63, val_main_v62, val_main_v61, val_main_v60, val_main_v59, val_main_call2_v2, val_main_call2_v1,
    val_main_call2_v0, val_main_c_13, val_main_v58, val_main_v57, val_main_call1_v5, val_main_call1_c_0, val_main_call1_v4,
    val_main_call1_v3, val_main_call1_v2, val_main_call1_v1, val_main_call1_c, val_main_call1_v0, val_main_v56, val_main_c_12,
    val_main_v55, val_main_v54, val_main_call0_v0, val_main_c]
  rw [point_gelu m c y _ (u_block m c t y), w_block, o_block, e]
  refine congrArg (_ * ·) (congrArg (· + _) ?_)
  have z : FloatOps.sitofp (F := Ideal) FTy.f32 (0#32 : BitVec 32) = (0 : EReal) := by
    change (((0#32 : BitVec 32).toInt : ℝ) : EReal) = 0
    simp
  symm
  refine (congrArg₂ (fun a b : EReal => a + b) (y' := 0) ?_ (Finset.sum_eq_zero fun x _ => ?_)).trans (add_zero (M := EReal) _)
  · exact Fin.sum_univ_one _
  · exact (congrArg (fun a : EReal => a * _) z).trans (zero_mul (M₀ := EReal) _)

/-- After the run the first result array is the reference's gated rows. -/
theorem final_mixed (c : Dev nD) : (dats m 0 c).arrAt 6 cfg0.N = gated m c := by
  refine (dats m 0 c).arrAt_eq_of_covers 6 _ (by decide +kernel) fun t _ y => ?_
  blk_simp
  rw [after0_6, outs]
  exact point_mixed m c t y

end Cert.SguSampleIdeal.Value

end
-- ==== Proof.SguSample.Algebraic.lean ====
/-
  The first position of the spatial gating: the kernel and the plain reference leave the same arrays over the extended reals.
-/
module

public import proofs.«01_k».proof.Defs
public import proofs.«01_k».proof.Proof.SguSample.Value
public import proofs.«01_k».proof.Proof.Gen.SguSample
public import proofs.«01_k».proof.Proof.Gen.SguSampleIdeal
public import proofs.«01_k».proof.Proof.Gen.SguSampleRefIdeal
public import Idealize.ShloMosaic.Lib.Claim

@[expose] public section

set_option maxRecDepth 16384

noncomputable section

namespace Cert.Proof

open Idealize.ShloMosaic Idealize.SL.Sem

set_option maxHeartbeats 1600000 in
/-- From the same arguments the kernel's gated rows and normalised rows are the reference's. -/
theorem sguSample_algebraic : Cert.algebraic_SguSampleIdeal_SguSampleRefIdeal := by
  pair_intro
  · run_from Cert.SguSampleIdeal.Gen.run_main m g
  · refine (θ_run _ _ _).mono (fun r h c => ?_) (Cert.SguSampleRefIdeal.Value.run m' g')
    obtain ⟨hm, hr, ha⟩ := h c
    obtain ⟨e0, e1, e2, e3, e4⟩ := hagree c
    refine ⟨hm.trans ?_, hr.trans ?_, ha⟩
    · rw [Cert.SguSampleRefIdeal.Read.val_main_v71_eq, e0, e1, e2, e3, e4]
      exact (Cert.SguSampleIdeal.Value.final_mixed m c).symm
    · rw [Cert.SguSampleRefIdeal.Read.val_main_v72_eq, e0, e1, e2]
      exact (Cert.SguSampleIdeal.Value.final_rows m c).symm

end Cert.Proof

end
-- ==== Proof.Final.Value.lean ====
/-
  The final layer norm of the prompt rows: the array the kernel leaves is the reference's array, element by element.
-/
module

public import proofs.«01_k».proof.Proof.Gen.FinalIdeal.Frame
public import proofs.«01_k».proof.Proof.Gen.FinalRefIdeal.Read
public import Idealize.ShloMosaic.Lib.Pipeline.ValueKit
public import Idealize.ShloMosaic.Lib.StableHlo.ReadAt

@[expose] public section

set_option maxRecDepth 16384

noncomputable section

namespace Cert.FinalIdeal.Value

open Cert.FinalIdeal Cert.FinalIdeal.Gen Idealize.ShloMosaic Idealize.ShloMosaic.TcCoe Idealize.SL.Sem
open Idealize.ShloMosaic.Pipeline (Dat)
open Cert.FinalRefIdeal.Read

variable (m : (ℓ : Loc nD τ sig) → Buf (Elt Ideal) ℓ)

/-- Which block of each array the grid point `t` works on. -/
theorem idx : ∀ t : Fin cfg0.N, win0_0.index t = ![t.val, 0] ∧ win0_1.index t = ![0, t.val]
    ∧ win0_2.index t = ![t.val / 8, 0, 5] ∧ win0_3.index t = ![0, 0] ∧ win0_4.index t = ![0, 0] ∧ win0_5.index t = ![t.val, 0] :=
  (by decide +kernel : ∀ t : Fin grid0.N, _)

/-- The kernel's gain row is the argument's gain vector. -/
theorem gain (c : Dev nD) (x : S1x2048.Idx) : V m c main_v0 x = (m ((c : Thread nD τ).loc main_arg3)) (ix1 (x 1)) := by
  unfold V
  after_reads_at

/-- The kernel's bias row is the argument's bias vector. -/
theorem bias (c : Dev nD) (x : S1x2048.Idx) : V m c main_v1 x = (m ((c : Thread nD τ).loc main_arg4)) (ix1 (x 1)) := by
  unfold V
  after_reads_at

/-- The reference's result of the kernel's argument arrays. -/
abbrev result (c : Dev nD) : FVec Ideal S8192x2048 .f32 :=
  val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The place of the result array that place `y` of the point's block is copied to. -/
theorem place (c : Dev nD) (t : Fin cfg0.N) (y : S256x2048.Idx) :
    ((cfg0.win 5).blk t).view.emb y = ix2 ⟨256 * t.val + (y 0).val, by have h := (y 0).isLt; have h2 := t.isLt; change (y 0).val < 256 at h; change t.val < 32 at h2; omega⟩ (y 1) := by
  funext a
  refine Fin.ext ?_
  match a with
  | ⟨0, _⟩ =>
    blk_simp [idx t]
    exact congrArg (· + (y 0).val) (Nat.mul_comm _ _)
  | ⟨1, _⟩ =>
    blk_simp [idx t]
    rfl

/-- The block of rows. -/
theorem x_block (c : Dev nD) (t : Fin cfg0.N) (y : S256x2048.Idx) :
    iblk m c 0 t y = (m ((c : Thread nD τ).loc main_arg0)) (((cfg0.win 5).blk t).view.emb y) := by
  blk_point [iblk, idx t, V_main_arg0]

/-- The block of expert output. -/
theorem f_block (c : Dev nD) (t : Fin cfg0.N) (y : S2048x256.Idx) :
    iblk m c 1 t y = (m ((c : Thread nD τ).loc main_arg1)) (ix2 (y 0) ⟨256 * t.val + (y 1).val, by have h := (y 1).isLt; have h2 := t.isLt; change (y 1).val < 256 at h; change t.val < 32 at h2; omega⟩) := by
  blk_point [iblk, idx t, V_main_arg1]

/-- The block of gates. -/
theorem m_block (c : Dev nD) (t : Fin cfg0.N) (y : S1x1x2048.Idx) :
    iblk m c 2 t y = (m ((c : Thread nD τ).loc main_arg2)) (ix3 ⟨t.val / 8, by have h2 := t.isLt; change t.val < 32 at h2; omega⟩ 0 ⟨10240 + (y 2).val, by have h := (y 2).isLt; change (y 2).val < 2048 at h; omega⟩) := by
  blk_point [iblk, idx t, V_main_arg2]

/-- The block of gains. -/
theorem g_block (c : Dev nD) (t : Fin cfg0.N) (y : S1x2048.Idx) : iblk m c 3 t y = (m ((c : Thread nD τ).loc main_arg3)) (ix1 (y 1)) := by
  have e : iblk m c 3 t y = V m c main_v0 y := by blk_point [iblk, idx t]
  exact e.trans (gain m c y)

/-- The block of biases. -/
theorem b_block (c : Dev nD) (t : Fin cfg0.N) (y : S1x2048.Idx) : iblk m c 4 t y = (m ((c : Thread nD τ).loc main_arg4)) (ix1 (y 1)) := by
  have e : iblk m c 4 t y = V m c main_v1 y := by blk_point [iblk, idx t]
  exact e.trans (bias m c y)

/-- What point `t` stores at place `y` of its block is the reference's element there: the normalised sum of the scaled row and
    the gated expert output. -/
theorem point (c : Dev nD) (t : Fin cfg0.N) (y : S256x2048.Idx) :
    k0_pay1 (F := Ideal) (iblk m c 1 t) (iblk m c 0 t) (iblk m c 2 t) (iblk m c 3 t) (iblk m c 4 t) y
      = result m c (((cfg0.win 5).blk t).view.emb y) := by
  rw [place c t y]
  pointwise [k0_pay1, result, val_main_v34, val_main_v33, val_main_v32, val_main_v31, val_main_v30, val_main_v29, val_main_v28, val_main_v27,
    val_main_v26, val_main_v25, val_main_v24, val_main_v23, val_main_cst_4, val_main_v22, val_main_v21, val_main_v20,
    val_main_v19, val_main_cst_3, val_main_v18, val_main_v17, val_main_cst_2, val_main_v16, val_main_v15, val_main_v14,
    val_main_v13, val_main_v12, val_main_cst_1, val_main_v11, val_main_v10, val_main_cst_0, val_main_v9, val_main_v8,
    val_main_v7, val_main_v6, val_main_v5, val_main_cst, val_main_v4, val_main_v3, val_main_v2, val_main_v1, val_main_v0]
  simp only [x_block, f_block, m_block, g_block, b_block, place c t]
  have q : (256 * t.val + (y 0).val) / 2048 = t.val / 8 := by
    have h := (y 0).isLt
    change (y 0).val < 256 at h
    omega
  simp only [Nat.div_add_mod']
  simp only [q]
  rfl

/-- After the run the result array is the reference's result of the argument arrays. -/
theorem final (c : Dev nD) : (dats m 0 c).arrAt 5 cfg0.N = result m c := by
  refine (dats m 0 c).arrAt_eq_of_covers 5 _ (by decide +kernel) fun t _ y => ?_
  blk_simp
  rw [after0_5]
  frame_out
  exact point m c t y

end Cert.FinalIdeal.Value

end
-- ==== Proof.Final.Algebraic.lean ====
/-
  The final layer norm of the prompt rows: the kernel and the plain reference leave the same arrays over the extended reals.
-/
module

public import proofs.«01_k».proof.Defs
public import proofs.«01_k».proof.Proof.Final.Value
public import proofs.«01_k».proof.Proof.Gen.Final
public import proofs.«01_k».proof.Proof.Gen.FinalIdeal
public import proofs.«01_k».proof.Proof.Gen.FinalRefIdeal
public import Idealize.ShloMosaic.Lib.Claim

@[expose] public section

set_option maxRecDepth 16384

noncomputable section

namespace Cert.Proof

open Idealize.ShloMosaic Idealize.SL.Sem

set_option maxHeartbeats 1600000 in
/-- From the same arguments the kernel's normalised rows are the reference's. -/
theorem final_algebraic : Cert.algebraic_FinalIdeal_FinalRefIdeal := by
  pair_intro
  · run_from Cert.FinalIdeal.Gen.run_main m g
  · refine (θ_run _ _ _).mono (fun r h c => ?_) (Cert.FinalRefIdeal.Value.run m' g')
    obtain ⟨hr, ha⟩ := h c
    obtain ⟨e0, e1, e2, e3, e4⟩ := hagree c
    refine ⟨hr.trans ?_, ha⟩
    rw [Cert.FinalRefIdeal.Read.val_main_v34_eq, e0, e1, e2, e3, e4]
    exact (Cert.FinalIdeal.Value.final m c).symm

end Cert.Proof

end
-- ==== Proof.FinalSample.Value.lean ====
/-
  The final layer norm of the sample rows: the array the kernel leaves is the reference's array, element by element.
-/
module

public import proofs.«01_k».proof.Proof.Gen.FinalSampleIdeal.Frame
public import proofs.«01_k».proof.Proof.Gen.FinalSampleRefIdeal.Read
public import Idealize.ShloMosaic.Lib.Pipeline.ValueKit
public import Idealize.ShloMosaic.Lib.StableHlo.ReadAt

@[expose] public section

set_option maxRecDepth 16384

noncomputable section

namespace Cert.FinalSampleIdeal.Value

open Cert.FinalSampleIdeal Cert.FinalSampleIdeal.Gen Idealize.ShloMosaic Idealize.ShloMosaic.TcCoe Idealize.SL.Sem
open Idealize.ShloMosaic.Pipeline (Dat)
open Cert.FinalSampleRefIdeal.Read

variable (m : (ℓ : Loc nD τ sig) → Buf (Elt Ideal) ℓ)

/-- Which block of each array the grid point `t` works on. -/
theorem idx : ∀ t : Fin cfg0.N, win0_0.index t = ![0, 0] ∧ win0_1.index t = ![0, 64]
    ∧ win0_2.index t = ![0, 5] ∧ win0_3.index t = ![0, 0] ∧ win0_4.index t = ![0, 0] ∧ win0_5.index t = ![0, 0] :=
  (by decide +kernel : ∀ t : Fin grid0.N, _)

/-- The kernel's gain row is the argument's gain vector. -/
theorem gain (c : Dev nD) (x : S1x2048.Idx) : V m c main_v0 x = (m ((c : Thread nD τ).loc main_arg3)) (ix1 (x 1)) := by
  unfold V
  after_reads_at

/-- The kernel's bias row is the argument's bias vector. -/
theorem bias (c : Dev nD) (x : S1x2048.Idx) : V m c main_v1 x = (m ((c : Thread nD τ).loc main_arg4)) (ix1 (x 1)) := by
  unfold V
  after_reads_at

/-- The reference's result of the kernel's argument arrays. -/
abbrev result (c : Dev nD) : FVec Ideal S128x2048 .f32 :=
  val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The place of the result array that place `y` of the point's block is copied to. -/
theorem place (c : Dev nD) (t : Fin cfg0.N) (y : S128x2048.Idx) :
    ((cfg0.win 5).blk t).view.emb y = y := by
  funext a
  refine Fin.ext ?_
  match a with
  | ⟨0, _⟩ => blk_simp [idx t]
  | ⟨1, _⟩ => blk_simp [idx t]

/-- The block of rows. -/
theorem x_block (c : Dev nD) (t : Fin cfg0.N) (y : S128x2048.Idx) :
    iblk m c 0 t y = (m ((c : Thread nD τ).loc main_arg0)) (((cfg0.win 5).blk t).view.emb y) := by
  blk_point [iblk, idx t, V_main_arg0]

/-- The block of expert output. -/
theorem f_block (c : Dev nD) (t : Fin cfg0.N) (y : S2048x128.Idx) :
    iblk m c 1 t y = (m ((c : Thread nD τ).loc main_arg1)) (ix2 (y 0) ⟨8192 + (y 1).val, by have h := (y 1).isLt; change (y 1).val < 128 at h; omega⟩) := by
  blk_point [iblk, idx t, V_main_arg1]

/-- The block of gates. -/
theorem m_block (c : Dev nD) (t : Fin cfg0.N) (y : S128x2048.Idx) :
    iblk m c 2 t y = (m ((c : Thread nD τ).loc main_arg2)) (ix2 (y 0) ⟨10240 + (y 1).val, by have h := (y 1).isLt; change (y 1).val < 2048 at h; omega⟩) := by
  blk_point [iblk, idx t, V_main_arg2]

/-- The block of gains. -/
theorem g_block (c : Dev nD) (t : Fin cfg0.N) (y : S1x2048.Idx) : iblk m c 3 t y = (m ((c : Thread nD τ).loc main_arg3)) (ix1 (y 1)) := by
  have e : iblk m c 3 t y = V m c main_v0 y := by blk_point [iblk, idx t]
  exact e.trans (gain m c y)

/-- The block of biases. -/
theorem b_block (c : Dev nD) (t : Fin cfg0.N) (y : S1x2048.Idx) : iblk m c 4 t y = (m ((c : Thread nD τ).loc main_arg4)) (ix1 (y 1)) := by
  have e : iblk m c 4 t y = V m c main_v1 y := by blk_point [iblk, idx t]
  exact e.trans (bias m c y)

/-- What point `t` stores at place `y` of its block is the reference's element there: the normalised sum of the scaled row and
    the gated expert output. -/
theorem point (c : Dev nD) (t : Fin cfg0.N) (y : S128x2048.Idx) :
    k0_pay1 (F := Ideal) (iblk m c 1 t) (iblk m c 0 t) (iblk m c 2 t) (iblk m c 3 t) (iblk m c 4 t) y
      = result m c (((cfg0.win 5).blk t).view.emb y) := by
  rw [place c t y]
  pointwise [k0_pay1, result, val_main_v30, val_main_v29, val_main_v28, val_main_v27, val_main_v26, val_main_v25, val_main_v24, val_main_v23,
    val_main_v22, val_main_v21, val_main_v20, val_main_cst_4, val_main_v19, val_main_v18, val_main_v17, val_main_v16,
    val_main_cst_3, val_main_v15, val_main_v14, val_main_cst_2, val_main_v13, val_main_v12, val_main_v11, val_main_v10,
    val_main_v9, val_main_cst_1, val_main_v8, val_main_v7, val_main_cst_0, val_main_v6, val_main_v5, val_main_v4, val_main_v3,
    val_main_cst, val_main_v2, val_main_v1, val_main_v0]
  simp only [x_block, f_block, m_block, g_block, b_block, place c t]
  rfl

/-- After the run the result array is the reference's result of the argument arrays. -/
theorem final (c : Dev nD) : (dats m 0 c).arrAt 5 cfg0.N = result m c := by
  refine (dats m 0 c).arrAt_eq_of_covers 5 _ (by decide +kernel) fun t _ y => ?_
  blk_simp
  rw [after0_5]
  frame_out
  exact point m c t y

end Cert.FinalSampleIdeal.Value

end
-- ==== Proof.FinalSample.Algebraic.lean ====
/-
  The final layer norm of the sample rows: the kernel and the plain reference leave the same arrays over the extended reals.
-/
module

public import proofs.«01_k».proof.Defs
public import proofs.«01_k».proof.Proof.FinalSample.Value
public import proofs.«01_k».proof.Proof.Gen.FinalSample
public import proofs.«01_k».proof.Proof.Gen.FinalSampleIdeal
public import proofs.«01_k».proof.Proof.Gen.FinalSampleRefIdeal
public import Idealize.ShloMosaic.Lib.Claim

@[expose] public section

set_option maxRecDepth 16384

noncomputable section

namespace Cert.Proof

open Idealize.ShloMosaic Idealize.SL.Sem

set_option maxHeartbeats 1600000 in
/-- From the same arguments the kernel's normalised rows are the reference's. -/
theorem finalSample_algebraic : Cert.algebraic_FinalSampleIdeal_FinalSampleRefIdeal := by
  pair_intro
  · run_from Cert.FinalSampleIdeal.Gen.run_main m g
  · refine (θ_run _ _ _).mono (fun r h c => ?_) (Cert.FinalSampleRefIdeal.Value.run m' g')
    obtain ⟨hr, ha⟩ := h c
    obtain ⟨e0, e1, e2, e3, e4⟩ := hagree c
    refine ⟨hr.trans ?_, ha⟩
    rw [Cert.FinalSampleRefIdeal.Read.val_main_v30_eq, e0, e1, e2, e3, e4]
    exact (Cert.FinalSampleIdeal.Value.final m c).symm

end Cert.Proof

end
-- ==== Proof.lean ====
/-
  The certificate: for every call taken, the frames of the kernel, of its idealization and of the plain reference, that the
  idealization keeps the kernel's operations, and that idealized kernel and reference leave the same arrays.
-/
module

public import proofs.«01_k».proof.Defs
public import proofs.«01_k».proof.Proof.Modulation.Algebraic
public import proofs.«01_k».proof.Proof.Gen.Modulation.Frame
public import proofs.«01_k».proof.Proof.Gen.ModulationIdeal.Frame
public import proofs.«01_k».proof.Proof.Gen.ModulationRefIdeal.Run
public import proofs.«01_k».proof.Proof.Gen.ModulationRefIdeal.Read
public import proofs.«01_k».proof.Proof.InProj.Algebraic
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.InProjSample.Algebraic
public import proofs.«01_k».proof.Proof.Gen.InProjSample.Frame
public import proofs.«01_k».proof.Proof.Gen.InProjSampleIdeal.Frame
public import proofs.«01_k».proof.Proof.Gen.InProjSampleRefIdeal.Run
public import proofs.«01_k».proof.Proof.Gen.InProjSampleRefIdeal.Read
public import proofs.«01_k».proof.Proof.Shift.Algebraic
public import proofs.«01_k».proof.Proof.Gen.Shift.Frame
public import proofs.«01_k».proof.Proof.Gen.ShiftIdeal.Frame
public import proofs.«01_k».proof.Proof.Gen.ShiftRefIdeal.Run
public import proofs.«01_k».proof.Proof.Gen.ShiftRefIdeal.Read
public import proofs.«01_k».proof.Proof.ShiftSample.Algebraic
public import proofs.«01_k».proof.Proof.Gen.ShiftSample.Frame
public import proofs.«01_k».proof.Proof.Gen.ShiftSampleIdeal.Frame
public import proofs.«01_k».proof.Proof.Gen.ShiftSampleRefIdeal.Run
public import proofs.«01_k».proof.Proof.Gen.ShiftSampleRefIdeal.Read
public import proofs.«01_k».proof.Proof.Merge.Algebraic
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.MergeSample.Algebraic
public import proofs.«01_k».proof.Proof.Gen.MergeSample.Frame
public import proofs.«01_k».proof.Proof.Gen.MergeSampleIdeal.Frame
public import proofs.«01_k».proof.Proof.Gen.MergeSampleRefIdeal.Run
public import proofs.«01_k».proof.Proof.Gen.MergeSampleRefIdeal.Read
public import proofs.«01_k».proof.Proof.OutLn.Algebraic
public import proofs.«01_k».proof.Proof.Gen.OutLn.Frame
public import proofs.«01_k».proof.Proof.Gen.OutLnIdeal.Frame
public import proofs.«01_k».proof.Proof.Gen.OutLnRefIdeal.Run
public import proofs.«01_k».proof.Proof.Gen.OutLnRefIdeal.Read
public import proofs.«01_k».proof.Proof.OutLnSample.Algebraic
public import proofs.«01_k».proof.Proof.Gen.OutLnSample.Frame
public import proofs.«01_k».proof.Proof.Gen.OutLnSampleIdeal.Frame
public import proofs.«01_k».proof.Proof.Gen.OutLnSampleRefIdeal.Run
public import proofs.«01_k».proof.Proof.Gen.OutLnSampleRefIdeal.Read
public import proofs.«01_k».proof.Proof.ScanSample.Algebraic
public import proofs.«01_k».proof.Proof.Gen.ScanSample.Frame
public import proofs.«01_k».proof.Proof.Gen.ScanSampleIdeal.Frame
public import proofs.«01_k».proof.Proof.Gen.ScanSampleRefIdeal.Run
public import proofs.«01_k».proof.Proof.Gen.ScanSampleRefIdeal.Read
public import proofs.«01_k».proof.Proof.SguSample.Algebraic
public import proofs.«01_k».proof.Proof.Gen.SguSample.Frame
public import proofs.«01_k».proof.Proof.Gen.SguSampleIdeal.Frame
public import proofs.«01_k».proof.Proof.Gen.SguSampleRefIdeal.Run
public import proofs.«01_k».proof.Proof.Gen.SguSampleRefIdeal.Read
public import proofs.«01_k».proof.Proof.Final.Algebraic
public import proofs.«01_k».proof.Proof.Gen.Final.Frame
public import proofs.«01_k».proof.Proof.Gen.FinalIdeal.Frame
public import proofs.«01_k».proof.Proof.Gen.FinalRefIdeal.Run
public import proofs.«01_k».proof.Proof.Gen.FinalRefIdeal.Read
public import proofs.«01_k».proof.Proof.FinalSample.Algebraic
public import proofs.«01_k».proof.Proof.Gen.FinalSample.Frame
public import proofs.«01_k».proof.Proof.Gen.FinalSampleIdeal.Frame
public import proofs.«01_k».proof.Proof.Gen.FinalSampleRefIdeal.Run
public import proofs.«01_k».proof.Proof.Gen.FinalSampleRefIdeal.Read
public import Idealize.ShloMosaic.Adequacy
public import Idealize.ShloMosaic.Init

@[expose] public section

noncomputable section

namespace Cert.Proof

open Idealize.ShloMosaic Idealize.SL.Sem

/-- Every claim stated in the statement. -/
theorem claim : Cert.Claim :=
  ⟨Cert.Modulation.Gen.facts, Cert.ModulationIdeal.Gen.facts, Cert.ModulationRefIdeal.Gen.facts,
    Cert.InProj.Gen.facts, Cert.InProjIdeal.Gen.facts, Cert.InProjRefIdeal.Gen.facts,
    Cert.InProjSample.Gen.facts, Cert.InProjSampleIdeal.Gen.facts, Cert.InProjSampleRefIdeal.Gen.facts,
    Cert.Shift.Gen.facts, Cert.ShiftIdeal.Gen.facts, Cert.ShiftRefIdeal.Gen.facts,
    Cert.ShiftSample.Gen.facts, Cert.ShiftSampleIdeal.Gen.facts, Cert.ShiftSampleRefIdeal.Gen.facts,
    Cert.Merge.Gen.facts, Cert.MergeIdeal.Gen.facts, Cert.MergeRefIdeal.Gen.facts,
    Cert.MergeSample.Gen.facts, Cert.MergeSampleIdeal.Gen.facts, Cert.MergeSampleRefIdeal.Gen.facts,
    Cert.OutLn.Gen.facts, Cert.OutLnIdeal.Gen.facts, Cert.OutLnRefIdeal.Gen.facts,
    Cert.OutLnSample.Gen.facts, Cert.OutLnSampleIdeal.Gen.facts, Cert.OutLnSampleRefIdeal.Gen.facts,
    Cert.ScanSample.Gen.facts, Cert.ScanSampleIdeal.Gen.facts, Cert.ScanSampleRefIdeal.Gen.facts,
    Cert.SguSample.Gen.facts, Cert.SguSampleIdeal.Gen.facts, Cert.SguSampleRefIdeal.Gen.facts,
    Cert.Final.Gen.facts, Cert.FinalIdeal.Gen.facts, Cert.FinalRefIdeal.Gen.facts,
    Cert.FinalSample.Gen.facts, Cert.FinalSampleIdeal.Gen.facts, Cert.FinalSampleRefIdeal.Gen.facts,
    fun m g _ => Cert.Modulation.Gen.frame m g,
    fun m g _ => Cert.ModulationIdeal.Gen.frame m g,
    fun m g _ => (θ_run Cert.ModulationRefIdeal.defs _ _).mono (fun r h => ⟨fun c => (h c).2.2, sem_eq_zero_of_no_sems (by decide) r.2⟩)
      (Cert.ModulationRefIdeal.Value.run (F := Ideal) m g),
    fun m g _ => Cert.InProj.Gen.frame m g,
    fun m g _ => Cert.InProjIdeal.Gen.frame m g,
    fun m g _ => (θ_run Cert.InProjRefIdeal.defs _ _).mono (fun r h => ⟨fun c => (h c).2, sem_eq_zero_of_no_sems (by decide) r.2⟩)
      (Cert.InProjRefIdeal.Value.run (F := Ideal) m g),
    fun m g _ => Cert.InProjSample.Gen.frame m g,
    fun m g _ => Cert.InProjSampleIdeal.Gen.frame m g,
    fun m g _ => (θ_run Cert.InProjSampleRefIdeal.defs _ _).mono (fun r h => ⟨fun c => (h c).2, sem_eq_zero_of_no_sems (by decide) r.2⟩)
      (Cert.InProjSampleRefIdeal.Value.run (F := Ideal) m g),
    fun m g _ => Cert.Shift.Gen.frame m g,
    fun m g _ => Cert.ShiftIdeal.Gen.frame m g,
    fun m g _ => (θ_run Cert.ShiftRefIdeal.defs _ _).mono (fun r h => ⟨fun c => (h c).2, sem_eq_zero_of_no_sems (by decide) r.2⟩)
      (Cert.ShiftRefIdeal.Value.run (F := Ideal) m g),
    fun m g _ => Cert.ShiftSample.Gen.frame m g,
    fun m g _ => Cert.ShiftSampleIdeal.Gen.frame m g,
    fun m g _ => (θ_run Cert.ShiftSampleRefIdeal.defs _ _).mono (fun r h => ⟨fun c => (h c).2, sem_eq_zero_of_no_sems (by decide) r.2⟩)
      (Cert.ShiftSampleRefIdeal.Value.run (F := Ideal) m g),
    fun m g _ => Cert.Merge.Gen.frame m g,
    fun m g _ => Cert.MergeIdeal.Gen.frame m g,
    fun m g _ => (θ_run Cert.MergeRefIdeal.defs _ _).mono (fun r h => ⟨fun c => (h c).2, sem_eq_zero_of_no_sems (by decide) r.2⟩)
      (Cert.MergeRefIdeal.Value.run (F := Ideal) m g),
    fun m g _ => Cert.MergeSample.Gen.frame m g,
    fun m g _ => Cert.MergeSampleIdeal.Gen.frame m g,
    fun m g _ => (θ_run Cert.MergeSampleRefIdeal.defs _ _).mono (fun r h => ⟨fun c => (h c).2, sem_eq_zero_of_no_sems (by decide) r.2⟩)
      (Cert.MergeSampleRefIdeal.Value.run (F := Ideal) m g),
    fun m g _ => Cert.OutLn.Gen.frame m g,
    fun m g _ => Cert.OutLnIdeal.Gen.frame m g,
    fun m g _ => (θ_run Cert.OutLnRefIdeal.defs _ _).mono (fun r h => ⟨fun c => (h c).2.2.2, sem_eq_zero_of_no_sems (by decide) r.2⟩)
      (Cert.OutLnRefIdeal.Value.run (F := Ideal) m g),
    fun m g _ => Cert.OutLnSample.Gen.frame m g,
    fun m g _ => Cert.OutLnSampleIdeal.Gen.frame m g,
    fun m g _ => (θ_run Cert.OutLnSampleRefIdeal.defs _ _).mono (fun r h => ⟨fun c => (h c).2.2.2, sem_eq_zero_of_no_sems (by decide) r.2⟩)
      (Cert.OutLnSampleRefIdeal.Value.run (F := Ideal) m g),
    fun m g _ => Cert.ScanSample.Gen.frame m g,
    fun m g _ => Cert.ScanSampleIdeal.Gen.frame m g,
    fun m g _ => (θ_run Cert.ScanSampleRefIdeal.defs _ _).mono (fun r h => ⟨fun c => (h c).2.2, sem_eq_zero_of_no_sems (by decide) r.2⟩)
      (Cert.ScanSampleRefIdeal.Value.run (F := Ideal) m g),
    fun m g _ => Cert.SguSample.Gen.frame m g,
    fun m g _ => Cert.SguSampleIdeal.Gen.frame m g,
    fun m g _ => (θ_run Cert.SguSampleRefIdeal.defs _ _).mono (fun r h => ⟨fun c => (h c).2.2, sem_eq_zero_of_no_sems (by decide) r.2⟩)
      (Cert.SguSampleRefIdeal.Value.run (F := Ideal) m g),
    fun m g _ => Cert.Final.Gen.frame m g,
    fun m g _ => Cert.FinalIdeal.Gen.frame m g,
    fun m g _ => (θ_run Cert.FinalRefIdeal.defs _ _).mono (fun r h => ⟨fun c => (h c).2, sem_eq_zero_of_no_sems (by decide) r.2⟩)
      (Cert.FinalRefIdeal.Value.run (F := Ideal) m g),
    fun m g _ => Cert.FinalSample.Gen.frame m g,
    fun m g _ => Cert.FinalSampleIdeal.Gen.frame m g,
    fun m g _ => (θ_run Cert.FinalSampleRefIdeal.defs _ _).mono (fun r h => ⟨fun c => (h c).2, sem_eq_zero_of_no_sems (by decide) r.2⟩)
      (Cert.FinalSampleRefIdeal.Value.run (F := Ideal) m g),
    trivial,
    modulation_algebraic,
    trivial,
    inProj_algebraic,
    trivial,
    inProjSample_algebraic,
    trivial,
    shift_algebraic,
    trivial,
    shiftSample_algebraic,
    trivial,
    merge_algebraic,
    trivial,
    mergeSample_algebraic,
    trivial,
    outLn_algebraic,
    trivial,
    outLnSample_algebraic,
    trivial,
    scanSample_algebraic,
    trivial,
    sguSample_algebraic,
    trivial,
    final_algebraic,
    trivial,
    finalSample_algebraic⟩

end Cert.Proof

end
